-- ==== Defs.lean ====
def Pre_Sketch (m : (ℓ : Loc Cert.Sketch.nD Cert.Sketch.τ Cert.Sketch.sig) → Buf (Elt Bits) ℓ) : Prop :=
  True

def Pre_SketchIdeal (m : (ℓ : Loc Cert.SketchIdeal.nD Cert.SketchIdeal.τ Cert.SketchIdeal.sig) → Buf (Elt Ideal) ℓ) : Prop :=
  True

def Pre_SketchRefIdeal (m : (ℓ : Loc Cert.SketchRefIdeal.nD Cert.SketchRefIdeal.τ Cert.SketchRefIdeal.sig) → Buf (Elt Ideal) ℓ) : Prop :=
  True

def Pre_Power (m : (ℓ : Loc Cert.Power.nD Cert.Power.τ Cert.Power.sig) → Buf (Elt Bits) ℓ) : Prop :=
  True

def Pre_PowerIdeal (m : (ℓ : Loc Cert.PowerIdeal.nD Cert.PowerIdeal.τ Cert.PowerIdeal.sig) → Buf (Elt Ideal) ℓ) : Prop :=
  True

def Pre_PowerRefIdeal (m : (ℓ : Loc Cert.PowerRefIdeal.nD Cert.PowerRefIdeal.τ Cert.PowerRefIdeal.sig) → Buf (Elt Ideal) ℓ) : Prop :=
  True

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectRefIdeal (m : (ℓ : Loc Cert.ProjectRefIdeal.nD Cert.ProjectRefIdeal.τ Cert.ProjectRefIdeal.sig) → Buf (Elt Ideal) ℓ) : Prop :=
  True

def Pre_Factor (m : (ℓ : Loc Cert.Factor.nD Cert.Factor.τ Cert.Factor.sig) → Buf (Elt Bits) ℓ) : Prop :=
  True

def Pre_FactorIdeal (m : (ℓ : Loc Cert.FactorIdeal.nD Cert.FactorIdeal.τ Cert.FactorIdeal.sig) → Buf (Elt Ideal) ℓ) : Prop :=
  True

def Pre_FactorIdeal_factor_pre [hPre_factor_pre : Cert.Pre_factor_pre.Facts] (m : (ℓ : Loc Cert.FactorIdeal.nD Cert.FactorIdeal.τ Cert.FactorIdeal.sig) → Buf (Elt Ideal) ℓ) : Prop :=
  ∀ c : Dev Cert.FactorIdeal.nD,
    (Cert.Pre_factor_pre.fn (F := Ideal) (m ((c.tc : Thread Cert.FactorIdeal.nD Cert.FactorIdeal.τ).loc Cert.FactorIdeal.main_arg0)) (m ((c.tc : Thread Cert.FactorIdeal.nD Cert.FactorIdeal.τ).loc Cert.FactorIdeal.main_arg1))) = (fun _ => 1#1)

def quiescent_Sketch [hSketch : Cert.Sketch.Facts] : Prop :=
  ∀ (m : (ℓ : Loc Cert.Sketch.nD Cert.Sketch.τ Cert.Sketch.sig) → Buf (Elt Bits) ℓ) (g : Dev Cert.Sketch.nD → PrngReg), Pre_Sketch m →
    θ_run (Cert.Sketch.defs (F := Bits)) (onTc (τ := Cert.Sketch.τ) (Cert.Sketch.main (F := Bits))) ⟨m, fun _ => 0, g⟩ (fun r => (∀ c : Dev Cert.Sketch.nD,
      r.2.mem ((c.tc : Thread Cert.Sketch.nD Cert.Sketch.τ).loc Cert.Sketch.main_arg0) = m ((c.tc : Thread Cert.Sketch.nD Cert.Sketch.τ).loc Cert.Sketch.main_arg0)
      ∧ r.2.mem ((c.tc : Thread Cert.Sketch.nD Cert.Sketch.τ).loc Cert.Sketch.main_arg1) = m ((c.tc : Thread Cert.Sketch.nD Cert.Sketch.τ).loc Cert.Sketch.main_arg1)
      ∧ r.2.mem ((c.tc : Thread Cert.Sketch.nD Cert.Sketch.τ).loc Cert.Sketch.main_arg2) = m ((c.tc : Thread Cert.Sketch.nD Cert.Sketch.τ).loc Cert.Sketch.main_arg2))
      ∧ r.2.sem = fun _ => 0)

def quiescent_SketchIdeal [hSketchIdeal : Cert.SketchIdeal.Facts] : Prop :=
  ∀ (m : (ℓ : Loc Cert.SketchIdeal.nD Cert.SketchIdeal.τ Cert.SketchIdeal.sig) → Buf (Elt Ideal) ℓ) (g : Dev Cert.SketchIdeal.nD → PrngReg), Pre_SketchIdeal m →
    θ_run (Cert.SketchIdeal.defs (F := Ideal)) (onTc (τ := Cert.SketchIdeal.τ) (Cert.SketchIdeal.main (F := Ideal))) ⟨m, fun _ => 0, g⟩ (fun r => (∀ c : Dev Cert.SketchIdeal.nD,
      r.2.mem ((c.tc : Thread Cert.SketchIdeal.nD Cert.SketchIdeal.τ).loc Cert.SketchIdeal.main_arg0) = m ((c.tc : Thread Cert.SketchIdeal.nD Cert.SketchIdeal.τ).loc Cert.SketchIdeal.main_arg0)
      ∧ r.2.mem ((c.tc : Thread Cert.SketchIdeal.nD Cert.SketchIdeal.τ).loc Cert.SketchIdeal.main_arg1) = m ((c.tc : Thread Cert.SketchIdeal.nD Cert.SketchIdeal.τ).loc Cert.SketchIdeal.main_arg1)
      ∧ r.2.mem ((c.tc : Thread Cert.SketchIdeal.nD Cert.SketchIdeal.τ).loc Cert.SketchIdeal.main_arg2) = m ((c.tc : Thread Cert.SketchIdeal.nD Cert.SketchIdeal.τ).loc Cert.SketchIdeal.main_arg2))
      ∧ r.2.sem = fun _ => 0)

def quiescent_SketchRefIdeal [hSketchRefIdeal : Cert.SketchRefIdeal.Facts] : Prop :=
  ∀ (m : (ℓ : Loc Cert.SketchRefIdeal.nD Cert.SketchRefIdeal.τ Cert.SketchRefIdeal.sig) → Buf (Elt Ideal) ℓ) (g : Dev Cert.SketchRefIdeal.nD → PrngReg), Pre_SketchRefIdeal m →
    θ_run (Cert.SketchRefIdeal.defs (F := Ideal)) (onTc (τ := Cert.SketchRefIdeal.τ) (Cert.SketchRefIdeal.main (F := Ideal))) ⟨m, fun _ => 0, g⟩ (fun r => (∀ c : Dev Cert.SketchRefIdeal.nD,
      r.2.mem ((c.tc : Thread Cert.SketchRefIdeal.nD Cert.SketchRefIdeal.τ).loc Cert.SketchRefIdeal.main_arg0) = m ((c.tc : Thread Cert.SketchRefIdeal.nD Cert.SketchRefIdeal.τ).loc Cert.SketchRefIdeal.main_arg0)
      ∧ r.2.mem ((c.tc : Thread Cert.SketchRefIdeal.nD Cert.SketchRefIdeal.τ).loc Cert.SketchRefIdeal.main_arg1) = m ((c.tc : Thread Cert.SketchRefIdeal.nD Cert.SketchRefIdeal.τ).loc Cert.SketchRefIdeal.main_arg1)
      ∧ r.2.mem ((c.tc : Thread Cert.SketchRefIdeal.nD Cert.SketchRefIdeal.τ).loc Cert.SketchRefIdeal.main_arg2) = m ((c.tc : Thread Cert.SketchRefIdeal.nD Cert.SketchRefIdeal.τ).loc Cert.SketchRefIdeal.main_arg2))
      ∧ r.2.sem = fun _ => 0)

def quiescent_Power [hPower : Cert.Power.Facts] : Prop :=
  ∀ (m : (ℓ : Loc Cert.Power.nD Cert.Power.τ Cert.Power.sig) → Buf (Elt Bits) ℓ) (g : Dev Cert.Power.nD → PrngReg), Pre_Power m →
    θ_run (Cert.Power.defs (F := Bits)) (onTc (τ := Cert.Power.τ) (Cert.Power.main (F := Bits))) ⟨m, fun _ => 0, g⟩ (fun r => (∀ c : Dev Cert.Power.nD,
      r.2.mem ((c.tc : Thread Cert.Power.nD Cert.Power.τ).loc Cert.Power.main_arg0) = m ((c.tc : Thread Cert.Power.nD Cert.Power.τ).loc Cert.Power.main_arg0)
      ∧ r.2.mem ((c.tc : Thread Cert.Power.nD Cert.Power.τ).loc Cert.Power.main_arg1) = m ((c.tc : Thread Cert.Power.nD Cert.Power.τ).loc Cert.Power.main_arg1)
      ∧ r.2.mem ((c.tc : Thread Cert.Power.nD Cert.Power.τ).loc Cert.Power.main_arg2) = m ((c.tc : Thread Cert.Power.nD Cert.Power.τ).loc Cert.Power.main_arg2)
      ∧ r.2.mem ((c.tc : Thread Cert.Power.nD Cert.Power.τ).loc Cert.Power.main_arg3) = m ((c.tc : Thread Cert.Power.nD Cert.Power.τ).loc Cert.Power.main_arg3))
      ∧ r.2.sem = fun _ => 0)

def quiescent_PowerIdeal [hPowerIdeal : Cert.PowerIdeal.Facts] : Prop :=
  ∀ (m : (ℓ : Loc Cert.PowerIdeal.nD Cert.PowerIdeal.τ Cert.PowerIdeal.sig) → Buf (Elt Ideal) ℓ) (g : Dev Cert.PowerIdeal.nD → PrngReg), Pre_PowerIdeal m →
    θ_run (Cert.PowerIdeal.defs (F := Ideal)) (onTc (τ := Cert.PowerIdeal.τ) (Cert.PowerIdeal.main (F := Ideal))) ⟨m, fun _ => 0, g⟩ (fun r => (∀ c : Dev Cert.PowerIdeal.nD,
      r.2.mem ((c.tc : Thread Cert.PowerIdeal.nD Cert.PowerIdeal.τ).loc Cert.PowerIdeal.main_arg0) = m ((c.tc : Thread Cert.PowerIdeal.nD Cert.PowerIdeal.τ).loc Cert.PowerIdeal.main_arg0)
      ∧ r.2.mem ((c.tc : Thread Cert.PowerIdeal.nD Cert.PowerIdeal.τ).loc Cert.PowerIdeal.main_arg1) = m ((c.tc : Thread Cert.PowerIdeal.nD Cert.PowerIdeal.τ).loc Cert.PowerIdeal.main_arg1)
      ∧ r.2.mem ((c.tc : Thread Cert.PowerIdeal.nD Cert.PowerIdeal.τ).loc Cert.PowerIdeal.main_arg2) = m ((c.tc : Thread Cert.PowerIdeal.nD Cert.PowerIdeal.τ).loc Cert.PowerIdeal.main_arg2)
      ∧ r.2.mem ((c.tc : Thread Cert.PowerIdeal.nD Cert.PowerIdeal.τ).loc Cert.PowerIdeal.main_arg3) = m ((c.tc : Thread Cert.PowerIdeal.nD Cert.PowerIdeal.τ).loc Cert.PowerIdeal.main_arg3))
      ∧ r.2.sem = fun _ => 0)

def quiescent_PowerRefIdeal [hPowerRefIdeal : Cert.PowerRefIdeal.Facts] : Prop :=
  ∀ (m : (ℓ : Loc Cert.PowerRefIdeal.nD Cert.PowerRefIdeal.τ Cert.PowerRefIdeal.sig) → Buf (Elt Ideal) ℓ) (g : Dev Cert.PowerRefIdeal.nD → PrngReg), Pre_PowerRefIdeal m →
    θ_run (Cert.PowerRefIdeal.defs (F := Ideal)) (onTc (τ := Cert.PowerRefIdeal.τ) (Cert.PowerRefIdeal.main (F := Ideal))) ⟨m, fun _ => 0, g⟩ (fun r => (∀ c : Dev Cert.PowerRefIdeal.nD,
      r.2.mem ((c.tc : Thread Cert.PowerRefIdeal.nD Cert.PowerRefIdeal.τ).loc Cert.PowerRefIdeal.main_arg0) = m ((c.tc : Thread Cert.PowerRefIdeal.nD Cert.PowerRefIdeal.τ).loc Cert.PowerRefIdeal.main_arg0)
      ∧ r.2.mem ((c.tc : Thread Cert.PowerRefIdeal.nD Cert.PowerRefIdeal.τ).loc Cert.PowerRefIdeal.main_arg1) = m ((c.tc : Thread Cert.PowerRefIdeal.nD Cert.PowerRefIdeal.τ).loc Cert.PowerRefIdeal.main_arg1)
      ∧ r.2.mem ((c.tc : Thread Cert.PowerRefIdeal.nD Cert.PowerRefIdeal.τ).loc Cert.PowerRefIdeal.main_arg2) = m ((c.tc : Thread Cert.PowerRefIdeal.nD Cert.PowerRefIdeal.τ).loc Cert.PowerRefIdeal.main_arg2)
      ∧ r.2.mem ((c.tc : Thread Cert.PowerRefIdeal.nD Cert.PowerRefIdeal.τ).loc Cert.PowerRefIdeal.main_arg3) = m ((c.tc : Thread Cert.PowerRefIdeal.nD Cert.PowerRefIdeal.τ).loc Cert.PowerRefIdeal.main_arg3))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2)
      ∧ r.2.mem ((c.tc : Thread Cert.Project.nD Cert.Project.τ).loc Cert.Project.main_arg3) = m ((c.tc : Thread Cert.Project.nD Cert.Project.τ).loc Cert.Project.main_arg3))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
      ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3))
      ∧ r.2.sem = fun _ => 0)

def quiescent_ProjectRefIdeal [hProjectRefIdeal : Cert.ProjectRefIdeal.Facts] : Prop :=
  ∀ (m : (ℓ : Loc Cert.ProjectRefIdeal.nD Cert.ProjectRefIdeal.τ Cert.ProjectRefIdeal.sig) → Buf (Elt Ideal) ℓ) (g : Dev Cert.ProjectRefIdeal.nD → PrngReg), Pre_ProjectRefIdeal m →
    θ_run (Cert.ProjectRefIdeal.defs (F := Ideal)) (onTc (τ := Cert.ProjectRefIdeal.τ) (Cert.ProjectRefIdeal.main (F := Ideal))) ⟨m, fun _ => 0, g⟩ (fun r => (∀ c : Dev Cert.ProjectRefIdeal.nD,
      r.2.mem ((c.tc : Thread Cert.ProjectRefIdeal.nD Cert.ProjectRefIdeal.τ).loc Cert.ProjectRefIdeal.main_arg0) = m ((c.tc : Thread Cert.ProjectRefIdeal.nD Cert.ProjectRefIdeal.τ).loc Cert.ProjectRefIdeal.main_arg0)
      ∧ r.2.mem ((c.tc : Thread Cert.ProjectRefIdeal.nD Cert.ProjectRefIdeal.τ).loc Cert.ProjectRefIdeal.main_arg1) = m ((c.tc : Thread Cert.ProjectRefIdeal.nD Cert.ProjectRefIdeal.τ).loc Cert.ProjectRefIdeal.main_arg1)
      ∧ r.2.mem ((c.tc : Thread Cert.ProjectRefIdeal.nD Cert.ProjectRefIdeal.τ).loc Cert.ProjectRefIdeal.main_arg2) = m ((c.tc : Thread Cert.ProjectRefIdeal.nD Cert.ProjectRefIdeal.τ).loc Cert.ProjectRefIdeal.main_arg2)
      ∧ r.2.mem ((c.tc : Thread Cert.ProjectRefIdeal.nD Cert.ProjectRefIdeal.τ).loc Cert.ProjectRefIdeal.main_arg3) = m ((c.tc : Thread Cert.ProjectRefIdeal.nD Cert.ProjectRefIdeal.τ).loc Cert.ProjectRefIdeal.main_arg3))
      ∧ r.2.sem = fun _ => 0)

def quiescent_Factor [hFactor : Cert.Factor.Facts] : Prop :=
  ∀ (m : (ℓ : Loc Cert.Factor.nD Cert.Factor.τ Cert.Factor.sig) → Buf (Elt Bits) ℓ) (g : Dev Cert.Factor.nD → PrngReg), Pre_Factor m →
    θ_run (Cert.Factor.defs (F := Bits)) (onTc (τ := Cert.Factor.τ) (Cert.Factor.main (F := Bits))) ⟨m, fun _ => 0, g⟩ (fun r => (∀ c : Dev Cert.Factor.nD,
      r.2.mem ((c.tc : Thread Cert.Factor.nD Cert.Factor.τ).loc Cert.Factor.main_arg0) = m ((c.tc : Thread Cert.Factor.nD Cert.Factor.τ).loc Cert.Factor.main_arg0)
      ∧ r.2.mem ((c.tc : Thread Cert.Factor.nD Cert.Factor.τ).loc Cert.Factor.main_arg1) = m ((c.tc : Thread Cert.Factor.nD Cert.Factor.τ).loc Cert.Factor.main_arg1))
      ∧ r.2.sem = fun _ => 0)

def quiescent_FactorIdeal [hFactorIdeal : Cert.FactorIdeal.Facts] : Prop :=
  ∀ (m : (ℓ : Loc Cert.FactorIdeal.nD Cert.FactorIdeal.τ Cert.FactorIdeal.sig) → Buf (Elt Ideal) ℓ) (g : Dev Cert.FactorIdeal.nD → PrngReg), Pre_FactorIdeal m →
    θ_run (Cert.FactorIdeal.defs (F := Ideal)) (onTc (τ := Cert.FactorIdeal.τ) (Cert.FactorIdeal.main (F := Ideal))) ⟨m, fun _ => 0, g⟩ (fun r => (∀ c : Dev Cert.FactorIdeal.nD,
      r.2.mem ((c.tc : Thread Cert.FactorIdeal.nD Cert.FactorIdeal.τ).loc Cert.FactorIdeal.main_arg0) = m ((c.tc : Thread Cert.FactorIdeal.nD Cert.FactorIdeal.τ).loc Cert.FactorIdeal.main_arg0)
      ∧ r.2.mem ((c.tc : Thread Cert.FactorIdeal.nD Cert.FactorIdeal.τ).loc Cert.FactorIdeal.main_arg1) = m ((c.tc : Thread Cert.FactorIdeal.nD Cert.FactorIdeal.τ).loc Cert.FactorIdeal.main_arg1))
      ∧ r.2.sem = fun _ => 0)

def quiescent_FactorIdeal_pre_factor_pre [hFactorIdeal : Cert.FactorIdeal.Facts] [hPre_factor_pre : Cert.Pre_factor_pre.Facts] : Prop :=
  ∀ (m : (ℓ : Loc Cert.FactorIdeal.nD Cert.FactorIdeal.τ Cert.FactorIdeal.sig) → Buf (Elt Ideal) ℓ) (g : Dev Cert.FactorIdeal.nD → PrngReg), Pre_FactorIdeal_factor_pre m →
    θ_run (Cert.FactorIdeal.defs (F := Ideal)) (onTc (τ := Cert.FactorIdeal.τ) (Cert.FactorIdeal.main (F := Ideal))) ⟨m, fun _ => 0, g⟩ (fun r => (∀ c : Dev Cert.FactorIdeal.nD,
      r.2.mem ((c.tc : Thread Cert.FactorIdeal.nD Cert.FactorIdeal.τ).loc Cert.FactorIdeal.main_arg0) = m ((c.tc : Thread Cert.FactorIdeal.nD Cert.FactorIdeal.τ).loc Cert.FactorIdeal.main_arg0)
      ∧ r.2.mem ((c.tc : Thread Cert.FactorIdeal.nD Cert.FactorIdeal.τ).loc Cert.FactorIdeal.main_arg1) = m ((c.tc : Thread Cert.FactorIdeal.nD Cert.FactorIdeal.τ).loc Cert.FactorIdeal.main_arg1))
      ∧ r.2.sem = fun _ => 0)

def preserves_Sketch_SketchIdeal : Prop :=
  True

def algebraic_SketchIdeal_SketchRefIdeal [hSketchIdeal : Cert.SketchIdeal.Facts] [hSketchRefIdeal : Cert.SketchRefIdeal.Facts] : Prop :=
  ∀ (m : (ℓ : Loc Cert.SketchIdeal.nD Cert.SketchIdeal.τ Cert.SketchIdeal.sig) → Buf (Elt Ideal) ℓ) (g : Dev Cert.SketchIdeal.nD → PrngReg)
    (m' : (ℓ : Loc Cert.SketchRefIdeal.nD Cert.SketchRefIdeal.τ Cert.SketchRefIdeal.sig) → Buf (Elt Ideal) ℓ) (g' : Dev Cert.SketchRefIdeal.nD → PrngReg), Pre_SketchIdeal m →
    (∀ c : Dev Cert.SketchIdeal.nD,
      m' ((c.tc : Thread Cert.SketchRefIdeal.nD Cert.SketchRefIdeal.τ).loc Cert.SketchRefIdeal.main_arg0) = m ((c.tc : Thread Cert.SketchIdeal.nD Cert.SketchIdeal.τ).loc Cert.SketchIdeal.main_arg0)
      ∧ m' ((c.tc : Thread Cert.SketchRefIdeal.nD Cert.SketchRefIdeal.τ).loc Cert.SketchRefIdeal.main_arg1) = m ((c.tc : Thread Cert.SketchIdeal.nD Cert.SketchIdeal.τ).loc Cert.SketchIdeal.main_arg1)
      ∧ m' ((c.tc : Thread Cert.SketchRefIdeal.nD Cert.SketchRefIdeal.τ).loc Cert.SketchRefIdeal.main_arg2) = m ((c.tc : Thread Cert.SketchIdeal.nD Cert.SketchIdeal.τ).loc Cert.SketchIdeal.main_arg2)) →
    ∃ (v0 : (c : Dev Cert.SketchIdeal.nD) → Buf (Elt Ideal) ((c.tc : Thread Cert.SketchIdeal.nD Cert.SketchIdeal.τ).loc Cert.SketchIdeal.main_v2_0)) (v1 : (c : Dev Cert.SketchIdeal.nD) → Buf (Elt Ideal) ((c.tc : Thread Cert.SketchIdeal.nD Cert.SketchIdeal.τ).loc Cert.SketchIdeal.main_v2_1)),
      θ_run (Cert.SketchIdeal.defs (F := Ideal)) (onTc (τ := Cert.SketchIdeal.τ) (Cert.SketchIdeal.main (F := Ideal))) ⟨m, fun _ => 0, g⟩ (fun r => ∀ c : Dev Cert.SketchIdeal.nD,
          r.2.mem ((c.tc : Thread Cert.SketchIdeal.nD Cert.SketchIdeal.τ).loc Cert.SketchIdeal.main_v2_0) = v0 c
          ∧ r.2.mem ((c.tc : Thread Cert.SketchIdeal.nD Cert.SketchIdeal.τ).loc Cert.SketchIdeal.main_v2_1) = v1 c
          ∧ r.2.mem ((c.tc : Thread Cert.SketchIdeal.nD Cert.SketchIdeal.τ).loc Cert.SketchIdeal.main_arg0) = m ((c.tc : Thread Cert.SketchIdeal.nD Cert.SketchIdeal.τ).loc Cert.SketchIdeal.main_arg0)
          ∧ r.2.mem ((c.tc : Thread Cert.SketchIdeal.nD Cert.SketchIdeal.τ).loc Cert.SketchIdeal.main_arg1) = m ((c.tc : Thread Cert.SketchIdeal.nD Cert.SketchIdeal.τ).loc Cert.SketchIdeal.main_arg1)
          ∧ r.2.mem ((c.tc : Thread Cert.SketchIdeal.nD Cert.SketchIdeal.τ).loc Cert.SketchIdeal.main_arg2) = m ((c.tc : Thread Cert.SketchIdeal.nD Cert.SketchIdeal.τ).loc Cert.SketchIdeal.main_arg2))
      ∧ θ_run (Cert.SketchRefIdeal.defs (F := Ideal)) (onTc (τ := Cert.SketchRefIdeal.τ) (Cert.SketchRefIdeal.main (F := Ideal))) ⟨m', fun _ => 0, g'⟩ (fun r => ∀ c : Dev Cert.SketchRefIdeal.nD,
          r.2.mem ((c.tc : Thread Cert.SketchRefIdeal.nD Cert.SketchRefIdeal.τ).loc Cert.SketchRefIdeal.main_v7) = v0 c
          ∧ r.2.mem ((c.tc : Thread Cert.SketchRefIdeal.nD Cert.SketchRefIdeal.τ).loc Cert.SketchRefIdeal.main_v8) = v1 c
          ∧ r.2.mem ((c.tc : Thread Cert.SketchRefIdeal.nD Cert.SketchRefIdeal.τ).loc Cert.SketchRefIdeal.main_arg0) = m' ((c.tc : Thread Cert.SketchRefIdeal.nD Cert.SketchRefIdeal.τ).loc Cert.SketchRefIdeal.main_arg0)
          ∧ r.2.mem ((c.tc : Thread Cert.SketchRefIdeal.nD Cert.SketchRefIdeal.τ).loc Cert.SketchRefIdeal.main_arg1) = m' ((c.tc : Thread Cert.SketchRefIdeal.nD Cert.SketchRefIdeal.τ).loc Cert.SketchRefIdeal.main_arg1)
          ∧ r.2.mem ((c.tc : Thread Cert.SketchRefIdeal.nD Cert.SketchRefIdeal.τ).loc Cert.SketchRefIdeal.main_arg2) = m' ((c.tc : Thread Cert.SketchRefIdeal.nD Cert.SketchRefIdeal.τ).loc Cert.SketchRefIdeal.main_arg2))

def preserves_Power_PowerIdeal : Prop :=
  True

def algebraic_PowerIdeal_PowerRefIdeal [hPowerIdeal : Cert.PowerIdeal.Facts] [hPowerRefIdeal : Cert.PowerRefIdeal.Facts] : Prop :=
  ∀ (m : (ℓ : Loc Cert.PowerIdeal.nD Cert.PowerIdeal.τ Cert.PowerIdeal.sig) → Buf (Elt Ideal) ℓ) (g : Dev Cert.PowerIdeal.nD → PrngReg)
    (m' : (ℓ : Loc Cert.PowerRefIdeal.nD Cert.PowerRefIdeal.τ Cert.PowerRefIdeal.sig) → Buf (Elt Ideal) ℓ) (g' : Dev Cert.PowerRefIdeal.nD → PrngReg), Pre_PowerIdeal m →
    (∀ c : Dev Cert.PowerIdeal.nD,
      m' ((c.tc : Thread Cert.PowerRefIdeal.nD Cert.PowerRefIdeal.τ).loc Cert.PowerRefIdeal.main_arg0) = m ((c.tc : Thread Cert.PowerIdeal.nD Cert.PowerIdeal.τ).loc Cert.PowerIdeal.main_arg0)
      ∧ m' ((c.tc : Thread Cert.PowerRefIdeal.nD Cert.PowerRefIdeal.τ).loc Cert.PowerRefIdeal.main_arg1) = m ((c.tc : Thread Cert.PowerIdeal.nD Cert.PowerIdeal.τ).loc Cert.PowerIdeal.main_arg1)
      ∧ m' ((c.tc : Thread Cert.PowerRefIdeal.nD Cert.PowerRefIdeal.τ).loc Cert.PowerRefIdeal.main_arg2) = m ((c.tc : Thread Cert.PowerIdeal.nD Cert.PowerIdeal.τ).loc Cert.PowerIdeal.main_arg2)
      ∧ m' ((c.tc : Thread Cert.PowerRefIdeal.nD Cert.PowerRefIdeal.τ).loc Cert.PowerRefIdeal.main_arg3) = m ((c.tc : Thread Cert.PowerIdeal.nD Cert.PowerIdeal.τ).loc Cert.PowerIdeal.main_arg3)) →
    ∃ (v0 : (c : Dev Cert.PowerIdeal.nD) → Buf (Elt Ideal) ((c.tc : Thread Cert.PowerIdeal.nD Cert.PowerIdeal.τ).loc Cert.PowerIdeal.main_v1_0)) (v1 : (c : Dev Cert.PowerIdeal.nD) → Buf (Elt Ideal) ((c.tc : Thread Cert.PowerIdeal.nD Cert.PowerIdeal.τ).loc Cert.PowerIdeal.main_v1_1)) (v2 : (c : Dev Cert.PowerIdeal.nD) → Buf (Elt Ideal) ((c.tc : Thread Cert.PowerIdeal.nD Cert.PowerIdeal.τ).loc Cert.PowerIdeal.main_v1_2)),
      θ_run (Cert.PowerIdeal.defs (F := Ideal)) (onTc (τ := Cert.PowerIdeal.τ) (Cert.PowerIdeal.main (F := Ideal))) ⟨m, fun _ => 0, g⟩ (fun r => ∀ c : Dev Cert.PowerIdeal.nD,
          r.2.mem ((c.tc : Thread Cert.PowerIdeal.nD Cert.PowerIdeal.τ).loc Cert.PowerIdeal.main_v1_0) = v0 c
          ∧ r.2.mem ((c.tc : Thread Cert.PowerIdeal.nD Cert.PowerIdeal.τ).loc Cert.PowerIdeal.main_v1_1) = v1 c
          ∧ r.2.mem ((c.tc : Thread Cert.PowerIdeal.nD Cert.PowerIdeal.τ).loc Cert.PowerIdeal.main_v1_2) = v2 c
          ∧ r.2.mem ((c.tc : Thread Cert.PowerIdeal.nD Cert.PowerIdeal.τ).loc Cert.PowerIdeal.main_arg0) = m ((c.tc : Thread Cert.PowerIdeal.nD Cert.PowerIdeal.τ).loc Cert.PowerIdeal.main_arg0)
          ∧ r.2.mem ((c.tc : Thread Cert.PowerIdeal.nD Cert.PowerIdeal.τ).loc Cert.PowerIdeal.main_arg1) = m ((c.tc : Thread Cert.PowerIdeal.nD Cert.PowerIdeal.τ).loc Cert.PowerIdeal.main_arg1)
          ∧ r.2.mem ((c.tc : Thread Cert.PowerIdeal.nD Cert.PowerIdeal.τ).loc Cert.PowerIdeal.main_arg2) = m ((c.tc : Thread Cert.PowerIdeal.nD Cert.PowerIdeal.τ).loc Cert.PowerIdeal.main_arg2)
          ∧ r.2.mem ((c.tc : Thread Cert.PowerIdeal.nD Cert.PowerIdeal.τ).loc Cert.PowerIdeal.main_arg3) = m ((c.tc : Thread Cert.PowerIdeal.nD Cert.PowerIdeal.τ).loc Cert.PowerIdeal.main_arg3))
      ∧ θ_run (Cert.PowerRefIdeal.defs (F := Ideal)) (onTc (τ := Cert.PowerRefIdeal.τ) (Cert.PowerRefIdeal.main (F := Ideal))) ⟨m', fun _ => 0, g'⟩ (fun r => ∀ c : Dev Cert.PowerRefIdeal.nD,
          r.2.mem ((c.tc : Thread Cert.PowerRefIdeal.nD Cert.PowerRefIdeal.τ).loc Cert.PowerRefIdeal.main_v6) = v0 c
          ∧ r.2.mem ((c.tc : Thread Cert.PowerRefIdeal.nD Cert.PowerRefIdeal.τ).loc Cert.PowerRefIdeal.main_v17) = v1 c
          ∧ r.2.mem ((c.tc : Thread Cert.PowerRefIdeal.nD Cert.PowerRefIdeal.τ).loc Cert.PowerRefIdeal.main_v18) = v2 c
          ∧ r.2.mem ((c.tc : Thread Cert.PowerRefIdeal.nD Cert.PowerRefIdeal.τ).loc Cert.PowerRefIdeal.main_arg0) = m' ((c.tc : Thread Cert.PowerRefIdeal.nD Cert.PowerRefIdeal.τ).loc Cert.PowerRefIdeal.main_arg0)
          ∧ r.2.mem ((c.tc : Thread Cert.PowerRefIdeal.nD Cert.PowerRefIdeal.τ).loc Cert.PowerRefIdeal.main_arg1) = m' ((c.tc : Thread Cert.PowerRefIdeal.nD Cert.PowerRefIdeal.τ).loc Cert.PowerRefIdeal.main_arg1)
          ∧ r.2.mem ((c.tc : Thread Cert.PowerRefIdeal.nD Cert.PowerRefIdeal.τ).loc Cert.PowerRefIdeal.main_arg2) = m' ((c.tc : Thread Cert.PowerRefIdeal.nD Cert.PowerRefIdeal.τ).loc Cert.PowerRefIdeal.main_arg2)
          ∧ r.2.mem ((c.tc : Thread Cert.PowerRefIdeal.nD Cert.PowerRefIdeal.τ).loc Cert.PowerRefIdeal.main_arg3) = m' ((c.tc : Thread Cert.PowerRefIdeal.nD Cert.PowerRefIdeal.τ).loc Cert.PowerRefIdeal.main_arg3))

def preserves_Project_ProjectIdeal : Prop :=
  True

def algebraic_ProjectIdeal_ProjectRefIdeal [hProjectIdeal : Cert.ProjectIdeal.Facts] [hProjectRefIdeal : Cert.ProjectRefIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectRefIdeal.nD Cert.ProjectRefIdeal.τ Cert.ProjectRefIdeal.sig) → Buf (Elt Ideal) ℓ) (g' : Dev Cert.ProjectRefIdeal.nD → PrngReg), Pre_ProjectIdeal m →
    (∀ c : Dev Cert.ProjectIdeal.nD,
      m' ((c.tc : Thread Cert.ProjectRefIdeal.nD Cert.ProjectRefIdeal.τ).loc Cert.ProjectRefIdeal.main_arg0) = m ((c.tc : Thread Cert.ProjectIdeal.nD Cert.ProjectIdeal.τ).loc Cert.ProjectIdeal.main_arg0)
      ∧ m' ((c.tc : Thread Cert.ProjectRefIdeal.nD Cert.ProjectRefIdeal.τ).loc Cert.ProjectRefIdeal.main_arg1) = m ((c.tc : Thread Cert.ProjectIdeal.nD Cert.ProjectIdeal.τ).loc Cert.ProjectIdeal.main_arg1)
      ∧ m' ((c.tc : Thread Cert.ProjectRefIdeal.nD Cert.ProjectRefIdeal.τ).loc Cert.ProjectRefIdeal.main_arg2) = m ((c.tc : Thread Cert.ProjectIdeal.nD Cert.ProjectIdeal.τ).loc Cert.ProjectIdeal.main_arg2)
      ∧ m' ((c.tc : Thread Cert.ProjectRefIdeal.nD Cert.ProjectRefIdeal.τ).loc Cert.ProjectRefIdeal.main_arg3) = m ((c.tc : Thread Cert.ProjectIdeal.nD Cert.ProjectIdeal.τ).loc Cert.ProjectIdeal.main_arg3)) →
    ∃ (v0 : (c : Dev Cert.ProjectIdeal.nD) → Buf (Elt Ideal) ((c.tc : Thread Cert.ProjectIdeal.nD Cert.ProjectIdeal.τ).loc Cert.ProjectIdeal.main_v1_0)) (v1 : (c : Dev Cert.ProjectIdeal.nD) → Buf (Elt Ideal) ((c.tc : Thread Cert.ProjectIdeal.nD Cert.ProjectIdeal.τ).loc Cert.ProjectIdeal.main_v1_1)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v1_0) = v0 c
          ∧ r.2.mem ((c.tc : Thread Cert.ProjectIdeal.nD Cert.ProjectIdeal.τ).loc Cert.ProjectIdeal.main_v1_1) = v1 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
          ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3))
      ∧ θ_run (Cert.ProjectRefIdeal.defs (F := Ideal)) (onTc (τ := Cert.ProjectRefIdeal.τ) (Cert.ProjectRefIdeal.main (F := Ideal))) ⟨m', fun _ => 0, g'⟩ (fun r => ∀ c : Dev Cert.ProjectRefIdeal.nD,
          r.2.mem ((c.tc : Thread Cert.ProjectRefIdeal.nD Cert.ProjectRefIdeal.τ).loc Cert.ProjectRefIdeal.main_v6) = v0 c
          ∧ r.2.mem ((c.tc : Thread Cert.ProjectRefIdeal.nD Cert.ProjectRefIdeal.τ).loc Cert.ProjectRefIdeal.main_v11) = v1 c
          ∧ r.2.mem ((c.tc : Thread Cert.ProjectRefIdeal.nD Cert.ProjectRefIdeal.τ).loc Cert.ProjectRefIdeal.main_arg0) = m' ((c.tc : Thread Cert.ProjectRefIdeal.nD Cert.ProjectRefIdeal.τ).loc Cert.ProjectRefIdeal.main_arg0)
          ∧ r.2.mem ((c.tc : Thread Cert.ProjectRefIdeal.nD Cert.ProjectRefIdeal.τ).loc Cert.ProjectRefIdeal.main_arg1) = m' ((c.tc : Thread Cert.ProjectRefIdeal.nD Cert.ProjectRefIdeal.τ).loc Cert.ProjectRefIdeal.main_arg1)
          ∧ r.2.mem ((c.tc : Thread Cert.ProjectRefIdeal.nD Cert.ProjectRefIdeal.τ).loc Cert.ProjectRefIdeal.main_arg2) = m' ((c.tc : Thread Cert.ProjectRefIdeal.nD Cert.ProjectRefIdeal.τ).loc Cert.ProjectRefIdeal.main_arg2)
          ∧ r.2.mem ((c.tc : Thread Cert.ProjectRefIdeal.nD Cert.ProjectRefIdeal.τ).loc Cert.ProjectRefIdeal.main_arg3) = m' ((c.tc : Thread Cert.ProjectRefIdeal.nD Cert.ProjectRefIdeal.τ).loc Cert.ProjectRefIdeal.main_arg3))

def preserves_Factor_FactorIdeal : Prop :=
  True

def holds_FactorIdeal_factor_post_pre_factor_pre [hFactorIdeal : Cert.FactorIdeal.Facts] [hPre_factor_pre : Cert.Pre_factor_pre.Facts] [hPost_factor_post : Cert.Post_factor_post.Facts] : Prop :=
  ∀ (m : (ℓ : Loc Cert.FactorIdeal.nD Cert.FactorIdeal.τ Cert.FactorIdeal.sig) → Buf (Elt Ideal) ℓ) (g : Dev Cert.FactorIdeal.nD → PrngReg), Pre_FactorIdeal_factor_pre m →
    θ_run (Cert.FactorIdeal.defs (F := Ideal)) (onTc (τ := Cert.FactorIdeal.τ) (Cert.FactorIdeal.main (F := Ideal))) ⟨m, fun _ => 0, g⟩ (fun r => ∀ c : Dev Cert.FactorIdeal.nD,
      r.2.mem ((c.tc : Thread Cert.FactorIdeal.nD Cert.FactorIdeal.τ).loc Cert.FactorIdeal.main_arg0) = m ((c.tc : Thread Cert.FactorIdeal.nD Cert.FactorIdeal.τ).loc Cert.FactorIdeal.main_arg0)
      ∧ r.2.mem ((c.tc : Thread Cert.FactorIdeal.nD Cert.FactorIdeal.τ).loc Cert.FactorIdeal.main_arg1) = m ((c.tc : Thread Cert.FactorIdeal.nD Cert.FactorIdeal.τ).loc Cert.FactorIdeal.main_arg1)
      ∧ (Cert.Post_factor_post.fn (F := Ideal) (m ((c.tc : Thread Cert.FactorIdeal.nD Cert.FactorIdeal.τ).loc Cert.FactorIdeal.main_arg0)) (m ((c.tc : Thread Cert.FactorIdeal.nD Cert.FactorIdeal.τ).loc Cert.FactorIdeal.main_arg1)) (r.2.mem ((c.tc : Thread Cert.FactorIdeal.nD Cert.FactorIdeal.τ).loc Cert.FactorIdeal.main_v0))) = (fun _ => 1#1))

def Claim : Prop :=
  ∃ (hSketch : Cert.Sketch.Facts) (hSketchIdeal : Cert.SketchIdeal.Facts) (hSketchRefIdeal : Cert.SketchRefIdeal.Facts) (hPower : Cert.Power.Facts) (hPowerIdeal : Cert.PowerIdeal.Facts) (hPowerRefIdeal : Cert.PowerRefIdeal.Facts) (hProject : Cert.Project.Facts) (hProjectIdeal : Cert.ProjectIdeal.Facts) (hProjectRefIdeal : Cert.ProjectRefIdeal.Facts) (hFactor : Cert.Factor.Facts) (hFactorIdeal : Cert.FactorIdeal.Facts) (hPre_factor_pre : Cert.Pre_factor_pre.Facts) (hPost_factor_post : Cert.Post_factor_post.Facts),
    quiescent_Sketch (hSketch := hSketch)
    ∧ quiescent_SketchIdeal (hSketchIdeal := hSketchIdeal)
    ∧ quiescent_SketchRefIdeal (hSketchRefIdeal := hSketchRefIdeal)
    ∧ quiescent_Power (hPower := hPower)
    ∧ quiescent_PowerIdeal (hPowerIdeal := hPowerIdeal)
    ∧ quiescent_PowerRefIdeal (hPowerRefIdeal := hPowerRefIdeal)
    ∧ quiescent_Project (hProject := hProject)
    ∧ quiescent_ProjectIdeal (hProjectIdeal := hProjectIdeal)
    ∧ quiescent_ProjectRefIdeal (hProjectRefIdeal := hProjectRefIdeal)
    ∧ quiescent_Factor (hFactor := hFactor)
    ∧ quiescent_FactorIdeal (hFactorIdeal := hFactorIdeal)
    ∧ quiescent_FactorIdeal_pre_factor_pre (hFactorIdeal := hFactorIdeal) (hPre_factor_pre := hPre_factor_pre)
    ∧ preserves_Sketch_SketchIdeal
    ∧ algebraic_SketchIdeal_SketchRefIdeal (hSketchIdeal := hSketchIdeal) (hSketchRefIdeal := hSketchRefIdeal)
    ∧ preserves_Power_PowerIdeal
    ∧ algebraic_PowerIdeal_PowerRefIdeal (hPowerIdeal := hPowerIdeal) (hPowerRefIdeal := hPowerRefIdeal)
    ∧ preserves_Project_ProjectIdeal
    ∧ algebraic_ProjectIdeal_ProjectRefIdeal (hProjectIdeal := hProjectIdeal) (hProjectRefIdeal := hProjectRefIdeal)
    ∧ preserves_Factor_FactorIdeal
    ∧ holds_FactorIdeal_factor_post_pre_factor_pre (hFactorIdeal := hFactorIdeal) (hPre_factor_pre := hPre_factor_pre) (hPost_factor_post := hPost_factor_post)
-- ==== Post_factor_post.lean ====
abbrev S16x144x144 : Shape := ⟨3, ![16, 144, 144]⟩
abbrev S144x144 : Shape := ⟨2, ![144, 144]⟩
abbrev S_ : Shape := ⟨0, ![]⟩
abbrev S1x144x144 : Shape := ⟨3, ![1, 144, 144]⟩

class Facts : Prop where
  bcast_S_S144x144 : S_.BroadcastsInDim S144x144 (![] : Fin 0 → Fin S144x144.rank)
  bcast_S144x144_S16x144x144_1_2 : S144x144.BroadcastsInDim S16x144x144 (![1, 2] : Fin 2 → Fin S16x144x144.rank)
  bcast_S_S16x144x144 : S_.BroadcastsInDim S16x144x144 (![] : Fin 0 → Fin S16x144x144.rank)
  bcast_S144x144_S1x144x144_1_2 : S144x144.BroadcastsInDim S1x144x144 (![1, 2] : Fin 2 → Fin S1x144x144.rank)
  bcast_S1x144x144_S16x144x144_0_1_2 : S1x144x144.BroadcastsInDim S16x144x144 (![0, 1, 2] : Fin 3 → Fin S16x144x144.rank)
  reducesTo_S16x144x144_S_d0_1_2 : S16x144x144.ReducesTo [0, 1, 2] S_
  h_S_ : 0 < S_.numel
  dot_S16x144x144_S16x144x144_S16x144x144_2_1_1_2_0_0_wf : DotDims.WF S16x144x144 S16x144x144 S16x144x144 [2] [1] [1] [2] [0] [0]

variable [Facts]

def dot_S16x144x144_S16x144x144_S16x144x144_2_1_1_2_0_0 : DotDims S16x144x144 S16x144x144 S16x144x144 where
  lhsContracting := [2]
  rhsContracting := [1]
  lhsNonContracting := [1]
  rhsNonContracting := [2]
  lhsBatch := [0]
  rhsBatch := [0]
  wf := dot_S16x144x144_S16x144x144_S16x144x144_2_1_1_2_0_0_wf
def fn_tril {F : FTy → Type} [FloatOps F] (arg0 : FVec F S16x144x144 .f32) : FVec F S16x144x144 .f32 :=
  let v0 : IVec S144x144 32 := iotaInDim S144x144 32 0
  let c : IVec S_ 32 := constantI S_ 32 0#32
  let v1 : IVec S144x144 32 := broadcastInDim S144x144 ![] bcast_S_S144x144 c
  let v2 : IVec S144x144 32 := addi v0 v1
  let v3 : IVec S144x144 32 := iotaInDim S144x144 32 1
  let v4 : IVec S144x144 1 := cmpi .sge v2 v3
  let v5 : IVec S16x144x144 1 := broadcastInDim S16x144x144 ![1, 2] bcast_S144x144_S16x144x144_1_2 v4
  let cst : FVec F S_ .f32 := constant S_ .f32 0x00000000#32
  let v6 : FVec F S16x144x144 .f32 := broadcastInDim S16x144x144 ![] bcast_S_S16x144x144 cst
  let v7 : FVec F S16x144x144 .f32 := select v5 arg0 v6
  v7

def fn {F : FTy → Type} [FloatOps F] (main_arg0 : FVec F S16x144x144 .f32) (main_arg1 : FVec F S16x144x144 .f32) (main_arg2 : FVec F S16x144x144 .f32) : IVec S_ 1 :=
  let main_v0 : FVec F S16x144x144 .f32 := fn_tril (F := F) main_arg2
  let main_v1 : FVec F S16x144x144 .f32 := (fun l r => Host.dotGeneral dot_S16x144x144_S16x144x144_S16x144x144_2_1_1_2_0_0 (some .fp32) l r) main_v0 main_arg1
  let main_v2 : IVec S144x144 32 := iotaInDim S144x144 32 0
  let main_v3 : IVec S144x144 32 := iotaInDim S144x144 32 1
  let main_c : IVec S_ 32 := constantI S_ 32 0#32
  let main_v4 : IVec S144x144 32 := broadcastInDim S144x144 ![] bcast_S_S144x144 main_c
  let main_v5 : IVec S144x144 32 := addi main_v2 main_v4
  let main_v6 : IVec S144x144 1 := cmpi .eq main_v5 main_v3
  let main_v7 : FVec F S144x144 .f32 := uitofp .f32 main_v6
  let main_v8 : FVec F S1x144x144 .f32 := broadcastInDim S1x144x144 ![1, 2] bcast_S144x144_S1x144x144_1_2 main_v7
  let main_v9 : FVec F S16x144x144 .f32 := broadcastInDim S16x144x144 ![0, 1, 2] bcast_S1x144x144_S16x144x144_0_1_2 main_v8
  let main_v10 : IVec S16x144x144 1 := cmpf .oeq main_v1 main_v9
  let main_c_0 : IVec S_ 1 := constantI S_ 1 1#1
  let main_v11 : IVec S_ 1 := (fun x v => Host.reduce IntOp.andi x v reducesTo_S16x144x144_S_d0_1_2 h_S_) main_v10 main_c_0
  main_v11
-- ==== Pre_factor_pre.lean ====
abbrev S16x144x144 : Shape := ⟨3, ![16, 144, 144]⟩
abbrev S144x144 : Shape := ⟨2, ![144, 144]⟩
abbrev S_ : Shape := ⟨0, ![]⟩

class Facts : Prop where
  bcast_S_S144x144 : S_.BroadcastsInDim S144x144 (![] : Fin 0 → Fin S144x144.rank)
  bcast_S_S16x144x144 : S_.BroadcastsInDim S16x144x144 (![] : Fin 0 → Fin S16x144x144.rank)
  reducesTo_S16x144x144_S_d0_1_2 : S16x144x144.ReducesTo [0, 1, 2] S_
  h_S_ : 0 < S_.numel
  bcast_S144x144_S16x144x144_1_2 : S144x144.BroadcastsInDim S16x144x144 (![1, 2] : Fin 2 → Fin S16x144x144.rank)
  dot_S16x144x144_S16x144x144_S16x144x144_2_2_1_1_0_0_wf : DotDims.WF S16x144x144 S16x144x144 S16x144x144 [2] [2] [1] [1] [0] [0]

variable [Facts]

def dot_S16x144x144_S16x144x144_S16x144x144_2_2_1_1_0_0 : DotDims S16x144x144 S16x144x144 S16x144x144 where
  lhsContracting := [2]
  rhsContracting := [2]
  lhsNonContracting := [1]
  rhsNonContracting := [1]
  lhsBatch := [0]
  rhsBatch := [0]
  wf := dot_S16x144x144_S16x144x144_S16x144x144_2_2_1_1_0_0_wf
def fn_tril {F : FTy → Type} [FloatOps F] (arg0 : FVec F S16x144x144 .f32) : FVec F S16x144x144 .f32 :=
  let v0 : IVec S144x144 32 := iotaInDim S144x144 32 0
  let c : IVec S_ 32 := constantI S_ 32 0#32
  let v1 : IVec S144x144 32 := broadcastInDim S144x144 ![] bcast_S_S144x144 c
  let v2 : IVec S144x144 32 := addi v0 v1
  let v3 : IVec S144x144 32 := iotaInDim S144x144 32 1
  let v4 : IVec S144x144 1 := cmpi .sge v2 v3
  let v5 : IVec S16x144x144 1 := broadcastInDim S16x144x144 ![1, 2] bcast_S144x144_S16x144x144_1_2 v4
  let cst : FVec F S_ .f32 := constant S_ .f32 0x00000000#32
  let v6 : FVec F S16x144x144 .f32 := broadcastInDim S16x144x144 ![] bcast_S_S16x144x144 cst
  let v7 : FVec F S16x144x144 .f32 := select v5 arg0 v6
  v7

def fn_where {F : FTy → Type} [FloatOps F] (arg0 : IVec S144x144 1) (arg1 : FVec F S16x144x144 .f32) (arg2 : FVec F S_ .f32) : FVec F S16x144x144 .f32 :=
  let v0 : FVec F S_ .f32 := id arg2
  let v1 : IVec S16x144x144 1 := broadcastInDim S16x144x144 ![1, 2] bcast_S144x144_S16x144x144_1_2 arg0
  let v2 : FVec F S16x144x144 .f32 := broadcastInDim S16x144x144 ![] bcast_S_S16x144x144 v0
  let v3 : FVec F S16x144x144 .f32 := select v1 arg1 v2
  v3

def fn_part1 {F : FTy → Type} [FloatOps F] (main_arg0 : FVec F S16x144x144 .f32) (main_arg1 : FVec F S16x144x144 .f32) (main_v12 : IVec S_ 1) (main_v16 : IVec S_ 1) : IVec S_ 1 :=
  let main_v17 : IVec S_ 1 := andi main_v12 main_v16
  let main_v18 : FVec F S16x144x144 .f32 := (fun l r => Host.dotGeneral dot_S16x144x144_S16x144x144_S16x144x144_2_2_1_1_0_0 (some .fp32) l r) main_arg1 main_arg1
  let main_v19 : IVec S16x144x144 1 := cmpf .oeq main_v18 main_arg0
  let main_c_5 : IVec S_ 1 := constantI S_ 1 1#1
  let main_v20 : IVec S_ 1 := (fun x v => Host.reduce IntOp.andi x v reducesTo_S16x144x144_S_d0_1_2 h_S_) main_v19 main_c_5
  let main_v21 : IVec S_ 1 := andi main_v17 main_v20
  main_v21

def fn {F : FTy → Type} [FloatOps F] (main_arg0 : FVec F S16x144x144 .f32) (main_arg1 : FVec F S16x144x144 .f32) : IVec S_ 1 :=
  let main_v0 : IVec S144x144 32 := iotaInDim S144x144 32 0
  let main_v1 : IVec S144x144 32 := iotaInDim S144x144 32 1
  let main_c : IVec S_ 32 := constantI S_ 32 0#32
  let main_v2 : IVec S144x144 32 := broadcastInDim S144x144 ![] bcast_S_S144x144 main_c
  let main_v3 : IVec S144x144 32 := addi main_v0 main_v2
  let main_v4 : IVec S144x144 1 := cmpi .eq main_v3 main_v1
  let main_v5 : FVec F S16x144x144 .f32 := Host.absf main_arg1
  let main_cst : FVec F S_ .f32 := constant S_ .f32 0x7F800000#32
  let main_v6 : FVec F S16x144x144 .f32 := broadcastInDim S16x144x144 ![] bcast_S_S16x144x144 main_cst
  let main_v7 : IVec S16x144x144 1 := cmpf .olt main_v5 main_v6
  let main_c_0 : IVec S_ 1 := constantI S_ 1 1#1
  let main_v8 : IVec S_ 1 := (fun x v => Host.reduce IntOp.andi x v reducesTo_S16x144x144_S_d0_1_2 h_S_) main_v7 main_c_0
  let main_v9 : FVec F S16x144x144 .f32 := fn_tril (F := F) main_arg1
  let main_v10 : IVec S16x144x144 1 := cmpf .oeq main_v9 main_arg1
  let main_c_1 : IVec S_ 1 := constantI S_ 1 1#1
  let main_v11 : IVec S_ 1 := (fun x v => Host.reduce IntOp.andi x v reducesTo_S16x144x144_S_d0_1_2 h_S_) main_v10 main_c_1
  let main_v12 : IVec S_ 1 := andi main_v8 main_v11
  let main_cst_2 : FVec F S_ .f32 := constant S_ .f32 0x3F800000#32
  let main_v13 : FVec F S16x144x144 .f32 := fn_where (F := F) main_v4 main_arg1 main_cst_2
  let main_cst_3 : FVec F S_ .f32 := constant S_ .f32 0x00000000#32
  let main_v14 : FVec F S16x144x144 .f32 := broadcastInDim S16x144x144 ![] bcast_S_S16x144x144 main_cst_3
  let main_v15 : IVec S16x144x144 1 := cmpf .ogt main_v13 main_v14
  let main_c_4 : IVec S_ 1 := constantI S_ 1 1#1
  let main_v16 : IVec S_ 1 := (fun x v => Host.reduce IntOp.andi x v reducesTo_S16x144x144_S_d0_1_2 h_S_) main_v15 main_c_4
  fn_part1 (F := F) main_arg0 main_arg1 main_v12 main_v16
-- ==== Sketch.lean ====
abbrev S16x768x3584 : Shape := ⟨3, ![16, 768, 3584]⟩
abbrev S16x768 : Shape := ⟨2, ![16, 768]⟩
abbrev S3584x144 : Shape := ⟨2, ![3584, 144]⟩
abbrev S16x1x768 : Shape := ⟨3, ![16, 1, 768]⟩
abbrev S144x3584 : Shape := ⟨2, ![144, 3584]⟩
abbrev S16x144x768 : Shape := ⟨3, ![16, 144, 768]⟩
abbrev S16x144x144 : Shape := ⟨3, ![16, 144, 144]⟩
abbrev S1x768x3584 : Shape := ⟨3, ![1, 768, 3584]⟩
abbrev S1x1x768 : Shape := ⟨3, ![1, 1, 768]⟩
abbrev S1x144x768 : Shape := ⟨3, ![1, 144, 768]⟩
abbrev S1x144x144 : Shape := ⟨3, ![1, 144, 144]⟩
abbrev S144x768 : Shape := ⟨2, ![144, 768]⟩
abbrev S1x768x256 : Shape := ⟨3, ![1, 768, 256]⟩
abbrev S768x256 : Shape := ⟨2, ![768, 256]⟩
abbrev S144x256 : Shape := ⟨2, ![144, 256]⟩
abbrev S1x768 : Shape := ⟨2, ![1, 768]⟩
abbrev S144x144 : Shape := ⟨2, ![144, 144]⟩

abbrev nBuf : Space → Nat
  | .hbm => 7
  | .vmem => 9
  | .smem => 0
  | _ => 0

abbrev bufTy : (tb : Table) → Fin (tcTables nBuf tb) → BufTy
  | .hbm, ⟨0, _⟩ => ⟨S16x768x3584, .i8⟩
  | .hbm, ⟨1, _⟩ => ⟨S16x768, .f32⟩
  | .hbm, ⟨2, _⟩ => ⟨S3584x144, .bf16⟩
  | .hbm, ⟨3, _⟩ => ⟨S16x1x768, .f32⟩
  | .hbm, ⟨4, _⟩ => ⟨S144x3584, .bf16⟩
  | .hbm, ⟨5, _⟩ => ⟨S16x144x768, .f32⟩
  | .hbm, ⟨6, _⟩ => ⟨S16x144x144, .f32⟩
  | .local _ .vmem, ⟨0, _⟩ => ⟨S1x768x3584, .i8⟩
  | .local _ .vmem, ⟨1, _⟩ => ⟨S1x768x3584, .i8⟩
  | .local _ .vmem, ⟨2, _⟩ => ⟨S1x1x768, .f32⟩
  | .local _ .vmem, ⟨3, _⟩ => ⟨S1x1x768, .f32⟩
  | .local _ .vmem, ⟨4, _⟩ => ⟨S144x3584, .bf16⟩
  | .local _ .vmem, ⟨5, _⟩ => ⟨S1x144x768, .f32⟩
  | .local _ .vmem, ⟨6, _⟩ => ⟨S1x144x768, .f32⟩
  | .local _ .vmem, ⟨7, _⟩ => ⟨S1x144x144, .f32⟩
  | .local _ .vmem, ⟨8, _⟩ => ⟨S1x144x144, .f32⟩
  | _, _ => ⟨S16x768x3584, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x768x3584 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S144x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x144x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x144x144 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== SketchRefIdeal.lean ====
abbrev S16x768x3584 : Shape := ⟨3, ![16, 768, 3584]⟩
abbrev S16x768 : Shape := ⟨2, ![16, 768]⟩
abbrev S3584x144 : Shape := ⟨2, ![3584, 144]⟩
abbrev S16x768x144 : Shape := ⟨3, ![16, 768, 144]⟩
abbrev S16x768x1 : Shape := ⟨3, ![16, 768, 1]⟩
abbrev S16x144x768 : Shape := ⟨3, ![16, 144, 768]⟩
abbrev S16x144x144 : Shape := ⟨3, ![16, 144, 144]⟩

abbrev nBuf : Space → Nat
  | .hbm => 12
  | .vmem => 0
  | .smem => 0
  | _ => 0

abbrev bufTy : (tb : Table) → Fin (tcTables nBuf tb) → BufTy
  | .hbm, ⟨0, _⟩ => ⟨S16x768x3584, .i8⟩
  | .hbm, ⟨1, _⟩ => ⟨S16x768, .f32⟩
  | .hbm, ⟨2, _⟩ => ⟨S3584x144, .bf16⟩
  | .hbm, ⟨3, _⟩ => ⟨S16x768x3584, .i32⟩
  | .hbm, ⟨4, _⟩ => ⟨S16x768x3584, .f32⟩
  | .hbm, ⟨5, _⟩ => ⟨S16x768x3584, .bf16⟩
  | .hbm, ⟨6, _⟩ => ⟨S16x768x144, .f32⟩
  | .hbm, ⟨7, _⟩ => ⟨S16x768x1, .f32⟩
  | .hbm, ⟨8, _⟩ => ⟨S16x768x144, .f32⟩
  | .hbm, ⟨9, _⟩ => ⟨S16x768x144, .f32⟩
  | .hbm, ⟨10, _⟩ => ⟨S16x144x768, .f32⟩
  | .hbm, ⟨11, _⟩ => ⟨S16x144x144, .f32⟩
  | _, _ => ⟨S16x768x3584, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Power.lean ====
abbrev S16x768x3584 : Shape := ⟨3, ![16, 768, 3584]⟩
abbrev S16x768 : Shape := ⟨2, ![16, 768]⟩
abbrev S16x144x768 : Shape := ⟨3, ![16, 144, 768]⟩
abbrev S16x144x144 : Shape := ⟨3, ![16, 144, 144]⟩
abbrev S16x1x768 : Shape := ⟨3, ![16, 1, 768]⟩
abbrev S16x768x144 : Shape := ⟨3, ![16, 768, 144]⟩
abbrev S1x768x3584 : Shape := ⟨3, ![1, 768, 3584]⟩
abbrev S1x1x768 : Shape := ⟨3, ![1, 1, 768]⟩
abbrev S1x144x768 : Shape := ⟨3, ![1, 144, 768]⟩
abbrev S1x144x144 : Shape := ⟨3, ![1, 144, 144]⟩
abbrev S1x768x144 : Shape := ⟨3, ![1, 768, 144]⟩
abbrev S144x144 : Shape := ⟨2, ![144, 144]⟩
abbrev S144x768 : Shape := ⟨2, ![144, 768]⟩
abbrev S768x144 : Shape := ⟨2, ![768, 144]⟩
abbrev S1x768 : Shape := ⟨2, ![1, 768]⟩
abbrev S1x768x256 : Shape := ⟨3, ![1, 768, 256]⟩
abbrev S768x256 : Shape := ⟨2, ![768, 256]⟩
abbrev S144x256 : Shape := ⟨2, ![144, 256]⟩

abbrev nBuf : Space → Nat
  | .hbm => 8
  | .vmem => 14
  | .smem => 0
  | _ => 0

abbrev bufTy : (tb : Table) → Fin (tcTables nBuf tb) → BufTy
  | .hbm, ⟨0, _⟩ => ⟨S16x768x3584, .i8⟩
  | .hbm, ⟨1, _⟩ => ⟨S16x768, .f32⟩
  | .hbm, ⟨2, _⟩ => ⟨S16x144x768, .f32⟩
  | .hbm, ⟨3, _⟩ => ⟨S16x144x144, .f32⟩
  | .hbm, ⟨4, _⟩ => ⟨S16x1x768, .f32⟩
  | .hbm, ⟨5, _⟩ => ⟨S16x768x144, .bf16⟩
  | .hbm, ⟨6, _⟩ => ⟨S16x144x768, .f32⟩
  | .hbm, ⟨7, _⟩ => ⟨S16x144x144, .f32⟩
  | .local _ .vmem, ⟨0, _⟩ => ⟨S1x768x3584, .i8⟩
  | .local _ .vmem, ⟨1, _⟩ => ⟨S1x768x3584, .i8⟩
  | .local _ .vmem, ⟨2, _⟩ => ⟨S1x1x768, .f32⟩
  | .local _ .vmem, ⟨3, _⟩ => ⟨S1x1x768, .f32⟩
  | .local _ .vmem, ⟨4, _⟩ => ⟨S1x144x768, .f32⟩
  | .local _ .vmem, ⟨5, _⟩ => ⟨S1x144x768, .f32⟩
  | .local _ .vmem, ⟨6, _⟩ => ⟨S1x144x144, .f32⟩
  | .local _ .vmem, ⟨7, _⟩ => ⟨S1x144x144, .f32⟩
  | .local _ .vmem, ⟨8, _⟩ => ⟨S1x768x144, .bf16⟩
  | .local _ .vmem, ⟨9, _⟩ => ⟨S1x768x144, .bf16⟩
  | .local _ .vmem, ⟨10, _⟩ => ⟨S1x144x768, .f32⟩
  | .local _ .vmem, ⟨11, _⟩ => ⟨S1x144x768, .f32⟩
  | .local _ .vmem, ⟨12, _⟩ => ⟨S1x144x144, .f32⟩
  | .local _ .vmem, ⟨13, _⟩ => ⟨S1x144x144, .f32⟩
  | _, _ => ⟨S16x768x3584, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x768x3584 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x144x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x144x144 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x768x144 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x144x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x144x144 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== PowerRefIdeal.lean ====
abbrev S16x768x3584 : Shape := ⟨3, ![16, 768, 3584]⟩
abbrev S16x768 : Shape := ⟨2, ![16, 768]⟩
abbrev S16x144x768 : Shape := ⟨3, ![16, 144, 768]⟩
abbrev S16x144x144 : Shape := ⟨3, ![16, 144, 144]⟩
abbrev S16x768x144 : Shape := ⟨3, ![16, 768, 144]⟩
abbrev S144x144 : Shape := ⟨2, ![144, 144]⟩
abbrev S_ : Shape := ⟨0, ![]⟩
abbrev S16x768x1 : Shape := ⟨3, ![16, 768, 1]⟩
abbrev S16x3584x144 : Shape := ⟨3, ![16, 3584, 144]⟩

abbrev nBuf : Space → Nat
  | .hbm => 32
  | .vmem => 0
  | .smem => 0
  | _ => 0

abbrev bufTy : (tb : Table) → Fin (tcTables nBuf tb) → BufTy
  | .hbm, ⟨0, _⟩ => ⟨S16x768x3584, .i8⟩
  | .hbm, ⟨1, _⟩ => ⟨S16x768, .f32⟩
  | .hbm, ⟨2, _⟩ => ⟨S16x144x768, .f32⟩
  | .hbm, ⟨3, _⟩ => ⟨S16x144x144, .f32⟩
  | .hbm, ⟨4, _⟩ => ⟨S16x768x3584, .i32⟩
  | .hbm, ⟨5, _⟩ => ⟨S16x768x3584, .f32⟩
  | .hbm, ⟨6, _⟩ => ⟨S16x768x3584, .bf16⟩
  | .hbm, ⟨7, _⟩ => ⟨S16x768x144, .f32⟩
  | .hbm, ⟨8, _⟩ => ⟨S144x144, .i32⟩
  | .hbm, ⟨9, _⟩ => ⟨S_, .i32⟩
  | .hbm, ⟨10, _⟩ => ⟨S144x144, .i32⟩
  | .hbm, ⟨11, _⟩ => ⟨S144x144, .i32⟩
  | .hbm, ⟨12, _⟩ => ⟨S144x144, .i32⟩
  | .hbm, ⟨13, _⟩ => ⟨S144x144, .i1⟩
  | .hbm, ⟨14, _⟩ => ⟨S16x144x144, .i1⟩
  | .hbm, ⟨15, _⟩ => ⟨S_, .f32⟩
  | .hbm, ⟨16, _⟩ => ⟨S16x144x144, .f32⟩
  | .hbm, ⟨17, _⟩ => ⟨S16x144x144, .f32⟩
  | .hbm, ⟨18, _⟩ => ⟨S16x768x144, .f32⟩
  | .hbm, ⟨19, _⟩ => ⟨S16x768x144, .bf16⟩
  | .hbm, ⟨20, _⟩ => ⟨S16x768, .bf16⟩
  | .hbm, ⟨21, _⟩ => ⟨S16x768x1, .bf16⟩
  | .hbm, ⟨22, _⟩ => ⟨S16x768x144, .bf16⟩
  | .hbm, ⟨23, _⟩ => ⟨S16x768x144, .bf16⟩
  | .hbm, ⟨24, _⟩ => ⟨S16x3584x144, .f32⟩
  | .hbm, ⟨25, _⟩ => ⟨S16x3584x144, .bf16⟩
  | .hbm, ⟨26, _⟩ => ⟨S16x768x144, .f32⟩
  | .hbm, ⟨27, _⟩ => ⟨S16x768x1, .f32⟩
  | .hbm, ⟨28, _⟩ => ⟨S16x768x144, .f32⟩
  | .hbm, ⟨29, _⟩ => ⟨S16x768x144, .f32⟩
  | .hbm, ⟨30, _⟩ => ⟨S16x144x768, .f32⟩
  | .hbm, ⟨31, _⟩ => ⟨S16x144x144, .f32⟩
  | _, _ => ⟨S16x768x3584, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_cst : Ref sig .tc := ⟨.hbm, 15, rfl⟩
abbrev main_call0_v6 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩

abbrev nD : Nat := 1
abbrev τ : Topo := Topo.v7x

variable {F : FTy → Type} [FloatOps F]
-- ==== Project.lean ====
abbrev S16x768x3584 : Shape := ⟨3, ![16, 768, 3584]⟩
abbrev S16x768 : Shape := ⟨2, ![16, 768]⟩
abbrev S16x144x768 : Shape := ⟨3, ![16, 144, 768]⟩
abbrev S16x144x144 : Shape := ⟨3, ![16, 144, 144]⟩
abbrev S16x1x768 : Shape := ⟨3, ![16, 1, 768]⟩
abbrev S16x768x144 : Shape := ⟨3, ![16, 768, 144]⟩
abbrev S16x144x3584 : Shape := ⟨3, ![16, 144, 3584]⟩
abbrev S1x768x3584 : Shape := ⟨3, ![1, 768, 3584]⟩
abbrev S1x1x768 : Shape := ⟨3, ![1, 1, 768]⟩
abbrev S1x144x768 : Shape := ⟨3, ![1, 144, 768]⟩
abbrev S1x144x144 : Shape := ⟨3, ![1, 144, 144]⟩
abbrev S1x768x144 : Shape := ⟨3, ![1, 768, 144]⟩
abbrev S1x144x3584 : Shape := ⟨3, ![1, 144, 3584]⟩
abbrev S144x144 : Shape := ⟨2, ![144, 144]⟩
abbrev S144x768 : Shape := ⟨2, ![144, 768]⟩
abbrev S768x144 : Shape := ⟨2, ![768, 144]⟩
abbrev S1x768 : Shape := ⟨2, ![1, 768]⟩
abbrev S1x768x256 : Shape := ⟨3, ![1, 768, 256]⟩
abbrev S768x256 : Shape := ⟨2, ![768, 256]⟩
abbrev S144x256 : Shape := ⟨2, ![144, 256]⟩
abbrev S1x144x256 : Shape := ⟨3, ![1, 144, 256]⟩

abbrev nBuf : Space → Nat
  | .hbm => 7
  | .vmem => 12
  | .smem => 0
  | _ => 0

abbrev bufTy : (tb : Table) → Fin (tcTables nBuf tb) → BufTy
  | .hbm, ⟨0, _⟩ => ⟨S16x768x3584, .i8⟩
  | .hbm, ⟨1, _⟩ => ⟨S16x768, .f32⟩
  | .hbm, ⟨2, _⟩ => ⟨S16x144x768, .f32⟩
  | .hbm, ⟨3, _⟩ => ⟨S16x144x144, .f32⟩
  | .hbm, ⟨4, _⟩ => ⟨S16x1x768, .f32⟩
  | .hbm, ⟨5, _⟩ => ⟨S16x768x144, .bf16⟩
  | .hbm, ⟨6, _⟩ => ⟨S16x144x3584, .f32⟩
  | .local _ .vmem, ⟨0, _⟩ => ⟨S1x768x3584, .i8⟩
  | .local _ .vmem, ⟨1, _⟩ => ⟨S1x768x3584, .i8⟩
  | .local _ .vmem, ⟨2, _⟩ => ⟨S1x1x768, .f32⟩
  | .local _ .vmem, ⟨3, _⟩ => ⟨S1x1x768, .f32⟩
  | .local _ .vmem, ⟨4, _⟩ => ⟨S1x144x768, .f32⟩
  | .local _ .vmem, ⟨5, _⟩ => ⟨S1x144x768, .f32⟩
  | .local _ .vmem, ⟨6, _⟩ => ⟨S1x144x144, .f32⟩
  | .local _ .vmem, ⟨7, _⟩ => ⟨S1x144x144, .f32⟩
  | .local _ .vmem, ⟨8, _⟩ => ⟨S1x768x144, .bf16⟩
  | .local _ .vmem, ⟨9, _⟩ => ⟨S1x768x144, .bf16⟩
  | .local _ .vmem, ⟨10, _⟩ => ⟨S1x144x3584, .f32⟩
  | .local _ .vmem, ⟨11, _⟩ => ⟨S1x144x3584, .f32⟩
  | _, _ => ⟨S16x768x3584, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x768x3584 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x144x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x144x144 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x768x144 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x144x3584 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ProjectRefIdeal.lean ====
abbrev S16x768x3584 : Shape := ⟨3, ![16, 768, 3584]⟩
abbrev S16x768 : Shape := ⟨2, ![16, 768]⟩
abbrev S16x144x768 : Shape := ⟨3, ![16, 144, 768]⟩
abbrev S16x144x144 : Shape := ⟨3, ![16, 144, 144]⟩
abbrev S16x768x144 : Shape := ⟨3, ![16, 768, 144]⟩
abbrev S144x144 : Shape := ⟨2, ![144, 144]⟩
abbrev S_ : Shape := ⟨0, ![]⟩
abbrev S16x768x1 : Shape := ⟨3, ![16, 768, 1]⟩
abbrev S16x144x3584 : Shape := ⟨3, ![16, 144, 3584]⟩

abbrev nBuf : Space → Nat
  | .hbm => 25
  | .vmem => 0
  | .smem => 0
  | _ => 0

abbrev bufTy : (tb : Table) → Fin (tcTables nBuf tb) → BufTy
  | .hbm, ⟨0, _⟩ => ⟨S16x768x3584, .i8⟩
  | .hbm, ⟨1, _⟩ => ⟨S16x768, .f32⟩
  | .hbm, ⟨2, _⟩ => ⟨S16x144x768, .f32⟩
  | .hbm, ⟨3, _⟩ => ⟨S16x144x144, .f32⟩
  | .hbm, ⟨4, _⟩ => ⟨S16x768x3584, .i32⟩
  | .hbm, ⟨5, _⟩ => ⟨S16x768x3584, .f32⟩
  | .hbm, ⟨6, _⟩ => ⟨S16x768x3584, .bf16⟩
  | .hbm, ⟨7, _⟩ => ⟨S16x768x144, .f32⟩
  | .hbm, ⟨8, _⟩ => ⟨S144x144, .i32⟩
  | .hbm, ⟨9, _⟩ => ⟨S_, .i32⟩
  | .hbm, ⟨10, _⟩ => ⟨S144x144, .i32⟩
  | .hbm, ⟨11, _⟩ => ⟨S144x144, .i32⟩
  | .hbm, ⟨12, _⟩ => ⟨S144x144, .i32⟩
  | .hbm, ⟨13, _⟩ => ⟨S144x144, .i1⟩
  | .hbm, ⟨14, _⟩ => ⟨S16x144x144, .i1⟩
  | .hbm, ⟨15, _⟩ => ⟨S_, .f32⟩
  | .hbm, ⟨16, _⟩ => ⟨S16x144x144, .f32⟩
  | .hbm, ⟨17, _⟩ => ⟨S16x144x144, .f32⟩
  | .hbm, ⟨18, _⟩ => ⟨S16x768x144, .f32⟩
  | .hbm, ⟨19, _⟩ => ⟨S16x768x144, .bf16⟩
  | .hbm, ⟨20, _⟩ => ⟨S16x768, .bf16⟩
  | .hbm, ⟨21, _⟩ => ⟨S16x768x1, .bf16⟩
  | .hbm, ⟨22, _⟩ => ⟨S16x768x144, .bf16⟩
  | .hbm, ⟨23, _⟩ => ⟨S16x768x144, .bf16⟩
  | .hbm, ⟨24, _⟩ => ⟨S16x144x3584, .f32⟩
  | _, _ => ⟨S16x768x3584, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_cst : Ref sig .tc := ⟨.hbm, 15, rfl⟩
abbrev main_call0_v6 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩

abbrev nD : Nat := 1
abbrev τ : Topo := Topo.v7x

variable {F : FTy → Type} [FloatOps F]
-- ==== Factor.lean ====
abbrev S16x144x144 : Shape := ⟨3, ![16, 144, 144]⟩
abbrev S256x128 : Shape := ⟨2, ![256, 128]⟩
abbrev S16x144 : Shape := ⟨2, ![16, 144]⟩
abbrev S1x16x16 : Shape := ⟨3, ![1, 16, 16]⟩
abbrev S16x16 : Shape := ⟨2, ![16, 16]⟩
abbrev S16x128 : Shape := ⟨2, ![16, 128]⟩
abbrev S1x16 : Shape := ⟨2, ![1, 16]⟩
abbrev S16x112 : Shape := ⟨2, ![16, 112]⟩
abbrev S1x16x144 : Shape := ⟨3, ![1, 16, 144]⟩
abbrev S144x16 : Shape := ⟨2, ![144, 16]⟩
abbrev S128x16 : Shape := ⟨2, ![128, 16]⟩
abbrev S128x144 : Shape := ⟨2, ![128, 144]⟩
abbrev S1x128x144 : Shape := ⟨3, ![1, 128, 144]⟩
abbrev S112x16 : Shape := ⟨2, ![112, 16]⟩
abbrev S112x144 : Shape := ⟨2, ![112, 144]⟩
abbrev S1x112x144 : Shape := ⟨3, ![1, 112, 144]⟩
abbrev S96x16 : Shape := ⟨2, ![96, 16]⟩
abbrev S96x144 : Shape := ⟨2, ![96, 144]⟩
abbrev S1x96x144 : Shape := ⟨3, ![1, 96, 144]⟩
abbrev S80x16 : Shape := ⟨2, ![80, 16]⟩
abbrev S80x144 : Shape := ⟨2, ![80, 144]⟩
abbrev S1x80x144 : Shape := ⟨3, ![1, 80, 144]⟩
abbrev S64x16 : Shape := ⟨2, ![64, 16]⟩
abbrev S64x144 : Shape := ⟨2, ![64, 144]⟩
abbrev S1x64x144 : Shape := ⟨3, ![1, 64, 144]⟩
abbrev S48x16 : Shape := ⟨2, ![48, 16]⟩
abbrev S48x144 : Shape := ⟨2, ![48, 144]⟩
abbrev S1x48x144 : Shape := ⟨3, ![1, 48, 144]⟩
abbrev S32x16 : Shape := ⟨2, ![32, 16]⟩
abbrev S32x144 : Shape := ⟨2, ![32, 144]⟩
abbrev S1x32x144 : Shape := ⟨3, ![1, 32, 144]⟩

abbrev nBuf : Space → Nat
  | .hbm => 3
  | .vmem => 3
  | .smem => 0
  | _ => 0

abbrev bufTy : (tb : Table) → Fin (tcTables nBuf tb) → BufTy
  | .hbm, ⟨0, _⟩ => ⟨S16x144x144, .f32⟩
  | .hbm, ⟨1, _⟩ => ⟨S16x144x144, .f32⟩
  | .hbm, ⟨2, _⟩ => ⟨S16x144x144, .f32⟩
  | .local _ .vmem, ⟨0, _⟩ => ⟨S16x144x144, .f32⟩
  | .local _ .vmem, ⟨1, _⟩ => ⟨S16x144x144, .f32⟩
  | .local _ .vmem, ⟨2, _⟩ => ⟨S256x128, .f32⟩
  | _, _ => ⟨S16x144x144, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c16_i32 : BitVec 32 := 16#32
  let v8 : BitVec 32 := Scalar.addi c0_i32 c16_i32
  let c1_i32 : BitVec 32 := 1#32
  ⟨c0_i32, v8, c1_i32⟩
def k0_off1 (k0_t1 : Fin k0_t1_loop.trips) : Fin 3 → Nat :=
  let c0_i32_3504 : BitVec 32 := 0#32
  let c0_i32 : BitVec 32 := 0#32
  let c1_i32 : BitVec 32 := 1#32
  let arg3 : BitVec 32 := Scf.iv c0_i32 c1_i32 k0_t1
  let c1_i32_3503 : BitVec 32 := 1#32
  let v12779 : BitVec 32 := Scalar.muli arg3 c1_i32_3503
  let v12780 : BitVec 32 := Scalar.addi c0_i32_3504 v12779
  let v12781 : Index := Scalar.indexCast v12780
  let c0_3505 : Index := 0#32
  let c0_3506 : Index := 0#32
  ![v12781.toNat, 0, 0]
def k0_mult1 (k0_t1 : Fin k0_t1_loop.trips) : BitVec 32 :=
  let c0_i32_3504 : BitVec 32 := 0#32
  let c0_i32 : BitVec 32 := 0#32
  let c1_i32 : BitVec 32 := 1#32
  let arg3 : BitVec 32 := Scf.iv c0_i32 c1_i32 k0_t1
  let c1_i32_3503 : BitVec 32 := 1#32
  let v12779 : BitVec 32 := Scalar.muli arg3 c1_i32_3503
  let v12780 : BitVec 32 := Scalar.addi c0_i32_3504 v12779
  let c16_i32_3507 : BitVec 32 := 16#32
  let v12784 : BitVec 32 := Scalar.muli v12780 c16_i32_3507
  v12784
def k0_off2 (k0_t1 : Fin k0_t1_loop.trips) : Fin 2 → Nat :=
  let c0_i32_3504 : BitVec 32 := 0#32
  let c0_i32 : BitVec 32 := 0#32
  let c1_i32 : BitVec 32 := 1#32
  let arg3 : BitVec 32 := Scf.iv c0_i32 c1_i32 k0_t1
  let c1_i32_3503 : BitVec 32 := 1#32
  let v12779 : BitVec 32 := Scalar.muli arg3 c1_i32_3503
  let v12780 : BitVec 32 := Scalar.addi c0_i32_3504 v12779
  let c16_i32_3507 : BitVec 32 := 16#32
  let v12784 : BitVec 32 := Scalar.muli v12780 c16_i32_3507
  let v12785 : BitVec 32 := v12784
  let v12786 : Index := Scalar.indexCast v12785
  let c0_3508 : Index := 0#32
  ![v12786.toNat, 0]
@[reducible] def k0_t2_loop : Scf.Loop 32 :=
  let c0_i32_363 : BitVec 32 := 0#32
  let c16_i32_364 : BitVec 32 := 16#32
  let v1426 : BitVec 32 := Scalar.addi c0_i32_363 c16_i32_364
  let c1_i32_365 : BitVec 32 := 1#32
  ⟨c0_i32_363, v1426, c1_i32_365⟩
def k0_mult2 (k0_t2 : Fin k0_t2_loop.trips) : BitVec 32 :=
  let c0_i32_3504 : BitVec 32 := 0#32
  let c0_i32_363 : BitVec 32 := 0#32
  let c1_i32_365 : BitVec 32 := 1#32
  let arg3 : BitVec 32 := Scf.iv c0_i32_363 c1_i32_365 k0_t2
  let c1_i32_3503 : BitVec 32 := 1#32
  let v12779 : BitVec 32 := Scalar.muli arg3 c1_i32_3503
  let v12780 : BitVec 32 := Scalar.addi c0_i32_3504 v12779
  let c16_i32_3505 : BitVec 32 := 16#32
  let v12781 : BitVec 32 := Scalar.muli v12780 c16_i32_3505
  v12781
def k0_off3 (k0_t2 : Fin k0_t2_loop.trips) : Fin 2 → Nat :=
  let c0_i32_3504 : BitVec 32 := 0#32
  let c0_i32_363 : BitVec 32 := 0#32
  let c1_i32_365 : BitVec 32 := 1#32
  let arg3 : BitVec 32 := Scf.iv c0_i32_363 c1_i32_365 k0_t2
  let c1_i32_3503 : BitVec 32 := 1#32
  let v12779 : BitVec 32 := Scalar.muli arg3 c1_i32_3503
  let v12780 : BitVec 32 := Scalar.addi c0_i32_3504 v12779
  let c16_i32_3505 : BitVec 32 := 16#32
  let v12781 : BitVec 32 := Scalar.muli v12780 c16_i32_3505
  let v12782 : BitVec 32 := v12781
  let v12783 : Index := Scalar.indexCast v12782
  let c0_3506 : Index := 0#32
  ![v12783.toNat, 0]
def k0_off4 (k0_t2 : Fin k0_t2_loop.trips) : Fin 3 → Nat :=
  let c0_i32_3504 : BitVec 32 := 0#32
  let c0_i32_363 : BitVec 32 := 0#32
  let c1_i32_365 : BitVec 32 := 1#32
  let arg3 : BitVec 32 := Scf.iv c0_i32_363 c1_i32_365 k0_t2
  let c1_i32_3503 : BitVec 32 := 1#32
  let v12779 : BitVec 32 := Scalar.muli arg3 c1_i32_3503
  let v12780 : BitVec 32 := Scalar.addi c0_i32_3504 v12779
  let v12785 : Index := Scalar.indexCast v12780
  let c0_3507 : Index := 0#32
  let c0_3508 : Index := 0#32
  ![v12785.toNat, 0, 0]
def k0_off5 (k0_t2 : Fin k0_t2_loop.trips) : Fin 3 → Nat :=
  let c0_i32_3504 : BitVec 32 := 0#32
  let c0_i32_363 : BitVec 32 := 0#32
  let c1_i32_365 : BitVec 32 := 1#32
  let arg3 : BitVec 32 := Scf.iv c0_i32_363 c1_i32_365 k0_t2
  let c1_i32_3503 : BitVec 32 := 1#32
  let v12779 : BitVec 32 := Scalar.muli arg3 c1_i32_3503
  let v12780 : BitVec 32 := Scalar.addi c0_i32_3504 v12779
  let v12808 : Index := Scalar.indexCast v12780
  let c16 : Index := 16#32
  let c0_3517 : Index := 0#32
  ![v12808.toNat, 16, 0]
@[reducible] def k0_t3_loop : Scf.Loop 32 :=
  let c0_i32_367 : BitVec 32 := 0#32
  let c16_i32_368 : BitVec 32 := 16#32
  let v1427 : BitVec 32 := Scalar.addi c0_i32_367 c16_i32_368
  let c1_i32_369 : BitVec 32 := 1#32
  ⟨c0_i32_367, v1427, c1_i32_369⟩
def k0_off6 (k0_t3 : Fin k0_t3_loop.trips) : Fin 3 → Nat :=
  let c0_i32_3504 : BitVec 32 := 0#32
  let c0_i32_367 : BitVec 32 := 0#32
  let c1_i32_369 : BitVec 32 := 1#32
  let arg3 : BitVec 32 := Scf.iv c0_i32_367 c1_i32_369 k0_t3
  let c1_i32_3503 : BitVec 32 := 1#32
  let v12779 : BitVec 32 := Scalar.muli arg3 c1_i32_3503
  let v12780 : BitVec 32 := Scalar.addi c0_i32_3504 v12779
  let v12781 : Index := Scalar.indexCast v12780
  let c16 : Index := 16#32
  let c16_3505 : Index := 16#32
  ![v12781.toNat, 16, 16]
def k0_mult3 (k0_t3 : Fin k0_t3_loop.trips) : BitVec 32 :=
  let c0_i32_3504 : BitVec 32 := 0#32
  let c0_i32_367 : BitVec 32 := 0#32
  let c1_i32_369 : BitVec 32 := 1#32
  let arg3 : BitVec 32 := Scf.iv c0_i32_367 c1_i32_369 k0_t3
  let c1_i32_3503 : BitVec 32 := 1#32
  let v12779 : BitVec 32 := Scalar.muli arg3 c1_i32_3503
  let v12780 : BitVec 32 := Scalar.addi c0_i32_3504 v12779
  let c16_i32_3506 : BitVec 32 := 16#32
  let v12784 : BitVec 32 := Scalar.muli v12780 c16_i32_3506
  v12784
def k0_off7 (k0_t3 : Fin k0_t3_loop.trips) : Fin 2 → Nat :=
  let c0_i32_3504 : BitVec 32 := 0#32
  let c0_i32_367 : BitVec 32 := 0#32
  let c1_i32_369 : BitVec 32 := 1#32
  let arg3 : BitVec 32 := Scf.iv c0_i32_367 c1_i32_369 k0_t3
  let c1_i32_3503 : BitVec 32 := 1#32
  let v12779 : BitVec 32 := Scalar.muli arg3 c1_i32_3503
  let v12780 : BitVec 32 := Scalar.addi c0_i32_3504 v12779
  let c16_i32_3506 : BitVec 32 := 16#32
  let v12784 : BitVec 32 := Scalar.muli v12780 c16_i32_3506
  let v12785 : BitVec 32 := v12784
  let v12786 : Index := Scalar.indexCast v12785
  let c0_3507 : Index := 0#32
  ![v12786.toNat, 0]
@[reducible] def k0_t4_loop : Scf.Loop 32 :=
  let c0_i32_755 : BitVec 32 := 0#32
  let c16_i32_756 : BitVec 32 := 16#32
  let v2845 : BitVec 32 := Scalar.addi c0_i32_755 c16_i32_756
  let c1_i32_757 : BitVec 32 := 1#32
  ⟨c0_i32_755, v2845, c1_i32_757⟩
def k0_mult4 (k0_t4 : Fin k0_t4_loop.trips) : BitVec 32 :=
  let c0_i32_3504 : BitVec 32 := 0#32
  let c0_i32_755 : BitVec 32 := 0#32
  let c1_i32_757 : BitVec 32 := 1#32
  let arg3 : BitVec 32 := Scf.iv c0_i32_755 c1_i32_757 k0_t4
  let c1_i32_3503 : BitVec 32 := 1#32
  let v12779 : BitVec 32 := Scalar.muli arg3 c1_i32_3503
  let v12780 : BitVec 32 := Scalar.addi c0_i32_3504 v12779
  let c16_i32_3505 : BitVec 32 := 16#32
  let v12781 : BitVec 32 := Scalar.muli v12780 c16_i32_3505
  v12781
def k0_off8 (k0_t4 : Fin k0_t4_loop.trips) : Fin 2 → Nat :=
  let c0_i32_3504 : BitVec 32 := 0#32
  let c0_i32_755 : BitVec 32 := 0#32
  let c1_i32_757 : BitVec 32 := 1#32
  let arg3 : BitVec 32 := Scf.iv c0_i32_755 c1_i32_757 k0_t4
  let c1_i32_3503 : BitVec 32 := 1#32
  let v12779 : BitVec 32 := Scalar.muli arg3 c1_i32_3503
  let v12780 : BitVec 32 := Scalar.addi c0_i32_3504 v12779
  let c16_i32_3505 : BitVec 32 := 16#32
  let v12781 : BitVec 32 := Scalar.muli v12780 c16_i32_3505
  let v12782 : BitVec 32 := v12781
  let v12783 : Index := Scalar.indexCast v12782
  let c0_3506 : Index := 0#32
  ![v12783.toNat, 0]
def k0_off9 (k0_t4 : Fin k0_t4_loop.trips) : Fin 3 → Nat :=
  let c0_i32_3504 : BitVec 32 := 0#32
  let c0_i32_755 : BitVec 32 := 0#32
  let c1_i32_757 : BitVec 32 := 1#32
  let arg3 : BitVec 32 := Scf.iv c0_i32_755 c1_i32_757 k0_t4
  let c1_i32_3503 : BitVec 32 := 1#32
  let v12779 : BitVec 32 := Scalar.muli arg3 c1_i32_3503
  let v12780 : BitVec 32 := Scalar.addi c0_i32_3504 v12779
  let v12785 : Index := Scalar.indexCast v12780
  let c16 : Index := 16#32
  let c0_3507 : Index := 0#32
  ![v12785.toNat, 16, 0]
def k0_off10 (k0_t4 : Fin k0_t4_loop.trips) : Fin 3 → Nat :=
  let c0_i32_3504 : BitVec 32 := 0#32
  let c0_i32_755 : BitVec 32 := 0#32
  let c1_i32_757 : BitVec 32 := 1#32
  let arg3 : BitVec 32 := Scf.iv c0_i32_755 c1_i32_757 k0_t4
  let c1_i32_3503 : BitVec 32 := 1#32
  let v12779 : BitVec 32 := Scalar.muli arg3 c1_i32_3503
  let v12780 : BitVec 32 := Scalar.addi c0_i32_3504 v12779
  let v12808 : Index := Scalar.indexCast v12780
  let c32 : Index := 32#32
  let c0_3515 : Index := 0#32
  ![v12808.toNat, 32, 0]
@[reducible] def k0_t5_loop : Scf.Loop 32 :=
  let c0_i32_759 : BitVec 32 := 0#32
  let c16_i32_760 : BitVec 32 := 16#32
  let v2846 : BitVec 32 := Scalar.addi c0_i32_759 c16_i32_760
  let c1_i32_761 : BitVec 32 := 1#32
  ⟨c0_i32_759, v2846, c1_i32_761⟩
def k0_off11 (k0_t5 : Fin k0_t5_loop.trips) : Fin 3 → Nat :=
  let c0_i32_3504 : BitVec 32 := 0#32
  let c0_i32_759 : BitVec 32 := 0#32
  let c1_i32_761 : BitVec 32 := 1#32
  let arg3 : BitVec 32 := Scf.iv c0_i32_759 c1_i32_761 k0_t5
  let c1_i32_3503 : BitVec 32 := 1#32
  let v12779 : BitVec 32 := Scalar.muli arg3 c1_i32_3503
  let v12780 : BitVec 32 := Scalar.addi c0_i32_3504 v12779
  let v12781 : Index := Scalar.indexCast v12780
  let c32 : Index := 32#32
  let c32_3505 : Index := 32#32
  ![v12781.toNat, 32, 32]
def k0_mult5 (k0_t5 : Fin k0_t5_loop.trips) : BitVec 32 :=
  let c0_i32_3504 : BitVec 32 := 0#32
  let c0_i32_759 : BitVec 32 := 0#32
  let c1_i32_761 : BitVec 32 := 1#32
  let arg3 : BitVec 32 := Scf.iv c0_i32_759 c1_i32_761 k0_t5
  let c1_i32_3503 : BitVec 32 := 1#32
  let v12779 : BitVec 32 := Scalar.muli arg3 c1_i32_3503
  let v12780 : BitVec 32 := Scalar.addi c0_i32_3504 v12779
  let c16_i32_3506 : BitVec 32 := 16#32
  let v12784 : BitVec 32 := Scalar.muli v12780 c16_i32_3506
  v12784
def k0_off12 (k0_t5 : Fin k0_t5_loop.trips) : Fin 2 → Nat :=
  let c0_i32_3504 : BitVec 32 := 0#32
  let c0_i32_759 : BitVec 32 := 0#32
  let c1_i32_761 : BitVec 32 := 1#32
  let arg3 : BitVec 32 := Scf.iv c0_i32_759 c1_i32_761 k0_t5
  let c1_i32_3503 : BitVec 32 := 1#32
  let v12779 : BitVec 32 := Scalar.muli arg3 c1_i32_3503
  let v12780 : BitVec 32 := Scalar.addi c0_i32_3504 v12779
  let c16_i32_3506 : BitVec 32 := 16#32
  let v12784 : BitVec 32 := Scalar.muli v12780 c16_i32_3506
  let v12785 : BitVec 32 := v12784
  let v12786 : Index := Scalar.indexCast v12785
  let c0_3507 : Index := 0#32
  ![v12786.toNat, 0]
@[reducible] def k0_t6_loop : Scf.Loop 32 :=
  let c0_i32_1147 : BitVec 32 := 0#32
  let c16_i32_1148 : BitVec 32 := 16#32
  let v4264 : BitVec 32 := Scalar.addi c0_i32_1147 c16_i32_1148
  let c1_i32_1149 : BitVec 32 := 1#32
  ⟨c0_i32_1147, v4264, c1_i32_1149⟩
def k0_mult6 (k0_t6 : Fin k0_t6_loop.trips) : BitVec 32 :=
  let c0_i32_3504 : BitVec 32 := 0#32
  let c0_i32_1147 : BitVec 32 := 0#32
  let c1_i32_1149 : BitVec 32 := 1#32
  let arg3 : BitVec 32 := Scf.iv c0_i32_1147 c1_i32_1149 k0_t6
  let c1_i32_3503 : BitVec 32 := 1#32
  let v12779 : BitVec 32 := Scalar.muli arg3 c1_i32_3503
  let v12780 : BitVec 32 := Scalar.addi c0_i32_3504 v12779
  let c16_i32_3505 : BitVec 32 := 16#32
  let v12781 : BitVec 32 := Scalar.muli v12780 c16_i32_3505
  v12781
def k0_off13 (k0_t6 : Fin k0_t6_loop.trips) : Fin 2 → Nat :=
  let c0_i32_3504 : BitVec 32 := 0#32
  let c0_i32_1147 : BitVec 32 := 0#32
  let c1_i32_1149 : BitVec 32 := 1#32
  let arg3 : BitVec 32 := Scf.iv c0_i32_1147 c1_i32_1149 k0_t6
  let c1_i32_3503 : BitVec 32 := 1#32
  let v12779 : BitVec 32 := Scalar.muli arg3 c1_i32_3503
  let v12780 : BitVec 32 := Scalar.addi c0_i32_3504 v12779
  let c16_i32_3505 : BitVec 32 := 16#32
  let v12781 : BitVec 32 := Scalar.muli v12780 c16_i32_3505
  let v12782 : BitVec 32 := v12781
  let v12783 : Index := Scalar.indexCast v12782
  let c0_3506 : Index := 0#32
  ![v12783.toNat, 0]
def k0_off14 (k0_t6 : Fin k0_t6_loop.trips) : Fin 3 → Nat :=
  let c0_i32_3504 : BitVec 32 := 0#32
  let c0_i32_1147 : BitVec 32 := 0#32
  let c1_i32_1149 : BitVec 32 := 1#32
  let arg3 : BitVec 32 := Scf.iv c0_i32_1147 c1_i32_1149 k0_t6
  let c1_i32_3503 : BitVec 32 := 1#32
  let v12779 : BitVec 32 := Scalar.muli arg3 c1_i32_3503
  let v12780 : BitVec 32 := Scalar.addi c0_i32_3504 v12779
  let v12785 : Index := Scalar.indexCast v12780
  let c32 : Index := 32#32
  let c0_3507 : Index := 0#32
  ![v12785.toNat, 32, 0]
def k0_off15 (k0_t6 : Fin k0_t6_loop.trips) : Fin 3 → Nat :=
  let c0_i32_3504 : BitVec 32 := 0#32
  let c0_i32_1147 : BitVec 32 := 0#32
  let c1_i32_1149 : BitVec 32 := 1#32
  let arg3 : BitVec 32 := Scf.iv c0_i32_1147 c1_i32_1149 k0_t6
  let c1_i32_3503 : BitVec 32 := 1#32
  let v12779 : BitVec 32 := Scalar.muli arg3 c1_i32_3503
  let v12780 : BitVec 32 := Scalar.addi c0_i32_3504 v12779
  let v12808 : Index := Scalar.indexCast v12780
  let c48 : Index := 48#32
  let c0_3514 : Index := 0#32
  ![v12808.toNat, 48, 0]
@[reducible] def k0_t7_loop : Scf.Loop 32 :=
  let c0_i32_1151 : BitVec 32 := 0#32
  let c16_i32_1152 : BitVec 32 := 16#32
  let v4265 : BitVec 32 := Scalar.addi c0_i32_1151 c16_i32_1152
  let c1_i32_1153 : BitVec 32 := 1#32
  ⟨c0_i32_1151, v4265, c1_i32_1153⟩
def k0_off16 (k0_t7 : Fin k0_t7_loop.trips) : Fin 3 → Nat :=
  let c0_i32_3504 : BitVec 32 := 0#32
  let c0_i32_1151 : BitVec 32 := 0#32
  let c1_i32_1153 : BitVec 32 := 1#32
  let arg3 : BitVec 32 := Scf.iv c0_i32_1151 c1_i32_1153 k0_t7
  let c1_i32_3503 : BitVec 32 := 1#32
  let v12779 : BitVec 32 := Scalar.muli arg3 c1_i32_3503
  let v12780 : BitVec 32 := Scalar.addi c0_i32_3504 v12779
  let v12781 : Index := Scalar.indexCast v12780
  let c48 : Index := 48#32
  let c48_3505 : Index := 48#32
  ![v12781.toNat, 48, 48]
def k0_mult7 (k0_t7 : Fin k0_t7_loop.trips) : BitVec 32 :=
  let c0_i32_3504 : BitVec 32 := 0#32
  let c0_i32_1151 : BitVec 32 := 0#32
  let c1_i32_1153 : BitVec 32 := 1#32
  let arg3 : BitVec 32 := Scf.iv c0_i32_1151 c1_i32_1153 k0_t7
  let c1_i32_3503 : BitVec 32 := 1#32
  let v12779 : BitVec 32 := Scalar.muli arg3 c1_i32_3503
  let v12780 : BitVec 32 := Scalar.addi c0_i32_3504 v12779
  let c16_i32_3506 : BitVec 32 := 16#32
  let v12784 : BitVec 32 := Scalar.muli v12780 c16_i32_3506
  v12784
def k0_off17 (k0_t7 : Fin k0_t7_loop.trips) : Fin 2 → Nat :=
  let c0_i32_3504 : BitVec 32 := 0#32
  let c0_i32_1151 : BitVec 32 := 0#32
  let c1_i32_1153 : BitVec 32 := 1#32
  let arg3 : BitVec 32 := Scf.iv c0_i32_1151 c1_i32_1153 k0_t7
  let c1_i32_3503 : BitVec 32 := 1#32
  let v12779 : BitVec 32 := Scalar.muli arg3 c1_i32_3503
  let v12780 : BitVec 32 := Scalar.addi c0_i32_3504 v12779
  let c16_i32_3506 : BitVec 32 := 16#32
  let v12784 : BitVec 32 := Scalar.muli v12780 c16_i32_3506
  let v12785 : BitVec 32 := v12784
  let v12786 : Index := Scalar.indexCast v12785
  let c0_3507 : Index := 0#32
  ![v12786.toNat, 0]
@[reducible] def k0_t8_loop : Scf.Loop 32 :=
  let c0_i32_1539 : BitVec 32 := 0#32
  let c16_i32_1540 : BitVec 32 := 16#32
  let v5683 : BitVec 32 := Scalar.addi c0_i32_1539 c16_i32_1540
  let c1_i32_1541 : BitVec 32 := 1#32
  ⟨c0_i32_1539, v5683, c1_i32_1541⟩
def k0_mult8 (k0_t8 : Fin k0_t8_loop.trips) : BitVec 32 :=
  let c0_i32_3504 : BitVec 32 := 0#32
  let c0_i32_1539 : BitVec 32 := 0#32
  let c1_i32_1541 : BitVec 32 := 1#32
  let arg3 : BitVec 32 := Scf.iv c0_i32_1539 c1_i32_1541 k0_t8
  let c1_i32_3503 : BitVec 32 := 1#32
  let v12779 : BitVec 32 := Scalar.muli arg3 c1_i32_3503
  let v12780 : BitVec 32 := Scalar.addi c0_i32_3504 v12779
  let c16_i32_3505 : BitVec 32 := 16#32
  let v12781 : BitVec 32 := Scalar.muli v12780 c16_i32_3505
  v12781
def k0_off18 (k0_t8 : Fin k0_t8_loop.trips) : Fin 2 → Nat :=
  let c0_i32_3504 : BitVec 32 := 0#32
  let c0_i32_1539 : BitVec 32 := 0#32
  let c1_i32_1541 : BitVec 32 := 1#32
  let arg3 : BitVec 32 := Scf.iv c0_i32_1539 c1_i32_1541 k0_t8
  let c1_i32_3503 : BitVec 32 := 1#32
  let v12779 : BitVec 32 := Scalar.muli arg3 c1_i32_3503
  let v12780 : BitVec 32 := Scalar.addi c0_i32_3504 v12779
  let c16_i32_3505 : BitVec 32 := 16#32
  let v12781 : BitVec 32 := Scalar.muli v12780 c16_i32_3505
  let v12782 : BitVec 32 := v12781
  let v12783 : Index := Scalar.indexCast v12782
  let c0_3506 : Index := 0#32
  ![v12783.toNat, 0]
def k0_off19 (k0_t8 : Fin k0_t8_loop.trips) : Fin 3 → Nat :=
  let c0_i32_3504 : BitVec 32 := 0#32
  let c0_i32_1539 : BitVec 32 := 0#32
  let c1_i32_1541 : BitVec 32 := 1#32
  let arg3 : BitVec 32 := Scf.iv c0_i32_1539 c1_i32_1541 k0_t8
  let c1_i32_3503 : BitVec 32 := 1#32
  let v12779 : BitVec 32 := Scalar.muli arg3 c1_i32_3503
  let v12780 : BitVec 32 := Scalar.addi c0_i32_3504 v12779
  let v12785 : Index := Scalar.indexCast v12780
  let c48 : Index := 48#32
  let c0_3507 : Index := 0#32
  ![v12785.toNat, 48, 0]
def k0_off20 (k0_t8 : Fin k0_t8_loop.trips) : Fin 3 → Nat :=
  let c0_i32_3504 : BitVec 32 := 0#32
  let c0_i32_1539 : BitVec 32 := 0#32
  let c1_i32_1541 : BitVec 32 := 1#32
  let arg3 : BitVec 32 := Scf.iv c0_i32_1539 c1_i32_1541 k0_t8
  let c1_i32_3503 : BitVec 32 := 1#32
  let v12779 : BitVec 32 := Scalar.muli arg3 c1_i32_3503
  let v12780 : BitVec 32 := Scalar.addi c0_i32_3504 v12779
  let v12808 : Index := Scalar.indexCast v12780
  let c64 : Index := 64#32
  let c0_3514 : Index := 0#32
  ![v12808.toNat, 64, 0]
@[reducible] def k0_t9_loop : Scf.Loop 32 :=
  let c0_i32_1543 : BitVec 32 := 0#32
  let c16_i32_1544 : BitVec 32 := 16#32
  let v5684 : BitVec 32 := Scalar.addi c0_i32_1543 c16_i32_1544
  let c1_i32_1545 : BitVec 32 := 1#32
  ⟨c0_i32_1543, v5684, c1_i32_1545⟩
def k0_off21 (k0_t9 : Fin k0_t9_loop.trips) : Fin 3 → Nat :=
  let c0_i32_3504 : BitVec 32 := 0#32
  let c0_i32_1543 : BitVec 32 := 0#32
  let c1_i32_1545 : BitVec 32 := 1#32
  let arg3 : BitVec 32 := Scf.iv c0_i32_1543 c1_i32_1545 k0_t9
  let c1_i32_3503 : BitVec 32 := 1#32
  let v12779 : BitVec 32 := Scalar.muli arg3 c1_i32_3503
  let v12780 : BitVec 32 := Scalar.addi c0_i32_3504 v12779
  let v12781 : Index := Scalar.indexCast v12780
  let c64 : Index := 64#32
  let c64_3505 : Index := 64#32
  ![v12781.toNat, 64, 64]
def k0_mult9 (k0_t9 : Fin k0_t9_loop.trips) : BitVec 32 :=
  let c0_i32_3504 : BitVec 32 := 0#32
  let c0_i32_1543 : BitVec 32 := 0#32
  let c1_i32_1545 : BitVec 32 := 1#32
  let arg3 : BitVec 32 := Scf.iv c0_i32_1543 c1_i32_1545 k0_t9
  let c1_i32_3503 : BitVec 32 := 1#32
  let v12779 : BitVec 32 := Scalar.muli arg3 c1_i32_3503
  let v12780 : BitVec 32 := Scalar.addi c0_i32_3504 v12779
  let c16_i32_3506 : BitVec 32 := 16#32
  let v12784 : BitVec 32 := Scalar.muli v12780 c16_i32_3506
  v12784
def k0_off22 (k0_t9 : Fin k0_t9_loop.trips) : Fin 2 → Nat :=
  let c0_i32_3504 : BitVec 32 := 0#32
  let c0_i32_1543 : BitVec 32 := 0#32
  let c1_i32_1545 : BitVec 32 := 1#32
  let arg3 : BitVec 32 := Scf.iv c0_i32_1543 c1_i32_1545 k0_t9
  let c1_i32_3503 : BitVec 32 := 1#32
  let v12779 : BitVec 32 := Scalar.muli arg3 c1_i32_3503
  let v12780 : BitVec 32 := Scalar.addi c0_i32_3504 v12779
  let c16_i32_3506 : BitVec 32 := 16#32
  let v12784 : BitVec 32 := Scalar.muli v12780 c16_i32_3506
  let v12785 : BitVec 32 := v12784
  let v12786 : Index := Scalar.indexCast v12785
  let c0_3507 : Index := 0#32
  ![v12786.toNat, 0]
@[reducible] def k0_t10_loop : Scf.Loop 32 :=
  let c0_i32_1931 : BitVec 32 := 0#32
  let c16_i32_1932 : BitVec 32 := 16#32
  let v7102 : BitVec 32 := Scalar.addi c0_i32_1931 c16_i32_1932
  let c1_i32_1933 : BitVec 32 := 1#32
  ⟨c0_i32_1931, v7102, c1_i32_1933⟩
def k0_mult10 (k0_t10 : Fin k0_t10_loop.trips) : BitVec 32 :=
  let c0_i32_3504 : BitVec 32 := 0#32
  let c0_i32_1931 : BitVec 32 := 0#32
  let c1_i32_1933 : BitVec 32 := 1#32
  let arg3 : BitVec 32 := Scf.iv c0_i32_1931 c1_i32_1933 k0_t10
  let c1_i32_3503 : BitVec 32 := 1#32
  let v12779 : BitVec 32 := Scalar.muli arg3 c1_i32_3503
  let v12780 : BitVec 32 := Scalar.addi c0_i32_3504 v12779
  let c16_i32_3505 : BitVec 32 := 16#32
  let v12781 : BitVec 32 := Scalar.muli v12780 c16_i32_3505
  v12781
def k0_off23 (k0_t10 : Fin k0_t10_loop.trips) : Fin 2 → Nat :=
  let c0_i32_3504 : BitVec 32 := 0#32
  let c0_i32_1931 : BitVec 32 := 0#32
  let c1_i32_1933 : BitVec 32 := 1#32
  let arg3 : BitVec 32 := Scf.iv c0_i32_1931 c1_i32_1933 k0_t10
  let c1_i32_3503 : BitVec 32 := 1#32
  let v12779 : BitVec 32 := Scalar.muli arg3 c1_i32_3503
  let v12780 : BitVec 32 := Scalar.addi c0_i32_3504 v12779
  let c16_i32_3505 : BitVec 32 := 16#32
  let v12781 : BitVec 32 := Scalar.muli v12780 c16_i32_3505
  let v12782 : BitVec 32 := v12781
  let v12783 : Index := Scalar.indexCast v12782
  let c0_3506 : Index := 0#32
  ![v12783.toNat, 0]
def k0_off24 (k0_t10 : Fin k0_t10_loop.trips) : Fin 3 → Nat :=
  let c0_i32_3504 : BitVec 32 := 0#32
  let c0_i32_1931 : BitVec 32 := 0#32
  let c1_i32_1933 : BitVec 32 := 1#32
  let arg3 : BitVec 32 := Scf.iv c0_i32_1931 c1_i32_1933 k0_t10
  let c1_i32_3503 : BitVec 32 := 1#32
  let v12779 : BitVec 32 := Scalar.muli arg3 c1_i32_3503
  let v12780 : BitVec 32 := Scalar.addi c0_i32_3504 v12779
  let v12785 : Index := Scalar.indexCast v12780
  let c64 : Index := 64#32
  let c0_3507 : Index := 0#32
  ![v12785.toNat, 64, 0]
def k0_off25 (k0_t10 : Fin k0_t10_loop.trips) : Fin 3 → Nat :=
  let c0_i32_3504 : BitVec 32 := 0#32
  let c0_i32_1931 : BitVec 32 := 0#32
  let c1_i32_1933 : BitVec 32 := 1#32
  let arg3 : BitVec 32 := Scf.iv c0_i32_1931 c1_i32_1933 k0_t10
  let c1_i32_3503 : BitVec 32 := 1#32
  let v12779 : BitVec 32 := Scalar.muli arg3 c1_i32_3503
  let v12780 : BitVec 32 := Scalar.addi c0_i32_3504 v12779
  let v12808 : Index := Scalar.indexCast v12780
  let c80 : Index := 80#32
  let c0_3514 : Index := 0#32
  ![v12808.toNat, 80, 0]
@[reducible] def k0_t11_loop : Scf.Loop 32 :=
  let c0_i32_1935 : BitVec 32 := 0#32
  let c16_i32_1936 : BitVec 32 := 16#32
  let v7103 : BitVec 32 := Scalar.addi c0_i32_1935 c16_i32_1936
  let c1_i32_1937 : BitVec 32 := 1#32
  ⟨c0_i32_1935, v7103, c1_i32_1937⟩
def k0_off26 (k0_t11 : Fin k0_t11_loop.trips) : Fin 3 → Nat :=
  let c0_i32_3504 : BitVec 32 := 0#32
  let c0_i32_1935 : BitVec 32 := 0#32
  let c1_i32_1937 : BitVec 32 := 1#32
  let arg3 : BitVec 32 := Scf.iv c0_i32_1935 c1_i32_1937 k0_t11
  let c1_i32_3503 : BitVec 32 := 1#32
  let v12779 : BitVec 32 := Scalar.muli arg3 c1_i32_3503
  let v12780 : BitVec 32 := Scalar.addi c0_i32_3504 v12779
  let v12781 : Index := Scalar.indexCast v12780
  let c80 : Index := 80#32
  let c80_3505 : Index := 80#32
  ![v12781.toNat, 80, 80]
def k0_mult11 (k0_t11 : Fin k0_t11_loop.trips) : BitVec 32 :=
  let c0_i32_3504 : BitVec 32 := 0#32
  let c0_i32_1935 : BitVec 32 := 0#32
  let c1_i32_1937 : BitVec 32 := 1#32
  let arg3 : BitVec 32 := Scf.iv c0_i32_1935 c1_i32_1937 k0_t11
  let c1_i32_3503 : BitVec 32 := 1#32
  let v12779 : BitVec 32 := Scalar.muli arg3 c1_i32_3503
  let v12780 : BitVec 32 := Scalar.addi c0_i32_3504 v12779
  let c16_i32_3506 : BitVec 32 := 16#32
  let v12784 : BitVec 32 := Scalar.muli v12780 c16_i32_3506
  v12784
def k0_off27 (k0_t11 : Fin k0_t11_loop.trips) : Fin 2 → Nat :=
  let c0_i32_3504 : BitVec 32 := 0#32
  let c0_i32_1935 : BitVec 32 := 0#32
  let c1_i32_1937 : BitVec 32 := 1#32
  let arg3 : BitVec 32 := Scf.iv c0_i32_1935 c1_i32_1937 k0_t11
  let c1_i32_3503 : BitVec 32 := 1#32
  let v12779 : BitVec 32 := Scalar.muli arg3 c1_i32_3503
  let v12780 : BitVec 32 := Scalar.addi c0_i32_3504 v12779
  let c16_i32_3506 : BitVec 32 := 16#32
  let v12784 : BitVec 32 := Scalar.muli v12780 c16_i32_3506
  let v12785 : BitVec 32 := v12784
  let v12786 : Index := Scalar.indexCast v12785
  let c0_3507 : Index := 0#32
  ![v12786.toNat, 0]
@[reducible] def k0_t12_loop : Scf.Loop 32 :=
  let c0_i32_2323 : BitVec 32 := 0#32
  let c16_i32_2324 : BitVec 32 := 16#32
  let v8521 : BitVec 32 := Scalar.addi c0_i32_2323 c16_i32_2324
  let c1_i32_2325 : BitVec 32 := 1#32
  ⟨c0_i32_2323, v8521, c1_i32_2325⟩
def k0_mult12 (k0_t12 : Fin k0_t12_loop.trips) : BitVec 32 :=
  let c0_i32_3504 : BitVec 32 := 0#32
  let c0_i32_2323 : BitVec 32 := 0#32
  let c1_i32_2325 : BitVec 32 := 1#32
  let arg3 : BitVec 32 := Scf.iv c0_i32_2323 c1_i32_2325 k0_t12
  let c1_i32_3503 : BitVec 32 := 1#32
  let v12779 : BitVec 32 := Scalar.muli arg3 c1_i32_3503
  let v12780 : BitVec 32 := Scalar.addi c0_i32_3504 v12779
  let c16_i32_3505 : BitVec 32 := 16#32
  let v12781 : BitVec 32 := Scalar.muli v12780 c16_i32_3505
  v12781
def k0_off28 (k0_t12 : Fin k0_t12_loop.trips) : Fin 2 → Nat :=
  let c0_i32_3504 : BitVec 32 := 0#32
  let c0_i32_2323 : BitVec 32 := 0#32
  let c1_i32_2325 : BitVec 32 := 1#32
  let arg3 : BitVec 32 := Scf.iv c0_i32_2323 c1_i32_2325 k0_t12
  let c1_i32_3503 : BitVec 32 := 1#32
  let v12779 : BitVec 32 := Scalar.muli arg3 c1_i32_3503
  let v12780 : BitVec 32 := Scalar.addi c0_i32_3504 v12779
  let c16_i32_3505 : BitVec 32 := 16#32
  let v12781 : BitVec 32 := Scalar.muli v12780 c16_i32_3505
  let v12782 : BitVec 32 := v12781
  let v12783 : Index := Scalar.indexCast v12782
  let c0_3506 : Index := 0#32
  ![v12783.toNat, 0]
def k0_off29 (k0_t12 : Fin k0_t12_loop.trips) : Fin 3 → Nat :=
  let c0_i32_3504 : BitVec 32 := 0#32
  let c0_i32_2323 : BitVec 32 := 0#32
  let c1_i32_2325 : BitVec 32 := 1#32
  let arg3 : BitVec 32 := Scf.iv c0_i32_2323 c1_i32_2325 k0_t12
  let c1_i32_3503 : BitVec 32 := 1#32
  let v12779 : BitVec 32 := Scalar.muli arg3 c1_i32_3503
  let v12780 : BitVec 32 := Scalar.addi c0_i32_3504 v12779
  let v12785 : Index := Scalar.indexCast v12780
  let c80 : Index := 80#32
  let c0_3507 : Index := 0#32
  ![v12785.toNat, 80, 0]
def k0_off30 (k0_t12 : Fin k0_t12_loop.trips) : Fin 3 → Nat :=
  let c0_i32_3504 : BitVec 32 := 0#32
  let c0_i32_2323 : BitVec 32 := 0#32
  let c1_i32_2325 : BitVec 32 := 1#32
  let arg3 : BitVec 32 := Scf.iv c0_i32_2323 c1_i32_2325 k0_t12
  let c1_i32_3503 : BitVec 32 := 1#32
  let v12779 : BitVec 32 := Scalar.muli arg3 c1_i32_3503
  let v12780 : BitVec 32 := Scalar.addi c0_i32_3504 v12779
  let v12808 : Index := Scalar.indexCast v12780
  let c96 : Index := 96#32
  let c0_3514 : Index := 0#32
  ![v12808.toNat, 96, 0]
@[reducible] def k0_t13_loop : Scf.Loop 32 :=
  let c0_i32_2327 : BitVec 32 := 0#32
  let c16_i32_2328 : BitVec 32 := 16#32
  let v8522 : BitVec 32 := Scalar.addi c0_i32_2327 c16_i32_2328
  let c1_i32_2329 : BitVec 32 := 1#32
  ⟨c0_i32_2327, v8522, c1_i32_2329⟩
def k0_off31 (k0_t13 : Fin k0_t13_loop.trips) : Fin 3 → Nat :=
  let c0_i32_3504 : BitVec 32 := 0#32
  let c0_i32_2327 : BitVec 32 := 0#32
  let c1_i32_2329 : BitVec 32 := 1#32
  let arg3 : BitVec 32 := Scf.iv c0_i32_2327 c1_i32_2329 k0_t13
  let c1_i32_3503 : BitVec 32 := 1#32
  let v12779 : BitVec 32 := Scalar.muli arg3 c1_i32_3503
  let v12780 : BitVec 32 := Scalar.addi c0_i32_3504 v12779
  let v12781 : Index := Scalar.indexCast v12780
  let c96 : Index := 96#32
  let c96_3505 : Index := 96#32
  ![v12781.toNat, 96, 96]
def k0_mult13 (k0_t13 : Fin k0_t13_loop.trips) : BitVec 32 :=
  let c0_i32_3504 : BitVec 32 := 0#32
  let c0_i32_2327 : BitVec 32 := 0#32
  let c1_i32_2329 : BitVec 32 := 1#32
  let arg3 : BitVec 32 := Scf.iv c0_i32_2327 c1_i32_2329 k0_t13
  let c1_i32_3503 : BitVec 32 := 1#32
  let v12779 : BitVec 32 := Scalar.muli arg3 c1_i32_3503
  let v12780 : BitVec 32 := Scalar.addi c0_i32_3504 v12779
  let c16_i32_3506 : BitVec 32 := 16#32
  let v12784 : BitVec 32 := Scalar.muli v12780 c16_i32_3506
  v12784
def k0_off32 (k0_t13 : Fin k0_t13_loop.trips) : Fin 2 → Nat :=
  let c0_i32_3504 : BitVec 32 := 0#32
  let c0_i32_2327 : BitVec 32 := 0#32
  let c1_i32_2329 : BitVec 32 := 1#32
  let arg3 : BitVec 32 := Scf.iv c0_i32_2327 c1_i32_2329 k0_t13
  let c1_i32_3503 : BitVec 32 := 1#32
  let v12779 : BitVec 32 := Scalar.muli arg3 c1_i32_3503
  let v12780 : BitVec 32 := Scalar.addi c0_i32_3504 v12779
  let c16_i32_3506 : BitVec 32 := 16#32
  let v12784 : BitVec 32 := Scalar.muli v12780 c16_i32_3506
  let v12785 : BitVec 32 := v12784
  let v12786 : Index := Scalar.indexCast v12785
  let c0_3507 : Index := 0#32
  ![v12786.toNat, 0]
@[reducible] def k0_t14_loop : Scf.Loop 32 :=
  let c0_i32_2715 : BitVec 32 := 0#32
  let c16_i32_2716 : BitVec 32 := 16#32
  let v9940 : BitVec 32 := Scalar.addi c0_i32_2715 c16_i32_2716
  let c1_i32_2717 : BitVec 32 := 1#32
  ⟨c0_i32_2715, v9940, c1_i32_2717⟩
def k0_mult14 (k0_t14 : Fin k0_t14_loop.trips) : BitVec 32 :=
  let c0_i32_3504 : BitVec 32 := 0#32
  let c0_i32_2715 : BitVec 32 := 0#32
  let c1_i32_2717 : BitVec 32 := 1#32
  let arg3 : BitVec 32 := Scf.iv c0_i32_2715 c1_i32_2717 k0_t14
  let c1_i32_3503 : BitVec 32 := 1#32
  let v12779 : BitVec 32 := Scalar.muli arg3 c1_i32_3503
  let v12780 : BitVec 32 := Scalar.addi c0_i32_3504 v12779
  let c16_i32_3505 : BitVec 32 := 16#32
  let v12781 : BitVec 32 := Scalar.muli v12780 c16_i32_3505
  v12781
def k0_off33 (k0_t14 : Fin k0_t14_loop.trips) : Fin 2 → Nat :=
  let c0_i32_3504 : BitVec 32 := 0#32
  let c0_i32_2715 : BitVec 32 := 0#32
  let c1_i32_2717 : BitVec 32 := 1#32
  let arg3 : BitVec 32 := Scf.iv c0_i32_2715 c1_i32_2717 k0_t14
  let c1_i32_3503 : BitVec 32 := 1#32
  let v12779 : BitVec 32 := Scalar.muli arg3 c1_i32_3503
  let v12780 : BitVec 32 := Scalar.addi c0_i32_3504 v12779
  let c16_i32_3505 : BitVec 32 := 16#32
  let v12781 : BitVec 32 := Scalar.muli v12780 c16_i32_3505
  let v12782 : BitVec 32 := v12781
  let v12783 : Index := Scalar.indexCast v12782
  let c0_3506 : Index := 0#32
  ![v12783.toNat, 0]
def k0_off34 (k0_t14 : Fin k0_t14_loop.trips) : Fin 3 → Nat :=
  let c0_i32_3504 : BitVec 32 := 0#32
  let c0_i32_2715 : BitVec 32 := 0#32
  let c1_i32_2717 : BitVec 32 := 1#32
  let arg3 : BitVec 32 := Scf.iv c0_i32_2715 c1_i32_2717 k0_t14
  let c1_i32_3503 : BitVec 32 := 1#32
  let v12779 : BitVec 32 := Scalar.muli arg3 c1_i32_3503
  let v12780 : BitVec 32 := Scalar.addi c0_i32_3504 v12779
  let v12785 : Index := Scalar.indexCast v12780
  let c96 : Index := 96#32
  let c0_3507 : Index := 0#32
  ![v12785.toNat, 96, 0]
def k0_off35 (k0_t14 : Fin k0_t14_loop.trips) : Fin 3 → Nat :=
  let c0_i32_3504 : BitVec 32 := 0#32
  let c0_i32_2715 : BitVec 32 := 0#32
  let c1_i32_2717 : BitVec 32 := 1#32
  let arg3 : BitVec 32 := Scf.iv c0_i32_2715 c1_i32_2717 k0_t14
  let c1_i32_3503 : BitVec 32 := 1#32
  let v12779 : BitVec 32 := Scalar.muli arg3 c1_i32_3503
  let v12780 : BitVec 32 := Scalar.addi c0_i32_3504 v12779
  let v12808 : Index := Scalar.indexCast v12780
  let c112 : Index := 112#32
  let c0_3514 : Index := 0#32
  ![v12808.toNat, 112, 0]
@[reducible] def k0_t15_loop : Scf.Loop 32 :=
  let c0_i32_2719 : BitVec 32 := 0#32
  let c16_i32_2720 : BitVec 32 := 16#32
  let v9941 : BitVec 32 := Scalar.addi c0_i32_2719 c16_i32_2720
  let c1_i32_2721 : BitVec 32 := 1#32
  ⟨c0_i32_2719, v9941, c1_i32_2721⟩
def k0_off36 (k0_t15 : Fin k0_t15_loop.trips) : Fin 3 → Nat :=
  let c0_i32_3504 : BitVec 32 := 0#32
  let c0_i32_2719 : BitVec 32 := 0#32
  let c1_i32_2721 : BitVec 32 := 1#32
  let arg3 : BitVec 32 := Scf.iv c0_i32_2719 c1_i32_2721 k0_t15
  let c1_i32_3503 : BitVec 32 := 1#32
  let v12779 : BitVec 32 := Scalar.muli arg3 c1_i32_3503
  let v12780 : BitVec 32 := Scalar.addi c0_i32_3504 v12779
  let v12781 : Index := Scalar.indexCast v12780
  let c112 : Index := 112#32
  let c112_3505 : Index := 112#32
  ![v12781.toNat, 112, 112]
def k0_mult15 (k0_t15 : Fin k0_t15_loop.trips) : BitVec 32 :=
  let c0_i32_3504 : BitVec 32 := 0#32
  let c0_i32_2719 : BitVec 32 := 0#32
  let c1_i32_2721 : BitVec 32 := 1#32
  let arg3 : BitVec 32 := Scf.iv c0_i32_2719 c1_i32_2721 k0_t15
  let c1_i32_3503 : BitVec 32 := 1#32
  let v12779 : BitVec 32 := Scalar.muli arg3 c1_i32_3503
  let v12780 : BitVec 32 := Scalar.addi c0_i32_3504 v12779
  let c16_i32_3506 : BitVec 32 := 16#32
  let v12784 : BitVec 32 := Scalar.muli v12780 c16_i32_3506
  v12784
def k0_off37 (k0_t15 : Fin k0_t15_loop.trips) : Fin 2 → Nat :=
  let c0_i32_3504 : BitVec 32 := 0#32
  let c0_i32_2719 : BitVec 32 := 0#32
  let c1_i32_2721 : BitVec 32 := 1#32
  let arg3 : BitVec 32 := Scf.iv c0_i32_2719 c1_i32_2721 k0_t15
  let c1_i32_3503 : BitVec 32 := 1#32
  let v12779 : BitVec 32 := Scalar.muli arg3 c1_i32_3503
  let v12780 : BitVec 32 := Scalar.addi c0_i32_3504 v12779
  let c16_i32_3506 : BitVec 32 := 16#32
  let v12784 : BitVec 32 := Scalar.muli v12780 c16_i32_3506
  let v12785 : BitVec 32 := v12784
  let v12786 : Index := Scalar.indexCast v12785
  let c0_3507 : Index := 0#32
  ![v12786.toNat, 0]
@[reducible] def k0_t16_loop : Scf.Loop 32 :=
  let c0_i32_3107 : BitVec 32 := 0#32
  let c16_i32_3108 : BitVec 32 := 16#32
  let v11359 : BitVec 32 := Scalar.addi c0_i32_3107 c16_i32_3108
  let c1_i32_3109 : BitVec 32 := 1#32
  ⟨c0_i32_3107, v11359, c1_i32_3109⟩
def k0_mult16 (k0_t16 : Fin k0_t16_loop.trips) : BitVec 32 :=
  let c0_i32_3504 : BitVec 32 := 0#32
  let c0_i32_3107 : BitVec 32 := 0#32
  let c1_i32_3109 : BitVec 32 := 1#32
  let arg3 : BitVec 32 := Scf.iv c0_i32_3107 c1_i32_3109 k0_t16
  let c1_i32_3503 : BitVec 32 := 1#32
  let v12779 : BitVec 32 := Scalar.muli arg3 c1_i32_3503
  let v12780 : BitVec 32 := Scalar.addi c0_i32_3504 v12779
  let c16_i32_3505 : BitVec 32 := 16#32
  let v12781 : BitVec 32 := Scalar.muli v12780 c16_i32_3505
  v12781
def k0_off38 (k0_t16 : Fin k0_t16_loop.trips) : Fin 2 → Nat :=
  let c0_i32_3504 : BitVec 32 := 0#32
  let c0_i32_3107 : BitVec 32 := 0#32
  let c1_i32_3109 : BitVec 32 := 1#32
  let arg3 : BitVec 32 := Scf.iv c0_i32_3107 c1_i32_3109 k0_t16
  let c1_i32_3503 : BitVec 32 := 1#32
  let v12779 : BitVec 32 := Scalar.muli arg3 c1_i32_3503
  let v12780 : BitVec 32 := Scalar.addi c0_i32_3504 v12779
  let c16_i32_3505 : BitVec 32 := 16#32
  let v12781 : BitVec 32 := Scalar.muli v12780 c16_i32_3505
  let v12782 : BitVec 32 := v12781
  let v12783 : Index := Scalar.indexCast v12782
  let c0_3506 : Index := 0#32
  ![v12783.toNat, 0]
def k0_off39 (k0_t16 : Fin k0_t16_loop.trips) : Fin 3 → Nat :=
  let c0_i32_3504 : BitVec 32 := 0#32
  let c0_i32_3107 : BitVec 32 := 0#32
  let c1_i32_3109 : BitVec 32 := 1#32
  let arg3 : BitVec 32 := Scf.iv c0_i32_3107 c1_i32_3109 k0_t16
  let c1_i32_3503 : BitVec 32 := 1#32
  let v12779 : BitVec 32 := Scalar.muli arg3 c1_i32_3503
  let v12780 : BitVec 32 := Scalar.addi c0_i32_3504 v12779
  let v12785 : Index := Scalar.indexCast v12780
  let c112 : Index := 112#32
  let c0_3507 : Index := 0#32
  ![v12785.toNat, 112, 0]
def k0_off40 (k0_t16 : Fin k0_t16_loop.trips) : Fin 3 → Nat :=
  let c0_i32_3504 : BitVec 32 := 0#32
  let c0_i32_3107 : BitVec 32 := 0#32
  let c1_i32_3109 : BitVec 32 := 1#32
  let arg3 : BitVec 32 := Scf.iv c0_i32_3107 c1_i32_3109 k0_t16
  let c1_i32_3503 : BitVec 32 := 1#32
  let v12779 : BitVec 32 := Scalar.muli arg3 c1_i32_3503
  let v12780 : BitVec 32 := Scalar.addi c0_i32_3504 v12779
  let v12808 : Index := Scalar.indexCast v12780
  let c128 : Index := 128#32
  let c0_3514 : Index := 0#32
  ![v12808.toNat, 128, 0]
@[reducible] def k0_t17_loop : Scf.Loop 32 :=
  let c0_i32_3111 : BitVec 32 := 0#32
  let c16_i32_3112 : BitVec 32 := 16#32
  let v11360 : BitVec 32 := Scalar.addi c0_i32_3111 c16_i32_3112
  let c1_i32_3113 : BitVec 32 := 1#32
  ⟨c0_i32_3111, v11360, c1_i32_3113⟩
def k0_off41 (k0_t17 : Fin k0_t17_loop.trips) : Fin 3 → Nat :=
  let c0_i32_3504 : BitVec 32 := 0#32
  let c0_i32_3111 : BitVec 32 := 0#32
  let c1_i32_3113 : BitVec 32 := 1#32
  let arg3 : BitVec 32 := Scf.iv c0_i32_3111 c1_i32_3113 k0_t17
  let c1_i32_3503 : BitVec 32 := 1#32
  let v12779 : BitVec 32 := Scalar.muli arg3 c1_i32_3503
  let v12780 : BitVec 32 := Scalar.addi c0_i32_3504 v12779
  let v12781 : Index := Scalar.indexCast v12780
  let c128 : Index := 128#32
  let c128_3505 : Index := 128#32
  ![v12781.toNat, 128, 128]
def k0_mult17 (k0_t17 : Fin k0_t17_loop.trips) : BitVec 32 :=
  let c0_i32_3504 : BitVec 32 := 0#32
  let c0_i32_3111 : BitVec 32 := 0#32
  let c1_i32_3113 : BitVec 32 := 1#32
  let arg3 : BitVec 32 := Scf.iv c0_i32_3111 c1_i32_3113 k0_t17
  let c1_i32_3503 : BitVec 32 := 1#32
  let v12779 : BitVec 32 := Scalar.muli arg3 c1_i32_3503
  let v12780 : BitVec 32 := Scalar.addi c0_i32_3504 v12779
  let c16_i32_3506 : BitVec 32 := 16#32
  let v12784 : BitVec 32 := Scalar.muli v12780 c16_i32_3506
  v12784
def k0_off42 (k0_t17 : Fin k0_t17_loop.trips) : Fin 2 → Nat :=
  let c0_i32_3504 : BitVec 32 := 0#32
  let c0_i32_3111 : BitVec 32 := 0#32
  let c1_i32_3113 : BitVec 32 := 1#32
  let arg3 : BitVec 32 := Scf.iv c0_i32_3111 c1_i32_3113 k0_t17
  let c1_i32_3503 : BitVec 32 := 1#32
  let v12779 : BitVec 32 := Scalar.muli arg3 c1_i32_3503
  let v12780 : BitVec 32 := Scalar.addi c0_i32_3504 v12779
  let c16_i32_3506 : BitVec 32 := 16#32
  let v12784 : BitVec 32 := Scalar.muli v12780 c16_i32_3506
  let v12785 : BitVec 32 := v12784
  let v12786 : Index := Scalar.indexCast v12785
  let c0_3507 : Index := 0#32
  ![v12786.toNat, 0]
@[reducible] def k0_t18_loop : Scf.Loop 32 :=
  let c0_i32_3499 : BitVec 32 := 0#32
  let c16_i32_3500 : BitVec 32 := 16#32
  let v12778 : BitVec 32 := Scalar.addi c0_i32_3499 c16_i32_3500
  let c1_i32_3501 : BitVec 32 := 1#32
  ⟨c0_i32_3499, v12778, c1_i32_3501⟩
def k0_mult18 (k0_t18 : Fin k0_t18_loop.trips) : BitVec 32 :=
  let c0_i32_3504 : BitVec 32 := 0#32
  let c0_i32_3499 : BitVec 32 := 0#32
  let c1_i32_3501 : BitVec 32 := 1#32
  let arg3 : BitVec 32 := Scf.iv c0_i32_3499 c1_i32_3501 k0_t18
  let c1_i32_3503 : BitVec 32 := 1#32
  let v12779 : BitVec 32 := Scalar.muli arg3 c1_i32_3503
  let v12780 : BitVec 32 := Scalar.addi c0_i32_3504 v12779
  let c16_i32_3505 : BitVec 32 := 16#32
  let v12781 : BitVec 32 := Scalar.muli v12780 c16_i32_3505
  v12781
def k0_off43 (k0_t18 : Fin k0_t18_loop.trips) : Fin 2 → Nat :=
  let c0_i32_3504 : BitVec 32 := 0#32
  let c0_i32_3499 : BitVec 32 := 0#32
  let c1_i32_3501 : BitVec 32 := 1#32
  let arg3 : BitVec 32 := Scf.iv c0_i32_3499 c1_i32_3501 k0_t18
  let c1_i32_3503 : BitVec 32 := 1#32
  let v12779 : BitVec 32 := Scalar.muli arg3 c1_i32_3503
  let v12780 : BitVec 32 := Scalar.addi c0_i32_3504 v12779
  let c16_i32_3505 : BitVec 32 := 16#32
  let v12781 : BitVec 32 := Scalar.muli v12780 c16_i32_3505
  let v12782 : BitVec 32 := v12781
  let v12783 : Index := Scalar.indexCast v12782
  let c0_3506 : Index := 0#32
  ![v12783.toNat, 0]
def k0_off44 (k0_t18 : Fin k0_t18_loop.trips) : Fin 3 → Nat :=
  let c0_i32_3504 : BitVec 32 := 0#32
  let c0_i32_3499 : BitVec 32 := 0#32
  let c1_i32_3501 : BitVec 32 := 1#32
  let arg3 : BitVec 32 := Scf.iv c0_i32_3499 c1_i32_3501 k0_t18
  let c1_i32_3503 : BitVec 32 := 1#32
  let v12779 : BitVec 32 := Scalar.muli arg3 c1_i32_3503
  let v12780 : BitVec 32 := Scalar.addi c0_i32_3504 v12779
  let v12785 : Index := Scalar.indexCast v12780
  let c128 : Index := 128#32
  let c0_3507 : Index := 0#32
  ![v12785.toNat, 128, 0]
abbrev stage0_0 : Fin 1 → Memref sig .tc .vmem S16x144x144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x144x144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Sums.lean ====
/- A sum over the 3584 columns, cut into the 14 column tiles of 256 that the kernels walk. -/
module

public import Idealize.ShloMosaic.Lib.Pointwise

@[expose] public section

namespace Cert.RangeFinder

/-- A sum over `Fin 3584` is the sum over 14 tiles of the sums over the 256 columns of each. -/
theorem sum_tiles {M : Type*} [AddCommMonoid M] (f : Fin 3584 → M) :
    ∑ n, f n = ∑ c : Fin 14, ∑ j : Fin 256, f ⟨256 * c.val + j.val, by omega⟩ := by
  rw [← Equiv.sum_comp (finProdFinEquiv (m := 14) (n := 256)) f, Fintype.sum_prod_type]
  refine Finset.sum_congr rfl fun c _ => Finset.sum_congr rfl fun j _ => congrArg f (Fin.ext ?_)
  show j.val + 256 * c.val = 256 * c.val + j.val
  omega

/-- The same with the tiles written out, in the order in which the kernels add them up. -/
theorem sum_tiles14 {M : Type*} [AddCommMonoid M] (f : Fin 3584 → M) :
    ∑ n, f n = (∑ j : Fin 256, f ⟨j.val, by omega⟩) + (∑ j : Fin 256, f ⟨256 + j.val, by omega⟩) + (∑ j : Fin 256, f ⟨512 + j.val, by omega⟩) + (∑ j : Fin 256, f ⟨768 + j.val, by omega⟩) + (∑ j : Fin 256, f ⟨1024 + j.val, by omega⟩) + (∑ j : Fin 256, f ⟨1280 + j.val, by omega⟩) + (∑ j : Fin 256, f ⟨1536 + j.val, by omega⟩) + (∑ j : Fin 256, f ⟨1792 + j.val, by omega⟩) + (∑ j : Fin 256, f ⟨2048 + j.val, by omega⟩) + (∑ j : Fin 256, f ⟨2304 + j.val, by omega⟩) + (∑ j : Fin 256, f ⟨2560 + j.val, by omega⟩) + (∑ j : Fin 256, f ⟨2816 + j.val, by omega⟩) + (∑ j : Fin 256, f ⟨3072 + j.val, by omega⟩) + (∑ j : Fin 256, f ⟨3328 + j.val, by omega⟩) := by
  have h0 : (∑ j : Fin 256, f ⟨j.val, by omega⟩) = ∑ j : Fin 256, f ⟨256 * (0 : Fin 14).val + j.val, by
      have := (0 : Fin 14).isLt; omega⟩ :=
    Finset.sum_congr rfl fun j _ => congrArg f (Fin.ext (by show j.val = 256 * 0 + j.val; omega))
  rw [sum_tiles, h0]
  simp only [Fin.sum_univ_castSucc (n := 13), Fin.sum_univ_castSucc (n := 12), Fin.sum_univ_castSucc (n := 11),
    Fin.sum_univ_castSucc (n := 10), Fin.sum_univ_castSucc (n := 9), Fin.sum_univ_castSucc (n := 8),
    Fin.sum_univ_castSucc (n := 7), Fin.sum_univ_castSucc (n := 6), Fin.sum_univ_castSucc (n := 5),
    Fin.sum_univ_castSucc (n := 4), Fin.sum_univ_castSucc (n := 3), Fin.sum_univ_castSucc (n := 2),
    Fin.sum_univ_castSucc (n := 1), Fin.sum_univ_castSucc (n := 0), Fin.sum_univ_zero, zero_add]
  rfl

end Cert.RangeFinder

end
-- ==== Proof.Spec.lean ====
/- The mathematics of the range finder's calls, one batch at a time, over extended reals: what both the kernels and the
   references are read as.  Ranks are written `k`, sequence positions `s`, columns `n`. -/
module

public import Idealize.ShloMosaic.Lib.Pointwise
public import Idealize.ShloMosaic.Lib.WordCmp

@[expose] public section

noncomputable section

namespace Cert.RangeFinder

/-- The value of an int8 code. -/
def code (b : BitVec 8) : EReal := ((b.toInt : ℝ) : EReal)

/-- `(A x)` at rank `k`, position `s`: the product of the codes with `x`, scaled by the position's scale. -/
def fwd (a : Fin 768 → Fin 3584 → BitVec 8) (sc : Fin 768 → EReal) (x : Fin 144 → Fin 3584 → EReal)
    (k : Fin 144) (s : Fin 768) : EReal :=
  (∑ n, x k n * code (a s n)) * sc s

/-- `(Qᵀ A)` at rank `k`, column `n`. -/
def bwd (a : Fin 768 → Fin 3584 → BitVec 8) (sc : Fin 768 → EReal) (q : Fin 144 → Fin 768 → EReal)
    (k : Fin 144) (n : Fin 3584) : EReal :=
  ∑ s, q k s * sc s * code (a s n)

/-- The Gram matrix of the rows of `y`. -/
def gram (y : Fin 144 → Fin 768 → EReal) (k l : Fin 144) : EReal := ∑ s, y k s * y l s

/-- The lower triangle of `li` applied to the rows of `y`. -/
def solve (li : Fin 144 → Fin 144 → EReal) (y : Fin 144 → Fin 768 → EReal) (k : Fin 144) (s : Fin 768) : EReal :=
  ∑ l : Fin 144, (if l ≤ k then li k l else 0) * y l s

open Idealize.ShloMosaic

/-- An int8 code converted by way of int32 and f32 is its value. -/
theorem sitofp_ext (b : BitVec 8) : FloatOps.sitofp (F := Ideal) FTy.f32 (BitVec.signExtend 32 b) = code b := by
  show (((BitVec.signExtend 32 b).toInt : ℝ) : EReal) = ((b.toInt : ℝ) : EReal)
  rw [BitVec.toInt_signExtend_of_le (by decide)]

/-- A selection by "column index at most row index", as the kernels compare them, is a choice by that order. -/
theorem select_sle {α : Type} (l k : Fin 144) (u v : α) :
    Scalar.select (IntOp.cmpi .sle (BitVec.ofNat 32 l.val) (BitVec.ofNat 32 k.val)) u v = if l ≤ k then u else v := by
  have hl := l.isLt
  have hk := k.isLt
  rw [WordCmp.cmpi_sle_ofNat (by norm_num; omega) (by norm_num; omega)]
  by_cases h : l ≤ k
  · have h' : l.val ≤ k.val := h
    simp [Scalar.select, h, h']
  · have h' : ¬ l.val ≤ k.val := h
    simp [Scalar.select, h, h']

/-- The same comparison written the other way round, as the references do it. -/
theorem select_sge {α : Type} (k l : Fin 144) (u v : α) :
    Scalar.select (IntOp.cmpi .sge (BitVec.ofNat 32 k.val) (BitVec.ofNat 32 l.val)) u v = if l ≤ k then u else v := by
  have hl := l.isLt
  have hk := k.isLt
  rw [WordCmp.cmpi_sge_ofNat (by norm_num; omega) (by norm_num; omega)]
  by_cases h : l ≤ k
  · have h' : l.val ≤ k.val := h
    simp [Scalar.select, h, h']
  · have h' : ¬ l.val ≤ k.val := h
    simp [Scalar.select, h, h']

/-- Adding the zero word. -/
theorem addi_zero (x : BitVec 32) : IntOp.addi x 0#32 = x := BitVec.add_zero x

end Cert.RangeFinder

end
-- ==== Proof.SketchBlock.lean ====
/- What one grid point of the sketch kernel computes: the scaled product of its batch's codes with omega, and that product's
   Gram matrix. -/
module

public import proofs.«01_k».proof.Proof.Gen.SketchIdeal.Value
public import proofs.«01_k».proof.Proof.Sums
public import proofs.«01_k».proof.Proof.Spec

@[expose] public section

set_option maxRecDepth 16384

noncomputable section

namespace Cert.SketchIdeal.Block

open Cert.SketchIdeal Cert.SketchIdeal.Gen Idealize.ShloMosaic Cert.RangeFinder

/-- The scaled product of a grid point's blocks: codes, scales, transposed omega. -/
def yOf (x0 : Vec Ideal S1x768x3584 .i8) (x1 : Vec Ideal S1x1x768 .f32) (x2 : Vec Ideal S144x3584 .bf16) :
    Fin 144 → Fin 768 → EReal :=
  fwd (fun s n => x0 (ix3 0 s n)) (fun s => x1 (ix3 0 0 s)) (fun k n => x2 (ix2 k n))

/-- The kernel's scaled product, accumulated over 14 column tiles, is the product over all columns. -/
theorem pay1_apply (x0 : Vec Ideal S1x768x3584 .i8) (x1 : Vec Ideal S1x1x768 .f32) (x2 : Vec Ideal S144x3584 .bf16)
    (k : Fin 144) (s : Fin 768) :
    k0_pay1 (F := Ideal) (k0_pay9 x0 x1 x2) (k0_pay10 x0 x1 x2) (View.ld x2 r0_27) (View.ld x1 r0_28) (ix2 k s)
      = yOf x0 x1 x2 k s := by
  unfold yOf fwd
  rw [sum_tiles14]
  pointwise [k0_pay1, k0_pay9, k0_pay10, k0_pay4, k0_pay5, k0_pay6, k0_pay7, k0_pay8]
  rfl

/-- The kernel's first output block at an index. -/
theorem pay2_apply (x0 : Vec Ideal S1x768x3584 .i8) (x1 : Vec Ideal S1x1x768 .f32) (x2 : Vec Ideal S144x3584 .bf16)
    (k : Fin 144) (s : Fin 768) :
    k0_pay2 (F := Ideal) (k0_pay9 x0 x1 x2) (k0_pay10 x0 x1 x2) (View.ld x2 r0_27) (View.ld x1 r0_28) (ix3 0 k s)
      = yOf x0 x1 x2 k s := by
  rw [← pay1_apply]
  pointwise [k0_pay2]

/-- The kernel's second output block at an index: the Gram matrix of the first. -/
theorem pay3_apply (x0 : Vec Ideal S1x768x3584 .i8) (x1 : Vec Ideal S1x1x768 .f32) (x2 : Vec Ideal S144x3584 .bf16)
    (k l : Fin 144) :
    k0_pay3 (F := Ideal) (k0_pay9 x0 x1 x2) (k0_pay10 x0 x1 x2) (View.ld x2 r0_27) (View.ld x1 r0_28) (ix3 0 k l)
      = gram (yOf x0 x1 x2) k l := by
  unfold gram
  simp only [← pay1_apply]
  pointwise [k0_pay3]

end Cert.SketchIdeal.Block

end
-- ==== Proof.SketchValue.lean ====
/- The sketch kernel's final arrays, index by index, as functions of its arguments. -/
module

public import proofs.«01_k».proof.Proof.SketchBlock

@[expose] public section

set_option maxRecDepth 16384

noncomputable section

namespace Cert.SketchIdeal.Block

open Cert.SketchIdeal Cert.SketchIdeal.Gen Idealize.ShloMosaic Idealize.ShloMosaic.TcCoe Idealize.SL.Sem Cert.RangeFinder

variable (m : (ℓ : Loc nD τ sig) → Buf (Elt Ideal) ℓ) (ρ : Dev nD → PrngReg)

/-- The reshaped scales at an index. -/
theorem V_scale (c : Dev nD) (b : Fin 16) (s : Fin 768) :
    V m c main_v0 (ix3 b 0 s) = m ((c : Thread nD τ).loc main_arg1) (ix2 b s) := by
  have h : V m c main_v0 = shapeCast S16x1x768 (m ((c : Thread nD τ).loc main_arg1)) shapeCasts_S16x768_S16x1x768 := by
    show StableHlo.after hostOps0 _ _ = _
    simp only [hostOps0]
    after_results
    rfl
  rw [h]
  exact shapeCast_apply _ _ (ix3 b 0 s) (ix2 b s) (by
    rw [Shape.rowMajor_val_two, Shape.rowMajor_val_three]
    show b.val * 768 + s.val = (b.val * 1 + 0) * 768 + s.val
    omega)

/-- The transposed omega at an index. -/
theorem V_omega (c : Dev nD) (k : Fin 144) (n : Fin 3584) :
    V m c main_v1 (ix2 k n) = m ((c : Thread nD τ).loc main_arg2) (ix2 n k) := by
  have h : V m c main_v1 = transpose S144x3584 [1, 0] (m ((c : Thread nD τ).loc main_arg2)) transposes_S3584x144_S144x3584_1_0 := by
    show StableHlo.after hostOps0 _ _ = _
    simp only [hostOps0]
    after_results
  rw [h]
  pointwise

/-- Which block of its array window 0 is at, at a grid point. -/
theorem index0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)

/-- A grid point's batch. -/
def batch (t : Fin cfg0.N) : Fin 16 := ⟨t.val, by have := t.isLt; have h : cfg0.N = 16 := N_0; omega⟩

/-- The codes block of a grid point. -/
theorem iblk0 (c : Dev nD) (t : Fin cfg0.N) (s : Fin 768) (n : Fin 3584) :
    iblk m c 0 t (ix3 0 s n) = m ((c : Thread nD τ).loc main_arg0) (ix3 (batch t) s n) := by
  show V m c main_arg0 _ = _
  rw [V_main_arg0]
  refine congrArg _ (funext fun a => Fin.ext ?_)
  have h := index0 t
  match a with
  | ⟨0, _⟩ => show win0_0.index t 0 * 1 + 1 * 0 = t.val; omega
  | ⟨1, _⟩ => show win0_0.index t 1 * 768 + 1 * s.val = s.val; omega
  | ⟨2, _⟩ => show win0_0.index t 2 * 3584 + 1 * n.val = n.val; omega

/-- Which block of its array window 1 is at, at a grid point. -/
theorem index1 : ∀ t : Fin cfg0.N, win0_1.index t 0 = t.val ∧ win0_1.index t 1 = 0 ∧ win0_1.index t 2 = 0 :=
  (by decide +kernel : ∀ t : Fin grid0.N, win0_1.index t 0 = t.val ∧ win0_1.index t 1 = 0 ∧ win0_1.index t 2 = 0)

/-- The scales block of a grid point. -/
theorem iblk1 (c : Dev nD) (t : Fin cfg0.N) (s : Fin 768) :
    iblk m c 1 t (ix3 0 0 s) = m ((c : Thread nD τ).loc main_arg1) (ix2 (batch t) s) := by
  rw [← V_scale m]
  show V m c main_v0 _ = _
  refine congrArg _ (funext fun a => Fin.ext ?_)
  have h := index1 t
  match a with
  | ⟨0, _⟩ => show win0_1.index t 0 * 1 + 1 * 0 = t.val; omega
  | ⟨1, _⟩ => show win0_1.index t 1 * 1 + 1 * 0 = 0; omega
  | ⟨2, _⟩ => show win0_1.index t 2 * 768 + 1 * s.val = s.val; omega

/-- Which block of its array window 2 is at, at a grid point. -/
theorem index2 : ∀ t : Fin cfg0.N, win0_2.index t 0 = 0 ∧ win0_2.index t 1 = 0 :=
  (by decide +kernel : ∀ t : Fin grid0.N, win0_2.index t 0 = 0 ∧ win0_2.index t 1 = 0)

/-- The omega block of a grid point: all of the transposed omega. -/
theorem iblk2 (c : Dev nD) (t : Fin cfg0.N) (k : Fin 144) (n : Fin 3584) :
    iblk m c 2 t (ix2 k n) = m ((c : Thread nD τ).loc main_arg2) (ix2 n k) := by
  rw [← V_omega m]
  show V m c main_v1 _ = _
  refine congrArg _ (funext fun a => Fin.ext ?_)
  have h := index2 t
  match a with
  | ⟨0, _⟩ => show win0_2.index t 0 * 144 + 1 * k.val = k.val; omega
  | ⟨1, _⟩ => show win0_2.index t 1 * 3584 + 1 * n.val = n.val; omega

/-- The scaled product of a batch, from the arguments. -/
def yArg (c : Dev nD) (b : Fin 16) : Fin 144 → Fin 768 → EReal :=
  fwd (fun s n => m ((c : Thread nD τ).loc main_arg0) (ix3 b s n)) (fun s => m ((c : Thread nD τ).loc main_arg1) (ix2 b s))
    (fun k n => m ((c : Thread nD τ).loc main_arg2) (ix2 n k))

/-- A grid point's scaled product is its batch's. -/
theorem yOf_iblk (c : Dev nD) (t : Fin cfg0.N) :
    yOf (iblk m c 0 t) (iblk m c 1 t) (iblk m c 2 t) = yArg m c (batch t) := by
  unfold yOf yArg
  simp only [iblk0, iblk1, iblk2]

/-- The offsets zero, as a function. -/
theorem hz : (![0, 0, 0] : Fin 3 → Nat) = fun _ => 0 := funext fun a => by fin_cases a <;> rfl

/-- Which block of its array window 3 is at, at a grid point. -/
theorem index3 : ∀ t : Fin cfg0.N, win0_3.index t 0 = t.val ∧ win0_3.index t 1 = 0 ∧ win0_3.index t 2 = 0 :=
  (by decide +kernel : ∀ t : Fin grid0.N, win0_3.index t 0 = t.val ∧ win0_3.index t 1 = 0 ∧ win0_3.index t 2 = 0)

/-- Which block of its array window 4 is at, at a grid point. -/
theorem index4 : ∀ t : Fin cfg0.N, win0_4.index t 0 = t.val ∧ win0_4.index t 1 = 0 ∧ win0_4.index t 2 = 0 :=
  (by decide +kernel : ∀ t : Fin grid0.N, win0_4.index t 0 = t.val ∧ win0_4.index t 1 = 0 ∧ win0_4.index t 2 = 0)

/-- The grid point of a batch. -/
def point (b : Fin 16) : Fin cfg0.N := ⟨b.val, by have h : cfg0.N = 16 := N_0; have := b.isLt; omega⟩

/-- The first result array at an index. -/
theorem final_y (c : Dev nD) (b : Fin 16) (k : Fin 144) (s : Fin 768) :
    (dats m 0 c).arrAt 3 cfg0.N (ix3 b k s) = yArg m c b k s := by
  have h := congrFun ((Value.blocks3 m c (point b) (flush0_3 _)).trans (Value.flushed3 m c (point b))) (ix3 0 k s)
  have hi := index3 (point b)
  have e : ((cfg0.win 3).blk (point b)).view.emb (ix3 0 k s) = (ix3 b k s : S16x144x768.Idx) := funext fun a => Fin.ext (by
    match a with
    | ⟨0, _⟩ => show win0_3.index (point b) 0 * 1 + 1 * 0 = b.val; rw [hi.1]; show b.val * 1 + 1 * 0 = b.val; omega
    | ⟨1, _⟩ => show win0_3.index (point b) 1 * 144 + 1 * k.val = k.val; omega
    | ⟨2, _⟩ => show win0_3.index (point b) 2 * 768 + 1 * s.val = s.val; omega)
  have h1 : (dats m 0 c).arrAt 3 cfg0.N (((cfg0.win 3).blk (point b)).view.emb (ix3 0 k s)) =
    out0_3 (iblk m c 0 (point b)) (iblk m c 1 (point b)) (iblk m c 2 (point b)) (ix3 0 k s) := h
  rw [e] at h1
  rw [h1]
  unfold out0_3
  rw [View.canon_unit_zero hz]
  refine (pay2_apply _ _ _ k s).trans ?_
  rw [yOf_iblk]
  rfl

/-- The second result array at an index. -/
theorem final_g (c : Dev nD) (b : Fin 16) (k l : Fin 144) :
    (dats m 0 c).arrAt 4 cfg0.N (ix3 b k l) = gram (yArg m c b) k l := by
  have h := congrFun ((Value.blocks4 m c (point b) (flush0_4 _)).trans (Value.flushed4 m c (point b))) (ix3 0 k l)
  have hi := index4 (point b)
  have e : ((cfg0.win 4).blk (point b)).view.emb (ix3 0 k l) = (ix3 b k l : S16x144x144.Idx) := funext fun a => Fin.ext (by
    match a with
    | ⟨0, _⟩ => show win0_4.index (point b) 0 * 1 + 1 * 0 = b.val; rw [hi.1]; show b.val * 1 + 1 * 0 = b.val; omega
    | ⟨1, _⟩ => show win0_4.index (point b) 1 * 144 + 1 * k.val = k.val; omega
    | ⟨2, _⟩ => show win0_4.index (point b) 2 * 144 + 1 * l.val = l.val; omega)
  have h1 : (dats m 0 c).arrAt 4 cfg0.N (((cfg0.win 4).blk (point b)).view.emb (ix3 0 k l)) =
    out0_4 (iblk m c 0 (point b)) (iblk m c 1 (point b)) (iblk m c 2 (point b)) (ix3 0 k l) := h
  rw [e] at h1
  rw [h1]
  unfold out0_4
  rw [View.canon_unit_zero hz]
  refine (pay3_apply _ _ _ k l).trans ?_
  rw [yOf_iblk]
  rfl

end Cert.SketchIdeal.Block

end
-- ==== Proof.SketchRefRead.lean ====
/- The sketch reference's result arrays, index by index. -/
module

public import proofs.«01_k».proof.Proof.Gen.SketchRefIdeal.Run
public import proofs.«01_k».proof.Proof.Spec

@[expose] public section

set_option maxRecDepth 16384

noncomputable section

namespace Cert.SketchRefIdeal.Read

open Cert.SketchRefIdeal Idealize.ShloMosaic Idealize.ShloMosaic.TcCoe Idealize.SL.Sem Cert.RangeFinder

variable (m : (ℓ : Loc nD τ sig) → Buf (Elt Ideal) ℓ) (ρ : Dev nD → PrngReg)

/-- The scaled product of a batch, from the arguments. -/
def yArg (c : Dev nD) (b : Fin 16) : Fin 144 → Fin 768 → EReal :=
  fwd (fun s n => m ((c : Thread nD τ).loc main_arg0) (ix3 b s n)) (fun s => m ((c : Thread nD τ).loc main_arg1) (ix2 b s))
    (fun k n => m ((c : Thread nD τ).loc main_arg2) (ix2 n k))

/-- The reference's run, its results read at an index. -/
theorem run : θ_run defs (onTc (τ := τ) (main (F := Ideal))) ⟨m, fun _ => 0, ρ⟩ fun r => ∀ c : Dev nD,
      (∀ b k s, r.2.mem ((c : Thread nD τ).loc main_v7) (ix3 b k s) = yArg m c b k s)
      ∧ (∀ b k l, r.2.mem ((c : Thread nD τ).loc main_v8) (ix3 b k l) = gram (yArg m c b) k l)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun r h c => ⟨fun b k s => ?_, fun b k l => ?_, (h c).2.2⟩) (Value.run m ρ)
  · rw [(h c).1]
    unfold yArg fwd
    generalize m ((c : Thread nD τ).loc main_arg0) = A
    generalize m ((c : Thread nD τ).loc main_arg1) = S
    generalize m ((c : Thread nD τ).loc main_arg2) = O
    pointwise
    simp only [sitofp_ext, mul_comm]
  · rw [(h c).2.1]
    unfold yArg fwd gram
    generalize m ((c : Thread nD τ).loc main_arg0) = A
    generalize m ((c : Thread nD τ).loc main_arg1) = S
    generalize m ((c : Thread nD τ).loc main_arg2) = O
    pointwise
    simp only [sitofp_ext, mul_comm]

end Cert.SketchRefIdeal.Read

end
-- ==== Proof.PowerBlock.lean ====
/- What one grid point of the power kernel computes: the lower triangle of its inverse factor applied to its batch's `y`
   (transposed, the basis `q`), one power iteration of that basis, and the Gram matrix of the iterate. -/
module

public import proofs.«01_k».proof.Proof.Gen.PowerIdeal.Value
public import proofs.«01_k».proof.Proof.Sums
public import proofs.«01_k».proof.Proof.Spec

@[expose] public section

set_option maxRecDepth 16384

noncomputable section

namespace Cert.PowerIdeal.Block

open Cert.PowerIdeal Cert.PowerIdeal.Gen Idealize.ShloMosaic Cert.RangeFinder

/-- The basis of a grid point, from its blocks of the inverse factor and of `y`. -/
def qOf (x3 : Vec Ideal S1x144x144 .f32) (x2 : Vec Ideal S1x144x768 .f32) : Fin 144 → Fin 768 → EReal :=
  solve (fun k l => x3 (ix3 0 k l)) (fun k s => x2 (ix3 0 k s))

/-- The power iterate of a grid point, from all its blocks. -/
def y2Of (x0 : Vec Ideal S1x768x3584 .i8) (x1 : Vec Ideal S1x1x768 .f32) (x2 : Vec Ideal S1x144x768 .f32)
    (x3 : Vec Ideal S1x144x144 .f32) : Fin 144 → Fin 768 → EReal :=
  fwd (fun s n => x0 (ix3 0 s n)) (fun s => x1 (ix3 0 0 s))
    (bwd (fun s n => x0 (ix3 0 s n)) (fun s => x1 (ix3 0 0 s)) (qOf x3 x2))

/-- The basis at an index, rank first. -/
theorem pay4_apply (x3 : Vec Ideal S1x144x144 .f32) (x2 : Vec Ideal S1x144x768 .f32) (k : Fin 144) (s : Fin 768) :
    k0_pay4 (F := Ideal) (View.ld x3 r0_0) (View.ld x2 r0_1) (ix2 k s) = qOf x3 x2 k s := by
  unfold qOf solve
  pointwise [k0_pay4]
  simp only [select_sle, ite_mul, zero_mul]

/-- The first output block at an index: the basis, position first. -/
theorem pay5_apply (x3 : Vec Ideal S1x144x144 .f32) (x2 : Vec Ideal S1x144x768 .f32) (k : Fin 144) (s : Fin 768) :
    k0_pay5 (F := Ideal) (View.ld x3 r0_0) (View.ld x2 r0_1) (ix3 0 s k) = qOf x3 x2 k s := by
  rw [← pay4_apply]
  pointwise [k0_pay5]

/-- The scaled basis at an index. -/
theorem pay6_apply (x3 : Vec Ideal S1x144x144 .f32) (x2 : Vec Ideal S1x144x768 .f32) (x1 : Vec Ideal S1x1x768 .f32)
    (k : Fin 144) (s : Fin 768) :
    k0_pay6 (F := Ideal) (View.ld x3 r0_0) (View.ld x2 r0_1) (View.ld x1 r0_3) (ix2 k s)
      = qOf x3 x2 k s * x1 (ix3 0 0 s) := by
  rw [← pay4_apply]
  pointwise [k0_pay6]

/-- The power iterate, accumulated over 14 column tiles, is the iterate over all columns. -/
theorem pay1_apply (x0 : Vec Ideal S1x768x3584 .i8) (x1 : Vec Ideal S1x1x768 .f32) (x2 : Vec Ideal S1x144x768 .f32)
    (x3 : Vec Ideal S1x144x144 .f32) (k : Fin 144) (s : Fin 768) :
    k0_pay1 (F := Ideal) (k0_pay16 x0 x1 x2 x3) (k0_pay18 x0 x1 x2 x3) (k0_pay19 x0 x1 x2 x3) (k0_pay20 x0 x1 x2 x3)
        (k0_pay17 x0 x1 x2 x3) (View.ld x0 r0_16) (View.ld x0 r0_17) (View.ld x1 r0_3) (ix2 k s)
      = y2Of x0 x1 x2 x3 k s := by
  unfold y2Of fwd
  rw [sum_tiles14]
  unfold bwd
  simp only [← pay6_apply]
  pointwise [k0_pay1, k0_pay16, k0_pay18, k0_pay19, k0_pay20, k0_pay17, k0_pay7, k0_pay8, k0_pay9, k0_pay10, k0_pay11, k0_pay12,
    k0_pay13, k0_pay14, k0_pay15]
  simp only [pay6_apply]
  rfl

/-- The second output block at an index: the power iterate. -/
theorem pay2_apply (x0 : Vec Ideal S1x768x3584 .i8) (x1 : Vec Ideal S1x1x768 .f32) (x2 : Vec Ideal S1x144x768 .f32)
    (x3 : Vec Ideal S1x144x144 .f32) (k : Fin 144) (s : Fin 768) :
    k0_pay2 (F := Ideal) (k0_pay16 x0 x1 x2 x3) (k0_pay18 x0 x1 x2 x3) (k0_pay19 x0 x1 x2 x3) (k0_pay20 x0 x1 x2 x3)
        (k0_pay17 x0 x1 x2 x3) (View.ld x0 r0_16) (View.ld x0 r0_17) (View.ld x1 r0_3) (ix3 0 k s)
      = y2Of x0 x1 x2 x3 k s := by
  rw [← pay1_apply]
  pointwise [k0_pay2]

/-- The third output block at an index: the Gram matrix of the power iterate. -/
theorem pay3_apply (x0 : Vec Ideal S1x768x3584 .i8) (x1 : Vec Ideal S1x1x768 .f32) (x2 : Vec Ideal S1x144x768 .f32)
    (x3 : Vec Ideal S1x144x144 .f32) (k l : Fin 144) :
    k0_pay3 (F := Ideal) (k0_pay16 x0 x1 x2 x3) (k0_pay18 x0 x1 x2 x3) (k0_pay19 x0 x1 x2 x3) (k0_pay20 x0 x1 x2 x3)
        (k0_pay17 x0 x1 x2 x3) (View.ld x0 r0_16) (View.ld x0 r0_17) (View.ld x1 r0_3) (ix3 0 k l)
      = gram (y2Of x0 x1 x2 x3) k l := by
  unfold gram
  simp only [← pay1_apply]
  pointwise [k0_pay3]

end Cert.PowerIdeal.Block

end
-- ==== Proof.PowerValue.lean ====
/- The power kernel's final arrays, index by index, as functions of its arguments. -/
module

public import proofs.«01_k».proof.Proof.PowerBlock

@[expose] public section

set_option maxRecDepth 16384

noncomputable section

namespace Cert.PowerIdeal.Block

open Cert.PowerIdeal Cert.PowerIdeal.Gen Idealize.ShloMosaic Idealize.ShloMosaic.TcCoe Idealize.SL.Sem Cert.RangeFinder

variable (m : (ℓ : Loc nD τ sig) → Buf (Elt Ideal) ℓ) (ρ : Dev nD → PrngReg)

/-- The reshaped scales at an index. -/
theorem V_scale (c : Dev nD) (b : Fin 16) (s : Fin 768) :
    V m c main_v0 (ix3 b 0 s) = m ((c : Thread nD τ).loc main_arg1) (ix2 b s) := by
  have h : V m c main_v0 = shapeCast S16x1x768 (m ((c : Thread nD τ).loc main_arg1)) shapeCasts_S16x768_S16x1x768 := by
    show StableHlo.after hostOps0 _ _ = _
    simp only [hostOps0]
    after_results
    rfl
  rw [h]
  exact shapeCast_apply _ _ (ix3 b 0 s) (ix2 b s) (by
    rw [Shape.rowMajor_val_two, Shape.rowMajor_val_three]
    show b.val * 768 + s.val = (b.val * 1 + 0) * 768 + s.val
    omega)

/-- Which block of its array window 0 is at, at a grid point. -/
theorem index0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)

/-- A grid point's batch. -/
def batch (t : Fin cfg0.N) : Fin 16 := ⟨t.val, by have := t.isLt; have h : cfg0.N = 16 := N_0; omega⟩

/-- The codes block of a grid point. -/
theorem iblk0 (c : Dev nD) (t : Fin cfg0.N) (s : Fin 768) (n : Fin 3584) :
    iblk m c 0 t (ix3 0 s n) = m ((c : Thread nD τ).loc main_arg0) (ix3 (batch t) s n) := by
  show V m c main_arg0 _ = _
  rw [V_main_arg0]
  refine congrArg _ (funext fun a => Fin.ext ?_)
  have h := index0 t
  match a with
  | ⟨0, _⟩ => show win0_0.index t 0 * 1 + 1 * 0 = t.val; omega
  | ⟨1, _⟩ => show win0_0.index t 1 * 768 + 1 * s.val = s.val; omega
  | ⟨2, _⟩ => show win0_0.index t 2 * 3584 + 1 * n.val = n.val; omega

/-- Which block of its array window 1 is at, at a grid point. -/
theorem index1 : ∀ t : Fin cfg0.N, win0_1.index t 0 = t.val ∧ win0_1.index t 1 = 0 ∧ win0_1.index t 2 = 0 :=
  (by decide +kernel : ∀ t : Fin grid0.N, win0_1.index t 0 = t.val ∧ win0_1.index t 1 = 0 ∧ win0_1.index t 2 = 0)

/-- The scales block of a grid point. -/
theorem iblk1 (c : Dev nD) (t : Fin cfg0.N) (s : Fin 768) :
    iblk m c 1 t (ix3 0 0 s) = m ((c : Thread nD τ).loc main_arg1) (ix2 (batch t) s) := by
  rw [← V_scale m]
  show V m c main_v0 _ = _
  refine congrArg _ (funext fun a => Fin.ext ?_)
  have h := index1 t
  match a with
  | ⟨0, _⟩ => show win0_1.index t 0 * 1 + 1 * 0 = t.val; omega
  | ⟨1, _⟩ => show win0_1.index t 1 * 1 + 1 * 0 = 0; omega
  | ⟨2, _⟩ => show win0_1.index t 2 * 768 + 1 * s.val = s.val; omega

/-- Which block of its array window 2 is at, at a grid point. -/
theorem index2 : ∀ t : Fin cfg0.N, win0_2.index t 0 = t.val ∧ win0_2.index t 1 = 0 ∧ win0_2.index t 2 = 0 :=
  (by decide +kernel : ∀ t : Fin grid0.N, win0_2.index t 0 = t.val ∧ win0_2.index t 1 = 0 ∧ win0_2.index t 2 = 0)

/-- The `y` block of a grid point. -/
theorem iblk2 (c : Dev nD) (t : Fin cfg0.N) (k : Fin 144) (s : Fin 768) :
    iblk m c 2 t (ix3 0 k s) = m ((c : Thread nD τ).loc main_arg2) (ix3 (batch t) k s) := by
  show V m c main_arg2 _ = _
  rw [V_main_arg2]
  refine congrArg _ (funext fun a => Fin.ext ?_)
  have h := index2 t
  match a with
  | ⟨0, _⟩ => show win0_2.index t 0 * 1 + 1 * 0 = t.val; omega
  | ⟨1, _⟩ => show win0_2.index t 1 * 144 + 1 * k.val = k.val; omega
  | ⟨2, _⟩ => show win0_2.index t 2 * 768 + 1 * s.val = s.val; omega

/-- Which block of its array window 3 is at, at a grid point. -/
theorem index3 : ∀ t : Fin cfg0.N, win0_3.index t 0 = t.val ∧ win0_3.index t 1 = 0 ∧ win0_3.index t 2 = 0 :=
  (by decide +kernel : ∀ t : Fin grid0.N, win0_3.index t 0 = t.val ∧ win0_3.index t 1 = 0 ∧ win0_3.index t 2 = 0)

/-- The inverse factor block of a grid point. -/
theorem iblk3 (c : Dev nD) (t : Fin cfg0.N) (k : Fin 144) (s : Fin 144) :
    iblk m c 3 t (ix3 0 k s) = m ((c : Thread nD τ).loc main_arg3) (ix3 (batch t) k s) := by
  show V m c main_arg3 _ = _
  rw [V_main_arg3]
  refine congrArg _ (funext fun a => Fin.ext ?_)
  have h := index3 t
  match a with
  | ⟨0, _⟩ => show win0_3.index t 0 * 1 + 1 * 0 = t.val; omega
  | ⟨1, _⟩ => show win0_3.index t 1 * 144 + 1 * k.val = k.val; omega
  | ⟨2, _⟩ => show win0_3.index t 2 * 144 + 1 * s.val = s.val; omega

/-- The basis of a batch, from the arguments. -/
def qArg (c : Dev nD) (b : Fin 16) : Fin 144 → Fin 768 → EReal :=
  solve (fun k l => m ((c : Thread nD τ).loc main_arg3) (ix3 b k l)) (fun k s => m ((c : Thread nD τ).loc main_arg2) (ix3 b k s))

/-- A grid point's basis is its batch's. -/
theorem qOf_iblk (c : Dev nD) (t : Fin cfg0.N) : qOf (iblk m c 3 t) (iblk m c 2 t) = qArg m c (batch t) := by
  unfold qOf qArg
  simp only [iblk2, iblk3]

/-- The power iterate of a batch, from the arguments. -/
def y2Arg (c : Dev nD) (b : Fin 16) : Fin 144 → Fin 768 → EReal :=
  fwd (fun s n => m ((c : Thread nD τ).loc main_arg0) (ix3 b s n)) (fun s => m ((c : Thread nD τ).loc main_arg1) (ix2 b s))
    (bwd (fun s n => m ((c : Thread nD τ).loc main_arg0) (ix3 b s n)) (fun s => m ((c : Thread nD τ).loc main_arg1) (ix2 b s))
      (qArg m c b))

/-- A grid point's power iterate is its batch's. -/
theorem y2Of_iblk (c : Dev nD) (t : Fin cfg0.N) :
    y2Of (iblk m c 0 t) (iblk m c 1 t) (iblk m c 2 t) (iblk m c 3 t) = y2Arg m c (batch t) := by
  unfold y2Of y2Arg
  rw [qOf_iblk]
  simp only [iblk0, iblk1]

/-- The offsets zero, as a function. -/
theorem hz : (![0, 0, 0] : Fin 3 → Nat) = fun _ => 0 := funext fun a => by fin_cases a <;> rfl

/-- The grid point of a batch. -/
def point (b : Fin 16) : Fin cfg0.N := ⟨b.val, by have h : cfg0.N = 16 := N_0; have := b.isLt; omega⟩

/-- Which block of its array window 4 is at, at a grid point. -/
theorem index4 : ∀ t : Fin cfg0.N, win0_4.index t 0 = t.val ∧ win0_4.index t 1 = 0 ∧ win0_4.index t 2 = 0 :=
  (by decide +kernel : ∀ t : Fin grid0.N, win0_4.index t 0 = t.val ∧ win0_4.index t 1 = 0 ∧ win0_4.index t 2 = 0)

/-- The first result array at an index. -/
theorem final_q (c : Dev nD) (b : Fin 16) (s : Fin 768) (k : Fin 144) :
    (dats m 0 c).arrAt 4 cfg0.N (ix3 b s k) = qArg m c b k s := by
  have h := congrFun ((Value.blocks4 m c (point b) (flush0_4 _)).trans (Value.flushed4 m c (point b))) (ix3 0 s k)
  have hi := index4 (point b)
  have e : ((cfg0.win 4).blk (point b)).view.emb (ix3 0 s k) = (ix3 b s k : S16x768x144.Idx) := funext fun a => Fin.ext (by
    match a with
    | ⟨0, _⟩ => show win0_4.index (point b) 0 * 1 + 1 * 0 = b.val; rw [hi.1]; show b.val * 1 + 1 * 0 = b.val; omega
    | ⟨1, _⟩ => show win0_4.index (point b) 1 * 768 + 1 * s.val = s.val; omega
    | ⟨2, _⟩ => show win0_4.index (point b) 2 * 144 + 1 * k.val = k.val; omega)
  have h1 : (dats m 0 c).arrAt 4 cfg0.N (((cfg0.win 4).blk (point b)).view.emb (ix3 0 s k)) =
    out0_4 (iblk m c 0 (point b)) (iblk m c 1 (point b)) (iblk m c 2 (point b)) (iblk m c 3 (point b)) (ix3 0 s k) := h
  rw [e] at h1
  rw [h1]
  unfold out0_4
  rw [View.canon_unit_zero hz]
  refine (pay5_apply _ _ k s).trans ?_
  rw [qOf_iblk]
  rfl

/-- Which block of its array window 5 is at, at a grid point. -/
theorem index5 : ∀ t : Fin cfg0.N, win0_5.index t 0 = t.val ∧ win0_5.index t 1 = 0 ∧ win0_5.index t 2 = 0 :=
  (by decide +kernel : ∀ t : Fin grid0.N, win0_5.index t 0 = t.val ∧ win0_5.index t 1 = 0 ∧ win0_5.index t 2 = 0)

/-- The second result array at an index. -/
theorem final_y (c : Dev nD) (b : Fin 16) (k : Fin 144) (s : Fin 768) :
    (dats m 0 c).arrAt 5 cfg0.N (ix3 b k s) = y2Arg m c b k s := by
  have h := congrFun ((Value.blocks5 m c (point b) (flush0_5 _)).trans (Value.flushed5 m c (point b))) (ix3 0 k s)
  have hi := index5 (point b)
  have e : ((cfg0.win 5).blk (point b)).view.emb (ix3 0 k s) = (ix3 b k s : S16x144x768.Idx) := funext fun a => Fin.ext (by
    match a with
    | ⟨0, _⟩ => show win0_5.index (point b) 0 * 1 + 1 * 0 = b.val; rw [hi.1]; show b.val * 1 + 1 * 0 = b.val; omega
    | ⟨1, _⟩ => show win0_5.index (point b) 1 * 144 + 1 * k.val = k.val; omega
    | ⟨2, _⟩ => show win0_5.index (point b) 2 * 768 + 1 * s.val = s.val; omega)
  have h1 : (dats m 0 c).arrAt 5 cfg0.N (((cfg0.win 5).blk (point b)).view.emb (ix3 0 k s)) =
    out0_5 (iblk m c 0 (point b)) (iblk m c 1 (point b)) (iblk m c 2 (point b)) (iblk m c 3 (point b)) (ix3 0 k s) := h
  rw [e] at h1
  rw [h1]
  unfold out0_5
  rw [View.canon_unit_zero hz]
  refine (pay2_apply _ _ _ _ k s).trans ?_
  rw [y2Of_iblk]
  rfl

/-- Which block of its array window 6 is at, at a grid point. -/
theorem index6 : ∀ t : Fin cfg0.N, win0_6.index t 0 = t.val ∧ win0_6.index t 1 = 0 ∧ win0_6.index t 2 = 0 :=
  (by decide +kernel : ∀ t : Fin grid0.N, win0_6.index t 0 = t.val ∧ win0_6.index t 1 = 0 ∧ win0_6.index t 2 = 0)

/-- The third result array at an index. -/
theorem final_g (c : Dev nD) (b : Fin 16) (k : Fin 144) (l : Fin 144) :
    (dats m 0 c).arrAt 6 cfg0.N (ix3 b k l) = gram (y2Arg m c b) k l := by
  have h := congrFun ((Value.blocks6 m c (point b) (flush0_6 _)).trans (Value.flushed6 m c (point b))) (ix3 0 k l)
  have hi := index6 (point b)
  have e : ((cfg0.win 6).blk (point b)).view.emb (ix3 0 k l) = (ix3 b k l : S16x144x144.Idx) := funext fun a => Fin.ext (by
    match a with
    | ⟨0, _⟩ => show win0_6.index (point b) 0 * 1 + 1 * 0 = b.val; rw [hi.1]; show b.val * 1 + 1 * 0 = b.val; omega
    | ⟨1, _⟩ => show win0_6.index (point b) 1 * 144 + 1 * k.val = k.val; omega
    | ⟨2, _⟩ => show win0_6.index (point b) 2 * 144 + 1 * l.val = l.val; omega)
  have h1 : (dats m 0 c).arrAt 6 cfg0.N (((cfg0.win 6).blk (point b)).view.emb (ix3 0 k l)) =
    out0_6 (iblk m c 0 (point b)) (iblk m c 1 (point b)) (iblk m c 2 (point b)) (iblk m c 3 (point b)) (ix3 0 k l) := h
  rw [e] at h1
  rw [h1]
  unfold out0_6
  rw [View.canon_unit_zero hz]
  refine (pay3_apply _ _ _ _ k l).trans ?_
  rw [y2Of_iblk]
  rfl

end Cert.PowerIdeal.Block

end
-- ==== Proof.PowerRefRead.lean ====
/- The power reference's result arrays, index by index. -/
module

public import proofs.«01_k».proof.Proof.Gen.PowerRefIdeal.Run
public import proofs.«01_k».proof.Proof.Spec

@[expose] public section

set_option maxRecDepth 16384

noncomputable section

namespace Cert.PowerRefIdeal.Read

open Cert.PowerRefIdeal Idealize.ShloMosaic Idealize.ShloMosaic.TcCoe Idealize.SL.Sem Cert.RangeFinder

variable (m : (ℓ : Loc nD τ sig) → Buf (Elt Ideal) ℓ) (ρ : Dev nD → PrngReg)

/-- The basis of a batch, from the arguments. -/
def qArg (c : Dev nD) (b : Fin 16) : Fin 144 → Fin 768 → EReal :=
  solve (fun k l => m ((c : Thread nD τ).loc main_arg3) (ix3 b k l)) (fun k s => m ((c : Thread nD τ).loc main_arg2) (ix3 b k s))

/-- The power iterate of a batch, from the arguments. -/
def y2Arg (c : Dev nD) (b : Fin 16) : Fin 144 → Fin 768 → EReal :=
  fwd (fun s n => m ((c : Thread nD τ).loc main_arg0) (ix3 b s n)) (fun s => m ((c : Thread nD τ).loc main_arg1) (ix2 b s))
    (bwd (fun s n => m ((c : Thread nD τ).loc main_arg0) (ix3 b s n)) (fun s => m ((c : Thread nD τ).loc main_arg1) (ix2 b s))
      (qArg m c b))

/-- A transposed array at an index. -/
theorem transpose_read (X : Vec Ideal S16x768x144 .f32) (b : Fin 16) (k : Fin 144) (s : Fin 768) :
    transpose S16x144x768 [0, 2, 1] X Gen.transposes_S16x768x144_S16x144x768_0_2_1 (ix3 b k s) = X (ix3 b s k) := by
  pointwise

/-- The batched Gram matrix at an index. -/
theorem gram_read (X : FVec Ideal S16x768x144 .f32) (b : Fin 16) (k l : Fin 144) :
    Host.dotGeneral (F := Ideal) dot_S16x768x144_S16x768x144_S16x144x144_1_1_2_2_0_0 (some .fp32) X X (ix3 b k l)
      = ∑ s : Fin 768, X (ix3 b s k) * X (ix3 b s l) := by
  pointwise

/-- The reference's run, its results read at an index. -/
theorem run : θ_run defs (onTc (τ := τ) (main (F := Ideal))) ⟨m, fun _ => 0, ρ⟩ fun r => ∀ c : Dev nD,
      (∀ b s k, r.2.mem ((c : Thread nD τ).loc main_v6) (ix3 b s k) = qArg m c b k s)
      ∧ (∀ b k s, r.2.mem ((c : Thread nD τ).loc main_v17) (ix3 b k s) = y2Arg m c b k s)
      ∧ (∀ b k l, r.2.mem ((c : Thread nD τ).loc main_v18) (ix3 b k l) = gram (y2Arg m c b) k l)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun r h c => ?_) (Value.run m ρ)
  have hy : ∀ b k s, r.2.mem ((c : Thread nD τ).loc main_v17) (ix3 b k s) = y2Arg m c b k s := by
    intro b k s
    rw [(h c).2.1]
    unfold y2Arg fwd bwd qArg solve
    generalize m ((c : Thread nD τ).loc main_arg0) = A
    generalize m ((c : Thread nD τ).loc main_arg1) = S
    generalize m ((c : Thread nD τ).loc main_arg2) = Y
    generalize m ((c : Thread nD τ).loc main_arg3) = L
    pointwise
    simp only [sitofp_ext, addi_zero, select_sge, ite_mul, zero_mul, mul_comm]
  refine ⟨fun b s k => ?_, hy, fun b k l => ?_, (h c).2.2.2⟩
  · rw [(h c).1]
    unfold qArg solve
    generalize m ((c : Thread nD τ).loc main_arg0) = A
    generalize m ((c : Thread nD τ).loc main_arg1) = S
    generalize m ((c : Thread nD τ).loc main_arg2) = Y
    generalize m ((c : Thread nD τ).loc main_arg3) = L
    pointwise
    simp only [sitofp_ext, addi_zero, select_sge, ite_mul, zero_mul, mul_comm]
  · rw [(h c).2.2.1]
    refine (gram_read _ b k l).trans (Finset.sum_congr rfl fun s _ => congrArg₂ (· * ·) ?_ ?_)
    · exact (transpose_read _ b k s).symm.trans ((congrFun (h c).2.1 _).symm.trans (hy b k s))
    · exact (transpose_read _ b l s).symm.trans ((congrFun (h c).2.1 _).symm.trans (hy b l s))

end Cert.PowerRefIdeal.Read

end
-- ==== Proof.ProjectBlock.lean ====
/- What one grid point of the project kernel computes: the lower triangle of its inverse factor applied to its batch's `y`
   (transposed, the basis `q`), and the product of that basis with the scaled codes. -/
module

public import proofs.«01_k».proof.Proof.Gen.ProjectIdeal.Value
public import proofs.«01_k».proof.Proof.Spec

@[expose] public section

set_option maxRecDepth 16384

noncomputable section

namespace Cert.ProjectIdeal.Block

open Cert.ProjectIdeal Cert.ProjectIdeal.Gen Idealize.ShloMosaic Cert.RangeFinder

/-- The basis of a grid point, from its blocks of the inverse factor and of `y`. -/
def qOf (x3 : Vec Ideal S1x144x144 .f32) (x2 : Vec Ideal S1x144x768 .f32) : Fin 144 → Fin 768 → EReal :=
  solve (fun k l => x3 (ix3 0 k l)) (fun k s => x2 (ix3 0 k s))

/-- The basis at an index, rank first. -/
theorem pay2_apply (x3 : Vec Ideal S1x144x144 .f32) (x2 : Vec Ideal S1x144x768 .f32) (k : Fin 144) (s : Fin 768) :
    k0_pay2 (F := Ideal) (View.ld x3 r0_0) (View.ld x2 r0_1) (ix2 k s) = qOf x3 x2 k s := by
  unfold qOf solve
  pointwise [k0_pay2]
  simp only [select_sle, ite_mul, zero_mul]

/-- The first output block at an index: the basis, position first. -/
theorem pay3_apply (x3 : Vec Ideal S1x144x144 .f32) (x2 : Vec Ideal S1x144x768 .f32) (k : Fin 144) (s : Fin 768) :
    k0_pay3 (F := Ideal) (View.ld x3 r0_0) (View.ld x2 r0_1) (ix3 0 s k) = qOf x3 x2 k s := by
  rw [← pay2_apply]
  pointwise [k0_pay3]

/-- The scaled basis at an index. -/
theorem pay4_apply (x3 : Vec Ideal S1x144x144 .f32) (x2 : Vec Ideal S1x144x768 .f32) (x1 : Vec Ideal S1x1x768 .f32)
    (k : Fin 144) (s : Fin 768) :
    k0_pay4 (F := Ideal) (View.ld x3 r0_0) (View.ld x2 r0_1) (View.ld x1 r0_3) (ix2 k s)
      = qOf x3 x2 k s * x1 (ix3 0 0 s) := by
  rw [← pay2_apply]
  pointwise [k0_pay4]

/-- The product of a grid point's basis with its scaled codes. -/
def bOf (x0 : Vec Ideal S1x768x3584 .i8) (x1 : Vec Ideal S1x1x768 .f32) (x2 : Vec Ideal S1x144x768 .f32)
    (x3 : Vec Ideal S1x144x144 .f32) : Fin 144 → Fin 3584 → EReal :=
  bwd (fun s n => x0 (ix3 0 s n)) (fun s => x1 (ix3 0 0 s)) (qOf x3 x2)

/-- The product at equal coordinates. -/
theorem bOf_congr (x0 : Vec Ideal S1x768x3584 .i8) (x1 : Vec Ideal S1x1x768 .f32) (x2 : Vec Ideal S1x144x768 .f32)
    (x3 : Vec Ideal S1x144x144 .f32) (k k' : Fin 144) (n n' : Fin 3584) (hk : k.val = k'.val) (hn : n.val = n'.val) :
    bOf x0 x1 x2 x3 k n = bOf x0 x1 x2 x3 k' n' := by
  obtain rfl : k = k' := Fin.ext hk
  obtain rfl : n = n' := Fin.ext hn
  rfl

/-- Columns 3328 to 3583 of the second output block. -/
theorem piece3328_apply (x0 : Vec Ideal S1x768x3584 .i8) (x1 : Vec Ideal S1x1x768 .f32) (x2 : Vec Ideal S1x144x768 .f32)
    (x3 : Vec Ideal S1x144x144 .f32) (k : Fin 144) (j : Fin 256) :
    (k0_pay1 (k0_pay21 (k0_pay22 x0 x1 x2 x3) (View.ld x0 r0_30)) : Vec Ideal S1x144x256 .f32) (ix3 0 k j) = bOf x0 x1 x2 x3 k ⟨3328 + j.val, by omega⟩ := by
  unfold bOf bwd
  pointwise [k0_pay1, k0_pay21, k0_pay22]
  simp only [pay4_apply]
  rfl

/-- Columns 3072 to 3327 of the second output block. -/
theorem piece3072_apply (x0 : Vec Ideal S1x768x3584 .i8) (x1 : Vec Ideal S1x1x768 .f32) (x2 : Vec Ideal S1x144x768 .f32)
    (x3 : Vec Ideal S1x144x144 .f32) (k : Fin 144) (j : Fin 256) :
    (k0_pay20 (k0_pay22 x0 x1 x2 x3) (View.ld x0 r0_28) : Vec Ideal S1x144x256 .f32) (ix3 0 k j) = bOf x0 x1 x2 x3 k ⟨3072 + j.val, by omega⟩ := by
  unfold bOf bwd
  pointwise [k0_pay20, k0_pay22]
  simp only [pay4_apply]
  rfl

/-- Columns 2816 to 3071 of the second output block. -/
theorem piece2816_apply (x0 : Vec Ideal S1x768x3584 .i8) (x1 : Vec Ideal S1x1x768 .f32) (x2 : Vec Ideal S1x144x768 .f32)
    (x3 : Vec Ideal S1x144x144 .f32) (k : Fin 144) (j : Fin 256) :
    (k0_pay19 (k0_pay22 x0 x1 x2 x3) (View.ld x0 r0_26) : Vec Ideal S1x144x256 .f32) (ix3 0 k j) = bOf x0 x1 x2 x3 k ⟨2816 + j.val, by omega⟩ := by
  unfold bOf bwd
  pointwise [k0_pay19, k0_pay22]
  simp only [pay4_apply]
  rfl

/-- Columns 2560 to 2815 of the second output block. -/
theorem piece2560_apply (x0 : Vec Ideal S1x768x3584 .i8) (x1 : Vec Ideal S1x1x768 .f32) (x2 : Vec Ideal S1x144x768 .f32)
    (x3 : Vec Ideal S1x144x144 .f32) (k : Fin 144) (j : Fin 256) :
    (k0_pay18 (k0_pay22 x0 x1 x2 x3) (View.ld x0 r0_24) : Vec Ideal S1x144x256 .f32) (ix3 0 k j) = bOf x0 x1 x2 x3 k ⟨2560 + j.val, by omega⟩ := by
  unfold bOf bwd
  pointwise [k0_pay18, k0_pay22]
  simp only [pay4_apply]
  rfl

/-- Columns 2304 to 2559 of the second output block. -/
theorem piece2304_apply (x0 : Vec Ideal S1x768x3584 .i8) (x1 : Vec Ideal S1x1x768 .f32) (x2 : Vec Ideal S1x144x768 .f32)
    (x3 : Vec Ideal S1x144x144 .f32) (k : Fin 144) (j : Fin 256) :
    (k0_pay17 (k0_pay16 (k0_pay22 x0 x1 x2 x3) (View.ld x0 r0_22)) : Vec Ideal S1x144x256 .f32) (ix3 0 k j) = bOf x0 x1 x2 x3 k ⟨2304 + j.val, by omega⟩ := by
  unfold bOf bwd
  pointwise [k0_pay16, k0_pay17, k0_pay22]
  simp only [pay4_apply]
  rfl

/-- Columns 2048 to 2303 of the second output block. -/
theorem piece2048_apply (x0 : Vec Ideal S1x768x3584 .i8) (x1 : Vec Ideal S1x1x768 .f32) (x2 : Vec Ideal S1x144x768 .f32)
    (x3 : Vec Ideal S1x144x144 .f32) (k : Fin 144) (j : Fin 256) :
    (k0_pay15 (k0_pay22 x0 x1 x2 x3) (View.ld x0 r0_20) : Vec Ideal S1x144x256 .f32) (ix3 0 k j) = bOf x0 x1 x2 x3 k ⟨2048 + j.val, by omega⟩ := by
  unfold bOf bwd
  pointwise [k0_pay15, k0_pay22]
  simp only [pay4_apply]
  rfl

/-- Columns 1792 to 2047 of the second output block. -/
theorem piece1792_apply (x0 : Vec Ideal S1x768x3584 .i8) (x1 : Vec Ideal S1x1x768 .f32) (x2 : Vec Ideal S1x144x768 .f32)
    (x3 : Vec Ideal S1x144x144 .f32) (k : Fin 144) (j : Fin 256) :
    (k0_pay14 (k0_pay22 x0 x1 x2 x3) (View.ld x0 r0_18) : Vec Ideal S1x144x256 .f32) (ix3 0 k j) = bOf x0 x1 x2 x3 k ⟨1792 + j.val, by omega⟩ := by
  unfold bOf bwd
  pointwise [k0_pay14, k0_pay22]
  simp only [pay4_apply]
  rfl

/-- Columns 1536 to 1791 of the second output block. -/
theorem piece1536_apply (x0 : Vec Ideal S1x768x3584 .i8) (x1 : Vec Ideal S1x1x768 .f32) (x2 : Vec Ideal S1x144x768 .f32)
    (x3 : Vec Ideal S1x144x144 .f32) (k : Fin 144) (j : Fin 256) :
    (k0_pay13 (k0_pay22 x0 x1 x2 x3) (View.ld x0 r0_16) : Vec Ideal S1x144x256 .f32) (ix3 0 k j) = bOf x0 x1 x2 x3 k ⟨1536 + j.val, by omega⟩ := by
  unfold bOf bwd
  pointwise [k0_pay13, k0_pay22]
  simp only [pay4_apply]
  rfl

/-- Columns 1280 to 1535 of the second output block. -/
theorem piece1280_apply (x0 : Vec Ideal S1x768x3584 .i8) (x1 : Vec Ideal S1x1x768 .f32) (x2 : Vec Ideal S1x144x768 .f32)
    (x3 : Vec Ideal S1x144x144 .f32) (k : Fin 144) (j : Fin 256) :
    (k0_pay12 (k0_pay11 (k0_pay22 x0 x1 x2 x3) (View.ld x0 r0_14)) : Vec Ideal S1x144x256 .f32) (ix3 0 k j) = bOf x0 x1 x2 x3 k ⟨1280 + j.val, by omega⟩ := by
  unfold bOf bwd
  pointwise [k0_pay11, k0_pay12, k0_pay22]
  simp only [pay4_apply]
  rfl

/-- Columns 1024 to 1279 of the second output block. -/
theorem piece1024_apply (x0 : Vec Ideal S1x768x3584 .i8) (x1 : Vec Ideal S1x1x768 .f32) (x2 : Vec Ideal S1x144x768 .f32)
    (x3 : Vec Ideal S1x144x144 .f32) (k : Fin 144) (j : Fin 256) :
    (k0_pay10 (k0_pay22 x0 x1 x2 x3) (View.ld x0 r0_12) : Vec Ideal S1x144x256 .f32) (ix3 0 k j) = bOf x0 x1 x2 x3 k ⟨1024 + j.val, by omega⟩ := by
  unfold bOf bwd
  pointwise [k0_pay10, k0_pay22]
  simp only [pay4_apply]
  rfl

/-- Columns 768 to 1023 of the second output block. -/
theorem piece768_apply (x0 : Vec Ideal S1x768x3584 .i8) (x1 : Vec Ideal S1x1x768 .f32) (x2 : Vec Ideal S1x144x768 .f32)
    (x3 : Vec Ideal S1x144x144 .f32) (k : Fin 144) (j : Fin 256) :
    (k0_pay9 (k0_pay22 x0 x1 x2 x3) (View.ld x0 r0_10) : Vec Ideal S1x144x256 .f32) (ix3 0 k j) = bOf x0 x1 x2 x3 k ⟨768 + j.val, by omega⟩ := by
  unfold bOf bwd
  pointwise [k0_pay9, k0_pay22]
  simp only [pay4_apply]
  rfl

/-- Columns 512 to 767 of the second output block. -/
theorem piece512_apply (x0 : Vec Ideal S1x768x3584 .i8) (x1 : Vec Ideal S1x1x768 .f32) (x2 : Vec Ideal S1x144x768 .f32)
    (x3 : Vec Ideal S1x144x144 .f32) (k : Fin 144) (j : Fin 256) :
    (k0_pay8 (k0_pay22 x0 x1 x2 x3) (View.ld x0 r0_8) : Vec Ideal S1x144x256 .f32) (ix3 0 k j) = bOf x0 x1 x2 x3 k ⟨512 + j.val, by omega⟩ := by
  unfold bOf bwd
  pointwise [k0_pay8, k0_pay22]
  simp only [pay4_apply]
  rfl

/-- Columns 256 to 511 of the second output block. -/
theorem piece256_apply (x0 : Vec Ideal S1x768x3584 .i8) (x1 : Vec Ideal S1x1x768 .f32) (x2 : Vec Ideal S1x144x768 .f32)
    (x3 : Vec Ideal S1x144x144 .f32) (k : Fin 144) (j : Fin 256) :
    (k0_pay7 (k0_pay6 (View.ld x3 r0_0) (View.ld x2 r0_1) (View.ld x1 r0_3) (View.ld x0 r0_6)) : Vec Ideal S1x144x256 .f32) (ix3 0 k j) = bOf x0 x1 x2 x3 k ⟨256 + j.val, by omega⟩ := by
  unfold bOf bwd
  pointwise [k0_pay6, k0_pay7, k0_pay22]
  simp only [pay4_apply]
  rfl

/-- Columns 0 to 255 of the second output block. -/
theorem piece0_apply (x0 : Vec Ideal S1x768x3584 .i8) (x1 : Vec Ideal S1x1x768 .f32) (x2 : Vec Ideal S1x144x768 .f32)
    (x3 : Vec Ideal S1x144x144 .f32) (k : Fin 144) (j : Fin 256) :
    (k0_pay5 (View.ld x3 r0_0) (View.ld x2 r0_1) (View.ld x1 r0_3) (View.ld x0 r0_4) : Vec Ideal S1x144x256 .f32) (ix3 0 k j) = bOf x0 x1 x2 x3 k ⟨j.val, by omega⟩ := by
  unfold bOf bwd
  pointwise [k0_pay5, k0_pay22]
  simp only [pay4_apply]
  rfl

/-- The second output block at an index: the kernel stores it in 14 pieces of 256 columns. -/
theorem out5_apply (x0 : Vec Ideal S1x768x3584 .i8) (x1 : Vec Ideal S1x1x768 .f32) (x2 : Vec Ideal S1x144x768 .f32)
    (x3 : Vec Ideal S1x144x144 .f32) (k : Fin 144) (n : Fin 3584) :
    out0_5 x0 x1 x2 x3 (ix3 0 k n) = bOf x0 x1 x2 x3 k n := by
  unfold out0_5
  refine View.canon_apply_of_pieces (Val := Elt Ideal) (fun y => bOf x0 x1 x2 x3 (y 1) (y 2) : Vec Ideal S1x144x3584 .f32) _ ?_ (ix3 0 k n)
    (cover0_5 _ _ _ _ _ _ _ _ _ _ _ _ _ _ _)
  intro pc hpc
  rcases List.mem_cons.mp hpc with rfl | hpc
  · intro x
    obtain ⟨z, k, j, rfl⟩ : ∃ (z : Fin 1) (k : Fin 144) (j : Fin 256), x = ix3 z k j :=
      ⟨x 0, x 1, x 2, funext fun a => by fin_cases a <;> rfl⟩
    obtain rfl : z = 0 := Subsingleton.elim _ _
    exact (piece3328_apply x0 x1 x2 x3 k j).trans (bOf_congr x0 x1 x2 x3 _ _ _ _ (by show k.val = 0 + 1 * k.val; omega)
      (by show 3328 + j.val = 3328 + 1 * j.val; omega))
  rcases List.mem_cons.mp hpc with rfl | hpc
  · intro x
    obtain ⟨z, k, j, rfl⟩ : ∃ (z : Fin 1) (k : Fin 144) (j : Fin 256), x = ix3 z k j :=
      ⟨x 0, x 1, x 2, funext fun a => by fin_cases a <;> rfl⟩
    obtain rfl : z = 0 := Subsingleton.elim _ _
    exact (piece3072_apply x0 x1 x2 x3 k j).trans (bOf_congr x0 x1 x2 x3 _ _ _ _ (by show k.val = 0 + 1 * k.val; omega)
      (by show 3072 + j.val = 3072 + 1 * j.val; omega))
  rcases List.mem_cons.mp hpc with rfl | hpc
  · intro x
    obtain ⟨z, k, j, rfl⟩ : ∃ (z : Fin 1) (k : Fin 144) (j : Fin 256), x = ix3 z k j :=
      ⟨x 0, x 1, x 2, funext fun a => by fin_cases a <;> rfl⟩
    obtain rfl : z = 0 := Subsingleton.elim _ _
    exact (piece2816_apply x0 x1 x2 x3 k j).trans (bOf_congr x0 x1 x2 x3 _ _ _ _ (by show k.val = 0 + 1 * k.val; omega)
      (by show 2816 + j.val = 2816 + 1 * j.val; omega))
  rcases List.mem_cons.mp hpc with rfl | hpc
  · intro x
    obtain ⟨z, k, j, rfl⟩ : ∃ (z : Fin 1) (k : Fin 144) (j : Fin 256), x = ix3 z k j :=
      ⟨x 0, x 1, x 2, funext fun a => by fin_cases a <;> rfl⟩
    obtain rfl : z = 0 := Subsingleton.elim _ _
    exact (piece2560_apply x0 x1 x2 x3 k j).trans (bOf_congr x0 x1 x2 x3 _ _ _ _ (by show k.val = 0 + 1 * k.val; omega)
      (by show 2560 + j.val = 2560 + 1 * j.val; omega))
  rcases List.mem_cons.mp hpc with rfl | hpc
  · intro x
    obtain ⟨z, k, j, rfl⟩ : ∃ (z : Fin 1) (k : Fin 144) (j : Fin 256), x = ix3 z k j :=
      ⟨x 0, x 1, x 2, funext fun a => by fin_cases a <;> rfl⟩
    obtain rfl : z = 0 := Subsingleton.elim _ _
    exact (piece2304_apply x0 x1 x2 x3 k j).trans (bOf_congr x0 x1 x2 x3 _ _ _ _ (by show k.val = 0 + 1 * k.val; omega)
      (by show 2304 + j.val = 2304 + 1 * j.val; omega))
  rcases List.mem_cons.mp hpc with rfl | hpc
  · intro x
    obtain ⟨z, k, j, rfl⟩ : ∃ (z : Fin 1) (k : Fin 144) (j : Fin 256), x = ix3 z k j :=
      ⟨x 0, x 1, x 2, funext fun a => by fin_cases a <;> rfl⟩
    obtain rfl : z = 0 := Subsingleton.elim _ _
    exact (piece2048_apply x0 x1 x2 x3 k j).trans (bOf_congr x0 x1 x2 x3 _ _ _ _ (by show k.val = 0 + 1 * k.val; omega)
      (by show 2048 + j.val = 2048 + 1 * j.val; omega))
  rcases List.mem_cons.mp hpc with rfl | hpc
  · intro x
    obtain ⟨z, k, j, rfl⟩ : ∃ (z : Fin 1) (k : Fin 144) (j : Fin 256), x = ix3 z k j :=
      ⟨x 0, x 1, x 2, funext fun a => by fin_cases a <;> rfl⟩
    obtain rfl : z = 0 := Subsingleton.elim _ _
    exact (piece1792_apply x0 x1 x2 x3 k j).trans (bOf_congr x0 x1 x2 x3 _ _ _ _ (by show k.val = 0 + 1 * k.val; omega)
      (by show 1792 + j.val = 1792 + 1 * j.val; omega))
  rcases List.mem_cons.mp hpc with rfl | hpc
  · intro x
    obtain ⟨z, k, j, rfl⟩ : ∃ (z : Fin 1) (k : Fin 144) (j : Fin 256), x = ix3 z k j :=
      ⟨x 0, x 1, x 2, funext fun a => by fin_cases a <;> rfl⟩
    obtain rfl : z = 0 := Subsingleton.elim _ _
    exact (piece1536_apply x0 x1 x2 x3 k j).trans (bOf_congr x0 x1 x2 x3 _ _ _ _ (by show k.val = 0 + 1 * k.val; omega)
      (by show 1536 + j.val = 1536 + 1 * j.val; omega))
  rcases List.mem_cons.mp hpc with rfl | hpc
  · intro x
    obtain ⟨z, k, j, rfl⟩ : ∃ (z : Fin 1) (k : Fin 144) (j : Fin 256), x = ix3 z k j :=
      ⟨x 0, x 1, x 2, funext fun a => by fin_cases a <;> rfl⟩
    obtain rfl : z = 0 := Subsingleton.elim _ _
    exact (piece1280_apply x0 x1 x2 x3 k j).trans (bOf_congr x0 x1 x2 x3 _ _ _ _ (by show k.val = 0 + 1 * k.val; omega)
      (by show 1280 + j.val = 1280 + 1 * j.val; omega))
  rcases List.mem_cons.mp hpc with rfl | hpc
  · intro x
    obtain ⟨z, k, j, rfl⟩ : ∃ (z : Fin 1) (k : Fin 144) (j : Fin 256), x = ix3 z k j :=
      ⟨x 0, x 1, x 2, funext fun a => by fin_cases a <;> rfl⟩
    obtain rfl : z = 0 := Subsingleton.elim _ _
    exact (piece1024_apply x0 x1 x2 x3 k j).trans (bOf_congr x0 x1 x2 x3 _ _ _ _ (by show k.val = 0 + 1 * k.val; omega)
      (by show 1024 + j.val = 1024 + 1 * j.val; omega))
  rcases List.mem_cons.mp hpc with rfl | hpc
  · intro x
    obtain ⟨z, k, j, rfl⟩ : ∃ (z : Fin 1) (k : Fin 144) (j : Fin 256), x = ix3 z k j :=
      ⟨x 0, x 1, x 2, funext fun a => by fin_cases a <;> rfl⟩
    obtain rfl : z = 0 := Subsingleton.elim _ _
    exact (piece768_apply x0 x1 x2 x3 k j).trans (bOf_congr x0 x1 x2 x3 _ _ _ _ (by show k.val = 0 + 1 * k.val; omega)
      (by show 768 + j.val = 768 + 1 * j.val; omega))
  rcases List.mem_cons.mp hpc with rfl | hpc
  · intro x
    obtain ⟨z, k, j, rfl⟩ : ∃ (z : Fin 1) (k : Fin 144) (j : Fin 256), x = ix3 z k j :=
      ⟨x 0, x 1, x 2, funext fun a => by fin_cases a <;> rfl⟩
    obtain rfl : z = 0 := Subsingleton.elim _ _
    exact (piece512_apply x0 x1 x2 x3 k j).trans (bOf_congr x0 x1 x2 x3 _ _ _ _ (by show k.val = 0 + 1 * k.val; omega)
      (by show 512 + j.val = 512 + 1 * j.val; omega))
  rcases List.mem_cons.mp hpc with rfl | hpc
  · intro x
    obtain ⟨z, k, j, rfl⟩ : ∃ (z : Fin 1) (k : Fin 144) (j : Fin 256), x = ix3 z k j :=
      ⟨x 0, x 1, x 2, funext fun a => by fin_cases a <;> rfl⟩
    obtain rfl : z = 0 := Subsingleton.elim _ _
    exact (piece256_apply x0 x1 x2 x3 k j).trans (bOf_congr x0 x1 x2 x3 _ _ _ _ (by show k.val = 0 + 1 * k.val; omega)
      (by show 256 + j.val = 256 + 1 * j.val; omega))
  rcases List.mem_cons.mp hpc with rfl | hpc
  · intro x
    obtain ⟨z, k, j, rfl⟩ : ∃ (z : Fin 1) (k : Fin 144) (j : Fin 256), x = ix3 z k j :=
      ⟨x 0, x 1, x 2, funext fun a => by fin_cases a <;> rfl⟩
    obtain rfl : z = 0 := Subsingleton.elim _ _
    exact (piece0_apply x0 x1 x2 x3 k j).trans (bOf_congr x0 x1 x2 x3 _ _ _ _ (by show k.val = 0 + 1 * k.val; omega)
      (by show j.val = 0 + 1 * j.val; omega))
  nomatch hpc

end Cert.ProjectIdeal.Block

end
-- ==== Proof.ProjectValue.lean ====
/- The project kernel's final arrays, index by index, as functions of its arguments. -/
module

public import proofs.«01_k».proof.Proof.ProjectBlock

@[expose] public section

set_option maxRecDepth 16384

noncomputable section

namespace Cert.ProjectIdeal.Block

open Cert.ProjectIdeal Cert.ProjectIdeal.Gen Idealize.ShloMosaic Idealize.ShloMosaic.TcCoe Idealize.SL.Sem Cert.RangeFinder

variable (m : (ℓ : Loc nD τ sig) → Buf (Elt Ideal) ℓ) (ρ : Dev nD → PrngReg)

/-- The reshaped scales at an index. -/
theorem V_scale (c : Dev nD) (b : Fin 16) (s : Fin 768) :
    V m c main_v0 (ix3 b 0 s) = m ((c : Thread nD τ).loc main_arg1) (ix2 b s) := by
  have h : V m c main_v0 = shapeCast S16x1x768 (m ((c : Thread nD τ).loc main_arg1)) shapeCasts_S16x768_S16x1x768 := by
    show StableHlo.after hostOps0 _ _ = _
    simp only [hostOps0]
    after_results
    rfl
  rw [h]
  exact shapeCast_apply _ _ (ix3 b 0 s) (ix2 b s) (by
    rw [Shape.rowMajor_val_two, Shape.rowMajor_val_three]
    show b.val * 768 + s.val = (b.val * 1 + 0) * 768 + s.val
    omega)

/-- Which block of its array window 0 is at, at a grid point. -/
theorem index0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)

/-- A grid point's batch. -/
def batch (t : Fin cfg0.N) : Fin 16 := ⟨t.val, by have := t.isLt; have h : cfg0.N = 16 := N_0; omega⟩

/-- The codes block of a grid point. -/
theorem iblk0 (c : Dev nD) (t : Fin cfg0.N) (s : Fin 768) (n : Fin 3584) :
    iblk m c 0 t (ix3 0 s n) = m ((c : Thread nD τ).loc main_arg0) (ix3 (batch t) s n) := by
  show V m c main_arg0 _ = _
  rw [V_main_arg0]
  refine congrArg _ (funext fun a => Fin.ext ?_)
  have h := index0 t
  match a with
  | ⟨0, _⟩ => show win0_0.index t 0 * 1 + 1 * 0 = t.val; omega
  | ⟨1, _⟩ => show win0_0.index t 1 * 768 + 1 * s.val = s.val; omega
  | ⟨2, _⟩ => show win0_0.index t 2 * 3584 + 1 * n.val = n.val; omega

/-- Which block of its array window 1 is at, at a grid point. -/
theorem index1 : ∀ t : Fin cfg0.N, win0_1.index t 0 = t.val ∧ win0_1.index t 1 = 0 ∧ win0_1.index t 2 = 0 :=
  (by decide +kernel : ∀ t : Fin grid0.N, win0_1.index t 0 = t.val ∧ win0_1.index t 1 = 0 ∧ win0_1.index t 2 = 0)

/-- The scales block of a grid point. -/
theorem iblk1 (c : Dev nD) (t : Fin cfg0.N) (s : Fin 768) :
    iblk m c 1 t (ix3 0 0 s) = m ((c : Thread nD τ).loc main_arg1) (ix2 (batch t) s) := by
  rw [← V_scale m]
  show V m c main_v0 _ = _
  refine congrArg _ (funext fun a => Fin.ext ?_)
  have h := index1 t
  match a with
  | ⟨0, _⟩ => show win0_1.index t 0 * 1 + 1 * 0 = t.val; omega
  | ⟨1, _⟩ => show win0_1.index t 1 * 1 + 1 * 0 = 0; omega
  | ⟨2, _⟩ => show win0_1.index t 2 * 768 + 1 * s.val = s.val; omega

/-- Which block of its array window 2 is at, at a grid point. -/
theorem index2 : ∀ t : Fin cfg0.N, win0_2.index t 0 = t.val ∧ win0_2.index t 1 = 0 ∧ win0_2.index t 2 = 0 :=
  (by decide +kernel : ∀ t : Fin grid0.N, win0_2.index t 0 = t.val ∧ win0_2.index t 1 = 0 ∧ win0_2.index t 2 = 0)

/-- The `y` block of a grid point. -/
theorem iblk2 (c : Dev nD) (t : Fin cfg0.N) (k : Fin 144) (s : Fin 768) :
    iblk m c 2 t (ix3 0 k s) = m ((c : Thread nD τ).loc main_arg2) (ix3 (batch t) k s) := by
  show V m c main_arg2 _ = _
  rw [V_main_arg2]
  refine congrArg _ (funext fun a => Fin.ext ?_)
  have h := index2 t
  match a with
  | ⟨0, _⟩ => show win0_2.index t 0 * 1 + 1 * 0 = t.val; omega
  | ⟨1, _⟩ => show win0_2.index t 1 * 144 + 1 * k.val = k.val; omega
  | ⟨2, _⟩ => show win0_2.index t 2 * 768 + 1 * s.val = s.val; omega

/-- Which block of its array window 3 is at, at a grid point. -/
theorem index3 : ∀ t : Fin cfg0.N, win0_3.index t 0 = t.val ∧ win0_3.index t 1 = 0 ∧ win0_3.index t 2 = 0 :=
  (by decide +kernel : ∀ t : Fin grid0.N, win0_3.index t 0 = t.val ∧ win0_3.index t 1 = 0 ∧ win0_3.index t 2 = 0)

/-- The inverse factor block of a grid point. -/
theorem iblk3 (c : Dev nD) (t : Fin cfg0.N) (k : Fin 144) (s : Fin 144) :
    iblk m c 3 t (ix3 0 k s) = m ((c : Thread nD τ).loc main_arg3) (ix3 (batch t) k s) := by
  show V m c main_arg3 _ = _
  rw [V_main_arg3]
  refine congrArg _ (funext fun a => Fin.ext ?_)
  have h := index3 t
  match a with
  | ⟨0, _⟩ => show win0_3.index t 0 * 1 + 1 * 0 = t.val; omega
  | ⟨1, _⟩ => show win0_3.index t 1 * 144 + 1 * k.val = k.val; omega
  | ⟨2, _⟩ => show win0_3.index t 2 * 144 + 1 * s.val = s.val; omega

/-- The basis of a batch, from the arguments. -/
def qArg (c : Dev nD) (b : Fin 16) : Fin 144 → Fin 768 → EReal :=
  solve (fun k l => m ((c : Thread nD τ).loc main_arg3) (ix3 b k l)) (fun k s => m ((c : Thread nD τ).loc main_arg2) (ix3 b k s))

/-- A grid point's basis is its batch's. -/
theorem qOf_iblk (c : Dev nD) (t : Fin cfg0.N) : qOf (iblk m c 3 t) (iblk m c 2 t) = qArg m c (batch t) := by
  unfold qOf qArg
  simp only [iblk2, iblk3]

/-- The product of a batch's basis with its scaled codes, from the arguments. -/
def bArg (c : Dev nD) (b : Fin 16) : Fin 144 → Fin 3584 → EReal :=
  bwd (fun s n => m ((c : Thread nD τ).loc main_arg0) (ix3 b s n)) (fun s => m ((c : Thread nD τ).loc main_arg1) (ix2 b s))
    (qArg m c b)

/-- A grid point's product is its batch's. -/
theorem bOf_iblk (c : Dev nD) (t : Fin cfg0.N) :
    bOf (iblk m c 0 t) (iblk m c 1 t) (iblk m c 2 t) (iblk m c 3 t) = bArg m c (batch t) := by
  unfold bOf bArg
  rw [qOf_iblk]
  simp only [iblk0, iblk1]

/-- The offsets zero, as a function. -/
theorem hz : (![0, 0, 0] : Fin 3 → Nat) = fun _ => 0 := funext fun a => by fin_cases a <;> rfl

/-- The grid point of a batch. -/
def point (b : Fin 16) : Fin cfg0.N := ⟨b.val, by have h : cfg0.N = 16 := N_0; have := b.isLt; omega⟩

/-- Which block of its array window 4 is at, at a grid point. -/
theorem index4 : ∀ t : Fin cfg0.N, win0_4.index t 0 = t.val ∧ win0_4.index t 1 = 0 ∧ win0_4.index t 2 = 0 :=
  (by decide +kernel : ∀ t : Fin grid0.N, win0_4.index t 0 = t.val ∧ win0_4.index t 1 = 0 ∧ win0_4.index t 2 = 0)

/-- The first result array at an index. -/
theorem final_q (c : Dev nD) (b : Fin 16) (s : Fin 768) (k : Fin 144) :
    (dats m 0 c).arrAt 4 cfg0.N (ix3 b s k) = qArg m c b k s := by
  have h := congrFun ((Value.blocks4 m c (point b) (flush0_4 _)).trans (Value.flushed4 m c (point b))) (ix3 0 s k)
  have hi := index4 (point b)
  have e : ((cfg0.win 4).blk (point b)).view.emb (ix3 0 s k) = (ix3 b s k : S16x768x144.Idx) := funext fun a => Fin.ext (by
    match a with
    | ⟨0, _⟩ => show win0_4.index (point b) 0 * 1 + 1 * 0 = b.val; rw [hi.1]; show b.val * 1 + 1 * 0 = b.val; omega
    | ⟨1, _⟩ => show win0_4.index (point b) 1 * 768 + 1 * s.val = s.val; omega
    | ⟨2, _⟩ => show win0_4.index (point b) 2 * 144 + 1 * k.val = k.val; omega)
  have h1 : (dats m 0 c).arrAt 4 cfg0.N (((cfg0.win 4).blk (point b)).view.emb (ix3 0 s k)) =
    out0_4 (iblk m c 0 (point b)) (iblk m c 1 (point b)) (iblk m c 2 (point b)) (iblk m c 3 (point b)) (ix3 0 s k) := h
  rw [e] at h1
  rw [h1]
  unfold out0_4
  rw [View.canon_unit_zero hz]
  refine (pay3_apply _ _ k s).trans ?_
  rw [qOf_iblk]
  rfl

/-- Which block of its array window 5 is at, at a grid point. -/
theorem index5 : ∀ t : Fin cfg0.N, win0_5.index t 0 = t.val ∧ win0_5.index t 1 = 0 ∧ win0_5.index t 2 = 0 :=
  (by decide +kernel : ∀ t : Fin grid0.N, win0_5.index t 0 = t.val ∧ win0_5.index t 1 = 0 ∧ win0_5.index t 2 = 0)

/-- The second result array at an index. -/
theorem final_b (c : Dev nD) (b : Fin 16) (k : Fin 144) (n : Fin 3584) :
    (dats m 0 c).arrAt 5 cfg0.N (ix3 b k n) = bArg m c b k n := by
  have h := congrFun ((Value.blocks5 m c (point b) (flush0_5 _)).trans (Value.flushed5 m c (point b))) (ix3 0 k n)
  have hi := index5 (point b)
  have e : ((cfg0.win 5).blk (point b)).view.emb (ix3 0 k n) = (ix3 b k n : S16x144x3584.Idx) := funext fun a => Fin.ext (by
    match a with
    | ⟨0, _⟩ => show win0_5.index (point b) 0 * 1 + 1 * 0 = b.val; rw [hi.1]; show b.val * 1 + 1 * 0 = b.val; omega
    | ⟨1, _⟩ => show win0_5.index (point b) 1 * 144 + 1 * k.val = k.val; omega
    | ⟨2, _⟩ => show win0_5.index (point b) 2 * 3584 + 1 * n.val = n.val; omega)
  have h1 : (dats m 0 c).arrAt 5 cfg0.N (((cfg0.win 5).blk (point b)).view.emb (ix3 0 k n)) =
    out0_5 (iblk m c 0 (point b)) (iblk m c 1 (point b)) (iblk m c 2 (point b)) (iblk m c 3 (point b)) (ix3 0 k n) := h
  rw [e] at h1
  rw [h1]
  refine (out5_apply _ _ _ _ k n).trans ?_
  rw [bOf_iblk]
  rfl

end Cert.ProjectIdeal.Block

end
-- ==== Proof.ProjectRefRead.lean ====
/- The project reference's result arrays, index by index. -/
module

public import proofs.«01_k».proof.Proof.Gen.ProjectRefIdeal.Run
public import proofs.«01_k».proof.Proof.Spec

@[expose] public section

set_option maxRecDepth 16384

noncomputable section

namespace Cert.ProjectRefIdeal.Read

open Cert.ProjectRefIdeal Idealize.ShloMosaic Idealize.ShloMosaic.TcCoe Idealize.SL.Sem Cert.RangeFinder

variable (m : (ℓ : Loc nD τ sig) → Buf (Elt Ideal) ℓ) (ρ : Dev nD → PrngReg)

/-- The basis of a batch, from the arguments. -/
def qArg (c : Dev nD) (b : Fin 16) : Fin 144 → Fin 768 → EReal :=
  solve (fun k l => m ((c : Thread nD τ).loc main_arg3) (ix3 b k l)) (fun k s => m ((c : Thread nD τ).loc main_arg2) (ix3 b k s))

/-- The product of a batch's basis with its scaled codes, from the arguments. -/
def bArg (c : Dev nD) (b : Fin 16) : Fin 144 → Fin 3584 → EReal :=
  bwd (fun s n => m ((c : Thread nD τ).loc main_arg0) (ix3 b s n)) (fun s => m ((c : Thread nD τ).loc main_arg1) (ix2 b s))
    (qArg m c b)

/-- The reference's run, its results read at an index. -/
theorem run : θ_run defs (onTc (τ := τ) (main (F := Ideal))) ⟨m, fun _ => 0, ρ⟩ fun r => ∀ c : Dev nD,
      (∀ b s k, r.2.mem ((c : Thread nD τ).loc main_v6) (ix3 b s k) = qArg m c b k s)
      ∧ (∀ b k n, r.2.mem ((c : Thread nD τ).loc main_v11) (ix3 b k n) = bArg m c b k n)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun r h c => ⟨fun b s k => ?_, fun b k n => ?_, (h c).2.2⟩) (Value.run m ρ)
  · rw [(h c).1]
    unfold qArg solve
    generalize m ((c : Thread nD τ).loc main_arg0) = A
    generalize m ((c : Thread nD τ).loc main_arg1) = S
    generalize m ((c : Thread nD τ).loc main_arg2) = Y
    generalize m ((c : Thread nD τ).loc main_arg3) = L
    pointwise
    simp only [sitofp_ext, addi_zero, select_sge, ite_mul, zero_mul, mul_comm]
  · rw [(h c).2.1]
    unfold bArg bwd qArg solve
    generalize m ((c : Thread nD τ).loc main_arg0) = A
    generalize m ((c : Thread nD τ).loc main_arg1) = S
    generalize m ((c : Thread nD τ).loc main_arg2) = Y
    generalize m ((c : Thread nD τ).loc main_arg3) = L
    pointwise
    simp only [sitofp_ext, addi_zero, select_sge, ite_mul, zero_mul, mul_comm]

end Cert.ProjectRefIdeal.Read

end
-- ==== Proof.Claims.lean ====
/- The claims about the three calls, from the final arrays of each kernel and the runs of its reference. -/
module

public import proofs.«01_k».proof.Defs
public import proofs.«01_k».proof.Proof.Gen.Sketch.Frame
public import proofs.«01_k».proof.Proof.Gen.Power.Frame
public import proofs.«01_k».proof.Proof.Gen.Project.Frame
public import proofs.«01_k».proof.Proof.SketchValue
public import proofs.«01_k».proof.Proof.SketchRefRead
public import proofs.«01_k».proof.Proof.PowerValue
public import proofs.«01_k».proof.Proof.PowerRefRead
public import proofs.«01_k».proof.Proof.ProjectValue
public import proofs.«01_k».proof.Proof.ProjectRefRead
public import Idealize.ShloMosaic.Lib.Quiescent

@[expose] public section

set_option maxRecDepth 16384

noncomputable section

namespace Cert.Proof.Calls

open Idealize.ShloMosaic Idealize.ShloMosaic.TcCoe Idealize.SL.Sem Cert.RangeFinder

/-- Every index of a three-axis array is given by its coordinates. -/
theorem exists_ix3 {a b c : Nat} (i : Shape.Idx ⟨3, ![a, b, c]⟩) : ∃ (x : Fin a) (y : Fin b) (z : Fin c), i = ix3 x y z :=
  ⟨i 0, i 1, i 2, funext fun d => by fin_cases d <;> rfl⟩

/-- Every run of the sketch call ends with its arguments unchanged and its semaphores at zero. -/
theorem frame_Sketch : Cert.quiescent_Sketch := fun m ρ _ => Cert.Sketch.Gen.frame m ρ

/-- The same of its ideal reading. -/
theorem frame_SketchIdeal : Cert.quiescent_SketchIdeal := fun m ρ _ => Cert.SketchIdeal.Gen.frame m ρ

/-- The same of the sketch reference, which has no semaphore. -/
theorem frame_SketchRefIdeal : Cert.quiescent_SketchRefIdeal := fun m ρ _ =>
  (θ_run Cert.SketchRefIdeal.defs _ _).mono (fun r h => ⟨fun c => ⟨(h c).2.2.1, (h c).2.2.2.1, (h c).2.2.2.2⟩,
      Idealize.ShloMosaic.sem_eq_zero_of_no_sems (by decide) r.2⟩)
    (Cert.SketchRefIdeal.Value.run (F := Ideal) m ρ)

/-- On equal arguments the sketch kernel and its reference read the same `yArg`. -/
theorem yArg_Sketch (m : (ℓ : Loc Cert.SketchIdeal.nD Cert.SketchIdeal.τ Cert.SketchIdeal.sig) → Buf (Elt Ideal) ℓ)
    (m' : (ℓ : Loc Cert.SketchRefIdeal.nD Cert.SketchRefIdeal.τ Cert.SketchRefIdeal.sig) → Buf (Elt Ideal) ℓ)
    (c : Dev Cert.SketchIdeal.nD) (b : Fin 16)
    (h0 : m' ((c : Thread Cert.SketchRefIdeal.nD Cert.SketchRefIdeal.τ).loc Cert.SketchRefIdeal.main_arg0) = m ((c : Thread Cert.SketchIdeal.nD Cert.SketchIdeal.τ).loc Cert.SketchIdeal.main_arg0))
    (h1 : m' ((c : Thread Cert.SketchRefIdeal.nD Cert.SketchRefIdeal.τ).loc Cert.SketchRefIdeal.main_arg1) = m ((c : Thread Cert.SketchIdeal.nD Cert.SketchIdeal.τ).loc Cert.SketchIdeal.main_arg1))
    (h2 : m' ((c : Thread Cert.SketchRefIdeal.nD Cert.SketchRefIdeal.τ).loc Cert.SketchRefIdeal.main_arg2) = m ((c : Thread Cert.SketchIdeal.nD Cert.SketchIdeal.τ).loc Cert.SketchIdeal.main_arg2)) :
    Cert.SketchRefIdeal.Read.yArg m' c b = Cert.SketchIdeal.Block.yArg m c b := by
  rw [Cert.SketchRefIdeal.Read.yArg, Cert.SketchIdeal.Block.yArg, h0, h1, h2]

/-- The sketch kernel's results are the sketch reference's. -/
theorem algebraic_Sketch : Cert.algebraic_SketchIdeal_SketchRefIdeal := by
  intro m ρ m' ρ' _ hagree
  refine ⟨fun c => (Cert.SketchIdeal.Gen.dats m 0 c).arrAt 3 Cert.SketchIdeal.cfg0.N, fun c => (Cert.SketchIdeal.Gen.dats m 0 c).arrAt 4 Cert.SketchIdeal.cfg0.N, Cert.SketchIdeal.Value.run_blocks m ρ, ?_⟩
  refine (θ_run Cert.SketchRefIdeal.defs _ _).mono (fun r h c => ⟨funext fun i => ?_, funext fun i => ?_, (h c).2.2⟩)
    (Cert.SketchRefIdeal.Read.run m' ρ')
  · obtain ⟨b, x, y, rfl⟩ := exists_ix3 i
    exact ((h c).1 b x y).trans ((congrArg (fun z => z x y) (yArg_Sketch m m' c b (hagree c).1 (hagree c).2.1 (hagree c).2.2)).trans
      (Cert.SketchIdeal.Block.final_y m c b x y).symm)
  · obtain ⟨b, x, y, rfl⟩ := exists_ix3 i
    exact ((h c).2.1 b x y).trans ((congrArg (fun z => gram z x y) (yArg_Sketch m m' c b (hagree c).1 (hagree c).2.1 (hagree c).2.2)).trans
      (Cert.SketchIdeal.Block.final_g m c b x y).symm)

/-- Every run of the power call ends with its arguments unchanged and its semaphores at zero. -/
theorem frame_Power : Cert.quiescent_Power := fun m ρ _ => Cert.Power.Gen.frame m ρ

/-- The same of its ideal reading. -/
theorem frame_PowerIdeal : Cert.quiescent_PowerIdeal := fun m ρ _ => Cert.PowerIdeal.Gen.frame m ρ

/-- The same of the power reference, which has no semaphore. -/
theorem frame_PowerRefIdeal : Cert.quiescent_PowerRefIdeal := fun m ρ _ =>
  (θ_run Cert.PowerRefIdeal.defs _ _).mono (fun r h => ⟨fun c => ⟨(h c).2.2.2.1, (h c).2.2.2.2.1, (h c).2.2.2.2.2.1, (h c).2.2.2.2.2.2⟩,
      Idealize.ShloMosaic.sem_eq_zero_of_no_sems (by decide) r.2⟩)
    (Cert.PowerRefIdeal.Value.run (F := Ideal) m ρ)

/-- On equal arguments the power kernel and its reference read the same `qArg`. -/
theorem qArg_Power (m : (ℓ : Loc Cert.PowerIdeal.nD Cert.PowerIdeal.τ Cert.PowerIdeal.sig) → Buf (Elt Ideal) ℓ)
    (m' : (ℓ : Loc Cert.PowerRefIdeal.nD Cert.PowerRefIdeal.τ Cert.PowerRefIdeal.sig) → Buf (Elt Ideal) ℓ)
    (c : Dev Cert.PowerIdeal.nD) (b : Fin 16)
    (h0 : m' ((c : Thread Cert.PowerRefIdeal.nD Cert.PowerRefIdeal.τ).loc Cert.PowerRefIdeal.main_arg0) = m ((c : Thread Cert.PowerIdeal.nD Cert.PowerIdeal.τ).loc Cert.PowerIdeal.main_arg0))
    (h1 : m' ((c : Thread Cert.PowerRefIdeal.nD Cert.PowerRefIdeal.τ).loc Cert.PowerRefIdeal.main_arg1) = m ((c : Thread Cert.PowerIdeal.nD Cert.PowerIdeal.τ).loc Cert.PowerIdeal.main_arg1))
    (h2 : m' ((c : Thread Cert.PowerRefIdeal.nD Cert.PowerRefIdeal.τ).loc Cert.PowerRefIdeal.main_arg2) = m ((c : Thread Cert.PowerIdeal.nD Cert.PowerIdeal.τ).loc Cert.PowerIdeal.main_arg2))
    (h3 : m' ((c : Thread Cert.PowerRefIdeal.nD Cert.PowerRefIdeal.τ).loc Cert.PowerRefIdeal.main_arg3) = m ((c : Thread Cert.PowerIdeal.nD Cert.PowerIdeal.τ).loc Cert.PowerIdeal.main_arg3)) :
    Cert.PowerRefIdeal.Read.qArg m' c b = Cert.PowerIdeal.Block.qArg m c b := by
  rw [Cert.PowerRefIdeal.Read.qArg, Cert.PowerIdeal.Block.qArg, h2, h3]

/-- On equal arguments the power kernel and its reference read the same `y2Arg`. -/
theorem y2Arg_Power (m : (ℓ : Loc Cert.PowerIdeal.nD Cert.PowerIdeal.τ Cert.PowerIdeal.sig) → Buf (Elt Ideal) ℓ)
    (m' : (ℓ : Loc Cert.PowerRefIdeal.nD Cert.PowerRefIdeal.τ Cert.PowerRefIdeal.sig) → Buf (Elt Ideal) ℓ)
    (c : Dev Cert.PowerIdeal.nD) (b : Fin 16)
    (h0 : m' ((c : Thread Cert.PowerRefIdeal.nD Cert.PowerRefIdeal.τ).loc Cert.PowerRefIdeal.main_arg0) = m ((c : Thread Cert.PowerIdeal.nD Cert.PowerIdeal.τ).loc Cert.PowerIdeal.main_arg0))
    (h1 : m' ((c : Thread Cert.PowerRefIdeal.nD Cert.PowerRefIdeal.τ).loc Cert.PowerRefIdeal.main_arg1) = m ((c : Thread Cert.PowerIdeal.nD Cert.PowerIdeal.τ).loc Cert.PowerIdeal.main_arg1))
    (h2 : m' ((c : Thread Cert.PowerRefIdeal.nD Cert.PowerRefIdeal.τ).loc Cert.PowerRefIdeal.main_arg2) = m ((c : Thread Cert.PowerIdeal.nD Cert.PowerIdeal.τ).loc Cert.PowerIdeal.main_arg2))
    (h3 : m' ((c : Thread Cert.PowerRefIdeal.nD Cert.PowerRefIdeal.τ).loc Cert.PowerRefIdeal.main_arg3) = m ((c : Thread Cert.PowerIdeal.nD Cert.PowerIdeal.τ).loc Cert.PowerIdeal.main_arg3)) :
    Cert.PowerRefIdeal.Read.y2Arg m' c b = Cert.PowerIdeal.Block.y2Arg m c b := by
  rw [Cert.PowerRefIdeal.Read.y2Arg, Cert.PowerIdeal.Block.y2Arg, qArg_Power m m' c b h0 h1 h2 h3, h0, h1]

/-- The power kernel's results are the power reference's. -/
theorem algebraic_Power : Cert.algebraic_PowerIdeal_PowerRefIdeal := by
  intro m ρ m' ρ' _ hagree
  refine ⟨fun c => (Cert.PowerIdeal.Gen.dats m 0 c).arrAt 4 Cert.PowerIdeal.cfg0.N, fun c => (Cert.PowerIdeal.Gen.dats m 0 c).arrAt 5 Cert.PowerIdeal.cfg0.N, fun c => (Cert.PowerIdeal.Gen.dats m 0 c).arrAt 6 Cert.PowerIdeal.cfg0.N, Cert.PowerIdeal.Value.run_blocks m ρ, ?_⟩
  refine (θ_run Cert.PowerRefIdeal.defs _ _).mono (fun r h c => ⟨funext fun i => ?_, funext fun i => ?_, funext fun i => ?_, (h c).2.2.2⟩)
    (Cert.PowerRefIdeal.Read.run m' ρ')
  · obtain ⟨b, x, y, rfl⟩ := exists_ix3 i
    exact ((h c).1 b x y).trans ((congrArg (fun z => z y x) (qArg_Power m m' c b (hagree c).1 (hagree c).2.1 (hagree c).2.2.1 (hagree c).2.2.2)).trans
      (Cert.PowerIdeal.Block.final_q m c b x y).symm)
  · obtain ⟨b, x, y, rfl⟩ := exists_ix3 i
    exact ((h c).2.1 b x y).trans ((congrArg (fun z => z x y) (y2Arg_Power m m' c b (hagree c).1 (hagree c).2.1 (hagree c).2.2.1 (hagree c).2.2.2)).trans
      (Cert.PowerIdeal.Block.final_y m c b x y).symm)
  · obtain ⟨b, x, y, rfl⟩ := exists_ix3 i
    exact ((h c).2.2.1 b x y).trans ((congrArg (fun z => gram z x y) (y2Arg_Power m m' c b (hagree c).1 (hagree c).2.1 (hagree c).2.2.1 (hagree c).2.2.2)).trans
      (Cert.PowerIdeal.Block.final_g m c b x y).symm)

/-- Every run of the project call ends with its arguments unchanged and its semaphores at zero. -/
theorem frame_Project : Cert.quiescent_Project := fun m ρ _ => Cert.Project.Gen.frame m ρ

/-- The same of its ideal reading. -/
theorem frame_ProjectIdeal : Cert.quiescent_ProjectIdeal := fun m ρ _ => Cert.ProjectIdeal.Gen.frame m ρ

/-- The same of the project reference, which has no semaphore. -/
theorem frame_ProjectRefIdeal : Cert.quiescent_ProjectRefIdeal := fun m ρ _ =>
  (θ_run Cert.ProjectRefIdeal.defs _ _).mono (fun r h => ⟨fun c => ⟨(h c).2.2.1, (h c).2.2.2.1, (h c).2.2.2.2.1, (h c).2.2.2.2.2⟩,
      Idealize.ShloMosaic.sem_eq_zero_of_no_sems (by decide) r.2⟩)
    (Cert.ProjectRefIdeal.Value.run (F := Ideal) m ρ)

/-- On equal arguments the project kernel and its reference read the same `qArg`. -/
theorem qArg_Project (m : (ℓ : Loc Cert.ProjectIdeal.nD Cert.ProjectIdeal.τ Cert.ProjectIdeal.sig) → Buf (Elt Ideal) ℓ)
    (m' : (ℓ : Loc Cert.ProjectRefIdeal.nD Cert.ProjectRefIdeal.τ Cert.ProjectRefIdeal.sig) → Buf (Elt Ideal) ℓ)
    (c : Dev Cert.ProjectIdeal.nD) (b : Fin 16)
    (h0 : m' ((c : Thread Cert.ProjectRefIdeal.nD Cert.ProjectRefIdeal.τ).loc Cert.ProjectRefIdeal.main_arg0) = m ((c : Thread Cert.ProjectIdeal.nD Cert.ProjectIdeal.τ).loc Cert.ProjectIdeal.main_arg0))
    (h1 : m' ((c : Thread Cert.ProjectRefIdeal.nD Cert.ProjectRefIdeal.τ).loc Cert.ProjectRefIdeal.main_arg1) = m ((c : Thread Cert.ProjectIdeal.nD Cert.ProjectIdeal.τ).loc Cert.ProjectIdeal.main_arg1))
    (h2 : m' ((c : Thread Cert.ProjectRefIdeal.nD Cert.ProjectRefIdeal.τ).loc Cert.ProjectRefIdeal.main_arg2) = m ((c : Thread Cert.ProjectIdeal.nD Cert.ProjectIdeal.τ).loc Cert.ProjectIdeal.main_arg2))
    (h3 : m' ((c : Thread Cert.ProjectRefIdeal.nD Cert.ProjectRefIdeal.τ).loc Cert.ProjectRefIdeal.main_arg3) = m ((c : Thread Cert.ProjectIdeal.nD Cert.ProjectIdeal.τ).loc Cert.ProjectIdeal.main_arg3)) :
    Cert.ProjectRefIdeal.Read.qArg m' c b = Cert.ProjectIdeal.Block.qArg m c b := by
  rw [Cert.ProjectRefIdeal.Read.qArg, Cert.ProjectIdeal.Block.qArg, h2, h3]

/-- On equal arguments the project kernel and its reference read the same `bArg`. -/
theorem bArg_Project (m : (ℓ : Loc Cert.ProjectIdeal.nD Cert.ProjectIdeal.τ Cert.ProjectIdeal.sig) → Buf (Elt Ideal) ℓ)
    (m' : (ℓ : Loc Cert.ProjectRefIdeal.nD Cert.ProjectRefIdeal.τ Cert.ProjectRefIdeal.sig) → Buf (Elt Ideal) ℓ)
    (c : Dev Cert.ProjectIdeal.nD) (b : Fin 16)
    (h0 : m' ((c : Thread Cert.ProjectRefIdeal.nD Cert.ProjectRefIdeal.τ).loc Cert.ProjectRefIdeal.main_arg0) = m ((c : Thread Cert.ProjectIdeal.nD Cert.ProjectIdeal.τ).loc Cert.ProjectIdeal.main_arg0))
    (h1 : m' ((c : Thread Cert.ProjectRefIdeal.nD Cert.ProjectRefIdeal.τ).loc Cert.ProjectRefIdeal.main_arg1) = m ((c : Thread Cert.ProjectIdeal.nD Cert.ProjectIdeal.τ).loc Cert.ProjectIdeal.main_arg1))
    (h2 : m' ((c : Thread Cert.ProjectRefIdeal.nD Cert.ProjectRefIdeal.τ).loc Cert.ProjectRefIdeal.main_arg2) = m ((c : Thread Cert.ProjectIdeal.nD Cert.ProjectIdeal.τ).loc Cert.ProjectIdeal.main_arg2))
    (h3 : m' ((c : Thread Cert.ProjectRefIdeal.nD Cert.ProjectRefIdeal.τ).loc Cert.ProjectRefIdeal.main_arg3) = m ((c : Thread Cert.ProjectIdeal.nD Cert.ProjectIdeal.τ).loc Cert.ProjectIdeal.main_arg3)) :
    Cert.ProjectRefIdeal.Read.bArg m' c b = Cert.ProjectIdeal.Block.bArg m c b := by
  rw [Cert.ProjectRefIdeal.Read.bArg, Cert.ProjectIdeal.Block.bArg, qArg_Project m m' c b h0 h1 h2 h3, h0, h1]

/-- The project kernel's results are the project reference's. -/
theorem algebraic_Project : Cert.algebraic_ProjectIdeal_ProjectRefIdeal := by
  intro m ρ m' ρ' _ hagree
  refine ⟨fun c => (Cert.ProjectIdeal.Gen.dats m 0 c).arrAt 4 Cert.ProjectIdeal.cfg0.N, fun c => (Cert.ProjectIdeal.Gen.dats m 0 c).arrAt 5 Cert.ProjectIdeal.cfg0.N, Cert.ProjectIdeal.Value.run_blocks m ρ, ?_⟩
  refine (θ_run Cert.ProjectRefIdeal.defs _ _).mono (fun r h c => ⟨funext fun i => ?_, funext fun i => ?_, (h c).2.2⟩)
    (Cert.ProjectRefIdeal.Read.run m' ρ')
  · obtain ⟨b, x, y, rfl⟩ := exists_ix3 i
    exact ((h c).1 b x y).trans ((congrArg (fun z => z y x) (qArg_Project m m' c b (hagree c).1 (hagree c).2.1 (hagree c).2.2.1 (hagree c).2.2.2)).trans
      (Cert.ProjectIdeal.Block.final_q m c b x y).symm)
  · obtain ⟨b, x, y, rfl⟩ := exists_ix3 i
    exact ((h c).2.1 b x y).trans ((congrArg (fun z => z x y) (bArg_Project m m' c b (hagree c).1 (hagree c).2.1 (hagree c).2.2.1 (hagree c).2.2.2)).trans
      (Cert.ProjectIdeal.Block.final_b m c b x y).symm)

end Cert.Proof.Calls

end
-- ==== Proof.FactorMath.lean ====
/- The elimination of the factor call, over the real numbers: for a lower triangular `l` with inverse `w` the array
   after the first `k` rows have been eliminated from `l lᵀ` is known in closed form (`elim`), and one step of the kernel
   takes the closed form at `k` to the closed form at `k + p` (`elim_row`, `elim_rest`). -/
module

public import Idealize.ShloMosaic.Lib.Pointwise

@[expose] public section

noncomputable section

namespace Cert.RangeFinder.Factor

open Finset

/-- `w` is the inverse of the lower triangular `l` of order `N`; both are zero above the diagonal. -/
structure Inverse (N : ℕ) (l w : ℕ → ℕ → ℝ) : Prop where
  lz : ∀ i j, i < j → l i j = 0
  wz : ∀ i j, i < j → w i j = 0
  lw : ∀ i j, i < N → j < N → ∑ t ∈ range N, l i t * w t j = if i = j then 1 else 0
  wl : ∀ i j, i < N → j < N → ∑ t ∈ range N, w i t * l t j = if i = j then 1 else 0

/-- The array after `k` rows of `l lᵀ` have been eliminated: the inverse of the leading block, beside it the transposed
    factor, below it the product of the two, and the remaining Gram matrix in the lower right corner. -/
def elim (N : ℕ) (l w : ℕ → ℕ → ℝ) (k i j : ℕ) : ℝ :=
  if i < k then (if j < k then w i j else l j i)
  else if j < k then -∑ t ∈ range k, l i t * w t j
  else ∑ t ∈ Ico k N, l i t * l j t

/-- A sum over the first `N` indices that vanishes outside `[k, m)` is the sum over `[k, m)`. -/
theorem sum_range_eq_Ico {N k m : ℕ} (hm : m ≤ N) (f : ℕ → ℝ) (h0 : ∀ t, t < k → f t = 0) (h1 : ∀ t, m ≤ t → f t = 0) :
    ∑ t ∈ range N, f t = ∑ t ∈ Ico k m, f t := by
  symm
  refine sum_subset (fun t ht => ?_) (fun t _ ht => ?_)
  · rw [mem_Ico] at ht; rw [mem_range]; omega
  · rw [mem_Ico] at ht
    rcases Nat.lt_or_ge t k with h | h
    · exact h0 t h
    · exact h1 t (by omega)

variable {N : ℕ} {l w : ℕ → ℕ → ℝ}

/-- The diagonal block of the inverse is the inverse of the diagonal block. -/
theorem Inverse.block (h : Inverse N l w) {k m a u : ℕ} (hm : m ≤ N) (ha : a < m) (hu : k ≤ u) (hum : u < m) :
    ∑ t ∈ Ico k m, w a t * l t u = if a = u then 1 else 0 := by
  rw [← h.wl a u (by omega) (by omega)]
  refine (sum_range_eq_Ico hm _ (fun t ht => ?_) (fun t ht => ?_)).symm
  · rw [h.lz t u (by omega), mul_zero]
  · rw [h.wz a t (by omega), zero_mul]

/-- The rows of the panel `[k, m)` after the step: the inverse of the diagonal block times the rows before it, the
    columns of the panel replaced by the identity. -/
theorem elim_row (h : Inverse N l w) {k m a j : ℕ} (hm : m ≤ N) (hka : k ≤ a) (ha : a < m) (hj : j < N) :
    ∑ t ∈ Ico k m, w a t * (if k ≤ j ∧ j < m then (if j = t then 1 else 0) else elim N l w k t j) = elim N l w m a j := by
  unfold elim
  rw [if_pos ha]
  by_cases hjm : j < m
  · rw [if_pos hjm]
    by_cases hjk : k ≤ j
    · rw [sum_eq_single j]
      · rw [if_pos ⟨hjk, hjm⟩, if_pos rfl, mul_one]
      · intro t _ ht; rw [if_pos ⟨hjk, hjm⟩, if_neg (Ne.symm ht), mul_zero]
      · intro hn; exact absurd (mem_Ico.2 ⟨hjk, hjm⟩) hn
    · have key : ∀ t ∈ Ico k m, w a t * (if k ≤ j ∧ j < m then (if j = t then (1 : ℝ) else 0)
          else if t < k then (if j < k then w t j else l j t) else if j < k then -∑ u ∈ range k, l t u * w u j
            else ∑ u ∈ Ico k N, l t u * l j u) = ∑ u ∈ Ico k m, w a t * l t u * w u j := by
        intro t ht
        rw [mem_Ico] at ht
        rw [if_neg (by omega), if_neg (by omega), if_pos (by omega)]
        have hz := h.lw t j (by omega) hj
        rw [if_neg (by omega)] at hz
        have hs : ∑ u ∈ range N, l t u * w u j = ∑ u ∈ range m, l t u * w u j := by
          refine (sum_range_eq_Ico (k := 0) hm _ (fun t ht => absurd ht (Nat.not_lt_zero t)) (fun u hu => ?_)).trans
            (by rw [range_eq_Ico])
          rw [h.lz t u (by omega), zero_mul]
        rw [hs, ← sum_range_add_sum_Ico _ (show k ≤ m by omega)] at hz
        rw [show -∑ u ∈ range k, l t u * w u j = ∑ u ∈ Ico k m, l t u * w u j by linarith, mul_sum]
        exact sum_congr rfl fun u _ => by ring
      rw [sum_congr rfl key, sum_comm]
      have key2 : ∀ u ∈ Ico k m, ∑ t ∈ Ico k m, w a t * l t u * w u j = (if a = u then 1 else 0) * w u j := by
        intro u hu
        rw [mem_Ico] at hu
        rw [← h.block hm ha hu.1 hu.2, sum_mul]
      rw [sum_congr rfl key2, sum_eq_single a]
      · rw [if_pos rfl, one_mul]
      · intro u _ hu; rw [if_neg (Ne.symm hu), zero_mul]
      · intro hn; exact absurd (mem_Ico.2 ⟨hka, ha⟩) hn
  · rw [if_neg hjm]
    have key : ∀ t ∈ Ico k m, w a t * (if k ≤ j ∧ j < m then (if j = t then (1 : ℝ) else 0)
          else if t < k then (if j < k then w t j else l j t) else if j < k then -∑ u ∈ range k, l t u * w u j
            else ∑ u ∈ Ico k N, l t u * l j u) = ∑ u ∈ Ico k m, w a t * l t u * l j u := by
      intro t ht
      rw [mem_Ico] at ht
      rw [if_neg (by omega), if_neg (by omega), if_neg (by omega), mul_sum]
      have : ∑ u ∈ Ico k N, w a t * (l t u * l j u) = ∑ u ∈ Ico k m, w a t * (l t u * l j u) := by
        symm
        refine sum_subset (fun u hu => ?_) (fun u hu hn => ?_)
        · rw [mem_Ico] at hu ⊢; omega
        · rw [mem_Ico] at hu hn; rw [h.lz t u (by omega), zero_mul, mul_zero]
      rw [this]
      exact sum_congr rfl fun u _ => by ring
    rw [sum_congr rfl key, sum_comm]
    have key2 : ∀ u ∈ Ico k m, ∑ t ∈ Ico k m, w a t * l t u * l j u = (if a = u then 1 else 0) * l j u := by
      intro u hu
      rw [mem_Ico] at hu
      rw [← h.block hm ha hu.1 hu.2, sum_mul]
    rw [sum_congr rfl key2, sum_eq_single a]
    · rw [if_pos rfl, one_mul]
    · intro u _ hu; rw [if_neg (Ne.symm hu), zero_mul]
    · intro hn; exact absurd (mem_Ico.2 ⟨hka, ha⟩) hn

/-- The rows below the panel after the step: the columns of the panel cleared, minus the product of the new panel's
    transposed right part with the new panel. -/
theorem elim_rest (h : Inverse N l w) {k m i j : ℕ} (hkm : k ≤ m) (hm : m ≤ N) (hi : m ≤ i) :
    (if k ≤ j ∧ j < m then 0 else elim N l w k i j) - ∑ a ∈ Ico k m, elim N l w m a i * elim N l w m a j
      = elim N l w m i j := by
  have h1 : ∀ a ∈ Ico k m, elim N l w m a i * elim N l w m a j = l i a * (if j < m then w a j else l j a) := by
    intro a ha
    rw [mem_Ico] at ha
    unfold elim
    rw [if_pos ha.2, if_pos ha.2, if_neg (by omega)]
  rw [sum_congr rfl h1]
  unfold elim
  rw [if_neg (show ¬ i < m by omega), if_neg (show ¬ i < k by omega)]
  by_cases hjm : j < m
  · simp only [if_pos hjm]
    by_cases hjk : k ≤ j
    · rw [if_pos ⟨hjk, hjm⟩, ← sum_range_add_sum_Ico _ hkm]
      rw [sum_eq_zero (s := range k) fun t ht => by rw [h.wz t j (by rw [mem_range] at ht; omega), mul_zero]]
      ring
    · rw [if_neg (by omega), if_pos (by omega), ← sum_range_add_sum_Ico _ hkm]
      ring
  · simp only [if_neg hjm]
    rw [if_neg (by omega), if_neg (by omega), ← sum_Ico_consecutive _ hkm hm]
    ring

/-- The diagonal of the inverse. -/
theorem Inverse.diag (h : Inverse N l w) {j : ℕ} (hj : j < N) : w j j * l j j = 1 := by
  have := h.block (k := j) (m := j + 1) (a := j) (u := j) (by omega) (by omega) le_rfl (by omega)
  rwa [Nat.Ico_succ_singleton, sum_singleton, if_pos rfl] at this

/-- The entry of row `i` in the column being eliminated. -/
theorem elim_col (h : Inverse N l w) {j i : ℕ} (hj : j < N) (hi : j ≤ i) : elim N l w j i j = l i j * l j j := by
  unfold elim
  rw [if_neg (by omega), if_neg (by omega)]
  rw [sum_eq_single j]
  · intro t ht hn; rw [mem_Ico] at ht; rw [h.lz j t (by omega), mul_zero]
  · intro hn; exact absurd (mem_Ico.2 ⟨le_rfl, hj⟩) hn

/-- One row at a time: the pivot row after its step is the row, its pivot replaced by one, over the square root of the
    pivot. -/
theorem elim_pivot (h : Inverse N l w) {j a : ℕ} (hj : j < N) (ha : a < N) (hpos : 0 < l j j) :
    (if a = j then 1 else elim N l w j j a) * (Real.sqrt (elim N l w j j j))⁻¹ = elim N l w (j + 1) j a := by
  have hr := elim_row h (k := j) (m := j + 1) (a := j) (j := a) (by omega) le_rfl (by omega) ha
  rw [Nat.Ico_succ_singleton, sum_singleton] at hr
  have hw : (Real.sqrt (elim N l w j j j))⁻¹ = w j j := by
    rw [elim_col h hj le_rfl, Real.sqrt_mul_self hpos.le]
    have := h.diag hj
    field_simp
    linarith
  rw [hw, ← hr, mul_comm]
  congr 1
  by_cases haj : a = j
  · rw [if_pos haj, if_pos (by omega), if_pos haj]
  · rw [if_neg haj, if_neg (by omega)]

/-- One row at a time: a row below the pivot after the step. -/
theorem elim_below (h : Inverse N l w) {j i a : ℕ} (hj : j < N) (hi : j < i) (hpos : 0 < l j j) :
    (if a = j then 0 else elim N l w j i a)
      - elim N l w j i j * (Real.sqrt (elim N l w j j j))⁻¹ * elim N l w (j + 1) j a = elim N l w (j + 1) i a := by
  have hr := elim_rest h (k := j) (m := j + 1) (i := i) (j := a) (by omega) (by omega) (by omega)
  rw [Nat.Ico_succ_singleton, sum_singleton] at hr
  have hw : elim N l w j i j * (Real.sqrt (elim N l w j j j))⁻¹ = elim N l w (j + 1) j i := by
    rw [elim_col h hj le_rfl, Real.sqrt_mul_self hpos.le, elim_col h hj hi.le, mul_assoc, mul_inv_cancel₀ hpos.ne', mul_one]
    unfold elim
    rw [if_pos (by omega), if_neg (by omega)]
  rw [hw, ← hr]
  congr 1
  by_cases haj : a = j
  · rw [if_pos haj, if_pos (by omega)]
  · rw [if_neg haj, if_neg (by omega)]

/-- The diagonal block at `k` of the remaining Gram matrix is the Gram matrix of the diagonal block of `l`, of which the
    diagonal block of `w` is the inverse. -/
theorem Inverse.shift (h : Inverse N l w) {k p : ℕ} (hk : k + p ≤ N) :
    Inverse p (fun i j => l (k + i) (k + j)) (fun i j => w (k + i) (k + j)) where
  lz i j hij := h.lz _ _ (by omega)
  wz i j hij := h.wz _ _ (by omega)
  lw i j hi hj := by
    have := h.lw (k + i) (k + j) (by omega) (by omega)
    rw [sum_range_eq_Ico (k := k) (m := k + p) hk _ (fun t ht => by rw [h.wz t _ (by omega), mul_zero])
      (fun t ht => by rw [h.lz _ t (by omega), zero_mul])] at this
    rw [sum_Ico_eq_sum_range, Nat.add_sub_cancel_left] at this
    rw [this]
    simp only [Nat.add_left_cancel_iff]
  wl i j hi hj := by
    have := h.wl (k + i) (k + j) (by omega) (by omega)
    rw [sum_range_eq_Ico (k := k) (m := k + p) hk _ (fun t ht => by rw [h.lz t _ (by omega), mul_zero])
      (fun t ht => by rw [h.wz _ t (by omega), zero_mul])] at this
    rw [sum_Ico_eq_sum_range, Nat.add_sub_cancel_left] at this
    rw [this]
    simp only [Nat.add_left_cancel_iff]

/-- The remaining Gram matrix's diagonal block, in the block's own coordinates. -/
theorem elim_shift (h : Inverse N l w) {k p i j : ℕ} (hk : k + p ≤ N) (hi : i < p) :
    elim N l w k (k + i) (k + j) = elim p (fun i j => l (k + i) (k + j)) (fun i j => w (k + i) (k + j)) 0 i j := by
  unfold elim
  rw [if_neg (by omega), if_neg (by omega), if_neg (Nat.not_lt_zero _), if_neg (Nat.not_lt_zero _)]
  have : ∑ t ∈ Ico k N, l (k + i) t * l (k + j) t = ∑ t ∈ Ico k (k + p), l (k + i) t * l (k + j) t := by
    symm
    refine sum_subset (fun u hu => ?_) (fun u hu hn => ?_)
    · rw [mem_Ico] at hu ⊢; omega
    · rw [mem_Ico] at hu hn; rw [h.lz _ u (by omega), zero_mul]
  rw [this, sum_Ico_eq_sum_range, Nat.add_sub_cancel_left, ← range_eq_Ico]

end Cert.RangeFinder.Factor
-- ==== Proof.FactorRows.lean ====
/- The sixteen elimination steps that the factor kernel makes on the rows of a diagonal block, all sixteen batches at once:
   the steps as functions of the rows (`step`), and their value over the reals (`steps_apply`). -/
module

public import proofs.«01_k».proof.Proof.Gen.FactorIdeal.Skeleton
public import proofs.«01_k».proof.Proof.FactorMath
public import Idealize.ShloMosaic.Lib.Pointwise
public import Idealize.ShloMosaic.Lib.WordCmp

@[expose] public section

set_option maxRecDepth 16384

noncomputable section

namespace Cert.RangeFinder.Factor

open Cert.FactorIdeal Cert.FactorIdeal.Gen Idealize.ShloMosaic

/-- A row of a diagonal block: column of the block first, batch second. -/
abbrev Row (F : FTy → Type) : Type := FVec F S16x16 .f32

variable {F : FTy → Type} [FloatOps F]

/-- Column `j` can be taken out of a row. -/
theorem slices_col (j : Fin 16) : S16x16.Slices ![j.val, 0] S1x16 := by revert j; decide

/-- Column `j` of a row. -/
def col (j : Fin 16) (v : Row F) : FVec F S1x16 .f32 := extractStridedSlice S1x16 ![j.val, 0] v (slices_col j)

/-- Where a row's column is column `j`. -/
def atCol (j : Fin 16) : IVec S16x16 1 :=
  cmpi .eq (iota .tc S16x16 32 [0] iota_S16x16_d0_w32) (broadcast S16x16 (BitVec.ofNat 32 j.val))

/-- The pivot row `j` after its step. -/
def piv (j : Fin 16) (v : Row F) : Row F :=
  mulf (select (atCol j) (broadcast S16x16 (Scalar.ofBits .f32 0x3F800000#32)) v)
    (broadcastTo S16x16 (rsqrt (col j v)) broadcasts_S1x16_S16x16)

/-- A later row after step `j`, from the pivot row before it and the row. -/
def upd (j : Fin 16) (v u : Row F) : Row F :=
  subf (select (atCol j) (broadcast S16x16 (Scalar.ofBits .f32 0x00000000#32)) u)
    (mulf (broadcastTo S16x16 (mulf (col j u) (rsqrt (col j v))) broadcasts_S1x16_S16x16) (piv j v))

/-- One step on all the rows. -/
def step (j : Fin 16) (r : Fin 16 → Row F) (i : Fin 16) : Row F :=
  if i.val < j.val then r i else if i.val = j.val then piv j (r i) else upd j (r j) (r i)

/-- The rows after the first `n` steps. -/
def steps (r : Fin 16 → Row F) : (n : ℕ) → n ≤ 16 → Fin 16 → Row F
  | 0, _ => r
  | n + 1, h => step ⟨n, h⟩ (steps r n (Nat.le_of_succ_le h))

/-- Row `i` with the columns after the diagonal cleared. -/
def clear (i : Fin 16) (v : Row F) : Row F :=
  select (cmpi .sle (iota .tc S16x16 32 [0] iota_S16x16_d0_w32) (broadcast S16x16 (BitVec.ofNat 32 i.val))) v
    (broadcast S16x16 (Scalar.ofBits .f32 0x00000000#32))

/-- The rows of the inverse of the diagonal block's factor. -/
def diagRows (r : Fin 16 → Row F) (i : Fin 16) : Row F := clear i (steps r 16 le_rfl i)

/-- Column `j` of a row, at a batch. -/
theorem col_apply (j : Fin 16) (v : Row Ideal) (b : Fin 16) : col j v (ix2 0 b) = v (ix2 j b) := by
  unfold col
  pointwise []
  try rfl

/-- A choice by "this column is column `j`". -/
theorem atCol_apply (j a b : Fin 16) {α : Type} (u v : α) :
    Scalar.select (atCol j (ix2 a b)) u v = if a = j then u else v := by
  have hw : atCol j (ix2 a b) = if a = j then 1#1 else 0#1 := by
    unfold atCol
    pointwise []
    revert a j; decide
  rw [hw]
  by_cases h : a = j <;> simp [Scalar.select, h]

/-- The pivot row after its step, at an index. -/
theorem piv_apply (j a b : Fin 16) (v : Row Ideal) :
    piv j v (ix2 a b) = (if a = j then 1 else v (ix2 a b)) * Ideal.rsqrt (v (ix2 j b)) := by
  unfold piv
  pointwise []
  rw [atCol_apply, col_apply]

/-- A later row after a step, at an index. -/
theorem upd_apply (j a b : Fin 16) (v u : Row Ideal) :
    upd j v u (ix2 a b) = (if a = j then 0 else u (ix2 a b)) - u (ix2 j b) * Ideal.rsqrt (v (ix2 j b)) * piv j v (ix2 a b) := by
  unfold upd
  pointwise []
  rw [atCol_apply, col_apply, col_apply]

/-- A row with the columns after the diagonal cleared, at an index. -/
theorem clear_apply (i a b : Fin 16) (v : Row Ideal) :
    clear i v (ix2 a b) = if a.val ≤ i.val then v (ix2 a b) else 0 := by
  unfold clear
  pointwise []
  rw [WordCmp.cmpi_sle_ofNat (by have := a.isLt; norm_num; omega) (by have := i.isLt; norm_num; omega)]
  by_cases h : a.val ≤ i.val <;> simp [Scalar.select, h]

/-- The reciprocal square root of a positive real. -/
theorem rsqrt_pos {x : ℝ} (hx : 0 < x) : Ideal.rsqrt (x : EReal) = (((Real.sqrt x)⁻¹ : ℝ) : EReal) := by
  rw [Ideal.rsqrt_coe, if_neg (by linarith), if_neg hx.ne']

variable {l w : Fin 16 → ℕ → ℕ → ℝ}

/-- The rows after `n` steps, started on the Gram matrices of the lower triangular `l b`: row `i` as its own step left it
    if that step is past, and as the last step left it otherwise. -/
theorem steps_apply (h : ∀ b, Inverse 16 (l b) (w b)) (hpos : ∀ b j, j < 16 → 0 < l b j j) (r : Fin 16 → Row Ideal)
    (hr : ∀ i a b : Fin 16, r i (ix2 a b) = ((elim 16 (l b) (w b) 0 i.val a.val : ℝ) : EReal)) :
    ∀ (n : ℕ) (hn : n ≤ 16) (i a b : Fin 16), steps r n hn i (ix2 a b)
      = ((elim 16 (l b) (w b) (if i.val < n then i.val + 1 else n) i.val a.val : ℝ) : EReal) := by
  intro n
  induction n with
  | zero => intro hn i a b; rw [if_neg (Nat.not_lt_zero _)]; exact hr i a b
  | succ n ih =>
    intro hn i a b
    have hn' : n < 16 := hn
    have ihn := ih (Nat.le_of_succ_le hn)
    have hpiv : ∀ b : Fin 16, steps r n (Nat.le_of_succ_le hn) ⟨n, hn⟩ (ix2 ⟨n, hn⟩ b)
        = ((elim 16 (l b) (w b) n n n : ℝ) : EReal) := by
      intro b
      rw [ihn, if_neg (Nat.lt_irrefl n)]
    have hp : ∀ b : Fin 16, 0 < elim 16 (l b) (w b) n n n := fun b => by
      rw [elim_col (h b) hn' le_rfl]; exact mul_pos (hpos b n hn') (hpos b n hn')
    have hpr : ∀ a b : Fin 16, piv ⟨n, hn⟩ (steps r n (Nat.le_of_succ_le hn) ⟨n, hn⟩) (ix2 a b)
        = ((elim 16 (l b) (w b) (n + 1) n a.val : ℝ) : EReal) := by
      intro a b
      rw [piv_apply, hpiv, rsqrt_pos (hp b), ihn, if_neg (Nat.lt_irrefl n),
        ← elim_pivot (h b) hn' a.isLt (hpos b n hn'), EReal.coe_mul]
      by_cases ha : a.val = n
      · rw [if_pos (Fin.ext ha), if_pos ha]; rfl
      · rw [if_neg (fun e => ha (congrArg Fin.val e)), if_neg ha]
    show step ⟨n, hn⟩ (steps r n (Nat.le_of_succ_le hn)) i (ix2 a b) = _
    unfold step
    by_cases h1 : i.val < n
    · rw [if_pos (show i.val < (⟨n, hn⟩ : Fin 16).val from h1), ihn, if_pos h1, if_pos (Nat.lt_succ_of_lt h1)]
    · rw [if_neg (show ¬ i.val < (⟨n, hn⟩ : Fin 16).val from h1)]
      by_cases h2 : i.val = n
      · have hi : i = ⟨n, hn⟩ := Fin.ext h2
        subst hi
        rw [if_pos rfl, hpr, if_pos (Nat.lt_succ_self n)]
      · rw [if_neg (show ¬ i.val = (⟨n, hn⟩ : Fin 16).val from h2), if_neg (by omega), upd_apply, hpr, hpiv, rsqrt_pos (hp b),
          ihn i a b, ihn i ⟨n, hn⟩ b, if_neg h1, ← elim_below (h b) hn' (show n < i.val by omega) (hpos b n hn'), EReal.coe_sub,
          EReal.coe_mul, EReal.coe_mul]
        congr 1
        by_cases ha : a.val = n
        · rw [if_pos (Fin.ext ha), if_pos ha]; rfl
        · rw [if_neg (fun e => ha (congrArg Fin.val e)), if_neg ha]

/-- The rows that the elimination leaves: the inverse's. -/
theorem diagRows_apply (h : ∀ b, Inverse 16 (l b) (w b)) (hpos : ∀ b j, j < 16 → 0 < l b j j) (r : Fin 16 → Row Ideal)
    (hr : ∀ i a b : Fin 16, r i (ix2 a b) = ((elim 16 (l b) (w b) 0 i.val a.val : ℝ) : EReal)) (i a b : Fin 16) :
    diagRows r i (ix2 a b) = ((w b i.val a.val : ℝ) : EReal) := by
  unfold diagRows
  rw [clear_apply, steps_apply h hpos r hr, if_pos i.isLt]
  by_cases ha : a.val ≤ i.val
  · rw [if_pos ha]
    unfold elim
    rw [if_pos (by omega), if_pos (by omega)]
  · rw [if_neg ha, (h b).wz _ _ (by omega)]; rfl

end Cert.RangeFinder.Factor
-- ==== Proof.FactorPanel.lean ====
/- One panel of the factor kernel over the reals: what its payloads compute at an index, and what its stores leave. -/
module

public import proofs.«01_k».proof.Proof.Gen.FactorIdeal.Skeleton
public import proofs.«01_k».proof.Proof.FactorRows
public import Idealize.ShloMosaic.Lib.WritesUnit
public import Idealize.ShloMosaic.Lib.Writes

@[expose] public section

set_option maxRecDepth 16384

noncomputable section

namespace Cert.RangeFinder.Factor

open Cert.FactorIdeal Cert.FactorIdeal.Gen Idealize.ShloMosaic

/-- A choice by "column `j` is in the panel that starts at column `p`". -/
theorem select_panel {α : Type} (p j : ℕ) (hp : p + 16 ≤ 144) (hj : j < 144) (u v : α) :
    Scalar.select (IntOp.andi (IntOp.cmpi .sge (BitVec.ofNat 32 j) (BitVec.ofNat 32 p))
        (IntOp.cmpi .slt (BitVec.ofNat 32 j) (BitVec.ofNat 32 (p + 16)))) u v
      = if p ≤ j ∧ j < p + 16 then u else v := by
  rw [WordCmp.cmpi_sge_ofNat (by norm_num; omega) (by norm_num; omega), WordCmp.cmpi_slt_ofNat (by norm_num; omega) (by norm_num; omega)]
  by_cases h1 : p ≤ j <;> by_cases h2 : j < p + 16 <;> simp [Scalar.select, IntOp.andi, h1, h2]

/-- A choice by "column `j` is the panel's column `t`". -/
theorem select_unit {α : Type} (p j t : ℕ) (hp : p + 16 ≤ 144) (hj : j < 144) (ht : t < 16) (hpj : p ≤ j) (u v : α) :
    Scalar.select (IntOp.cmpi .eq (IntOp.subi (BitVec.ofNat 32 j) (BitVec.ofNat 32 p)) (BitVec.ofNat 32 t)) u v
      = if j = p + t then u else v := by
  have hs : IntOp.subi (BitVec.ofNat 32 j) (BitVec.ofNat 32 p) = BitVec.ofNat 32 (j - p) := by
    apply BitVec.eq_of_toNat_eq
    simp only [IntOp.subi, BitVec.toNat_sub, BitVec.toNat_ofNat]
    omega
  rw [hs, WordCmp.cmpi_eq_ofNat (by norm_num; omega) (by norm_num; omega)]
  by_cases h : j = p + t
  · have h' : j - p = t := by omega
    simp [Scalar.select, h, h']
  · have h' : ¬ j - p = t := by omega
    simp [Scalar.select, h, h']

/-- A sum of reals, taken in the extended reals. -/
theorem coe_sum {ι : Type} (s : Finset ι) (f : ι → ℝ) : ∑ i ∈ s, ((f i : ℝ) : EReal) = ((∑ i ∈ s, f i : ℝ) : EReal) := by
  classical
  induction s using Finset.induction_on with
  | empty => rfl
  | insert a s ha ih => rw [Finset.sum_insert ha, Finset.sum_insert ha, ih, EReal.coe_add]

/-- A sum over a panel's sixteen rows. -/
theorem sum_panel (p : ℕ) (f : ℕ → ℝ) : ∑ t : Fin 16, f (p + t.val) = ∑ t ∈ Finset.Ico p (p + 16), f t := by
  rw [Finset.sum_Ico_eq_sum_range, Nat.add_sub_cancel_left, Finset.sum_range]

variable {l w : ℕ → ℕ → ℝ}

/-- A panel's row `a` after the panel: the inverse of the diagonal block applied to the panel's rows, its columns replaced by
    the identity. -/
theorem row_core (h : Inverse 144 l w) (p : ℕ) (hp : p + 16 ≤ 144) (a : Fin 16) (j : Fin 144) (d x : Fin 16 → EReal)
    (hd : ∀ t : Fin 16, d t = ((w (p + a.val) (p + t.val) : ℝ) : EReal))
    (hx : ∀ t : Fin 16, x t = ((elim 144 l w p (p + t.val) j.val : ℝ) : EReal)) :
    ∑ t : Fin 16, d t * Scalar.select
        (IntOp.andi (IntOp.cmpi .sge (BitVec.ofNat 32 j.val) (BitVec.ofNat 32 p))
          (IntOp.cmpi .slt (BitVec.ofNat 32 j.val) (BitVec.ofNat 32 (p + 16))))
        (Scalar.select (IntOp.cmpi .eq (IntOp.subi (BitVec.ofNat 32 j.val) (BitVec.ofNat 32 p)) (BitVec.ofNat 32 t.val)) 1 0)
        (x t)
      = ((elim 144 l w (p + 16) (p + a.val) j.val : ℝ) : EReal) := by
  rw [← elim_row h (k := p) (m := p + 16) hp (by omega) (by omega) j.isLt, ← sum_panel, ← coe_sum]
  refine Finset.sum_congr rfl fun t _ => ?_
  rw [select_panel p j.val hp j.isLt, hd, hx, EReal.coe_mul]
  by_cases hj : p ≤ j.val ∧ j.val < p + 16
  · rw [if_pos hj, if_pos hj, select_unit p j.val t.val hp j.isLt t.isLt hj.1]
    by_cases e : j.val = p + t.val
    · rw [if_pos e, if_pos e]; rfl
    · rw [if_neg e, if_neg e]; rfl
  · rw [if_neg hj, if_neg hj]

/-- A later row after the panel. -/
theorem rest_core (h : Inverse 144 l w) (p : ℕ) (hp : p + 16 ≤ 144) (i : ℕ) (hi : p + 16 ≤ i) (hi' : i < 144) (j : Fin 144)
    (x : EReal) (lo r : Fin 16 → EReal) (hx : x = ((elim 144 l w p i j.val : ℝ) : EReal))
    (hlo : ∀ t : Fin 16, lo t = ((elim 144 l w (p + 16) (p + t.val) i : ℝ) : EReal))
    (hr : ∀ t : Fin 16, r t = ((elim 144 l w (p + 16) (p + t.val) j.val : ℝ) : EReal)) :
    Scalar.select (IntOp.andi (IntOp.cmpi .sge (BitVec.ofNat 32 j.val) (BitVec.ofNat 32 p))
          (IntOp.cmpi .slt (BitVec.ofNat 32 j.val) (BitVec.ofNat 32 (p + 16)))) 0 x
        - ∑ t : Fin 16, lo t * r t
      = ((elim 144 l w (p + 16) i j.val : ℝ) : EReal) := by
  have hs : ∑ t : Fin 16, lo t * r t
      = ((∑ t ∈ Finset.Ico p (p + 16), elim 144 l w (p + 16) t i * elim 144 l w (p + 16) t j.val : ℝ) : EReal) := by
    rw [← sum_panel p fun t => elim 144 l w (p + 16) t i * elim 144 l w (p + 16) t j.val, ← coe_sum]
    exact Finset.sum_congr rfl fun t _ => by rw [hlo, hr, EReal.coe_mul]
  rw [select_panel p j.val hp j.isLt, hs, hx, ← elim_rest h (k := p) (by omega) hp hi, EReal.coe_sub]
  by_cases hj : p ≤ j.val ∧ j.val < p + 16
  · rw [if_pos hj, if_pos hj]; rfl
  · rw [if_neg hj, if_neg hj]

/-- The index a load of a unit-stride block reads, from its coordinates. -/
theorem LoadRect.unit_idx_eq {s : Shape} {off off' size : Fin s.rank → ℕ} (inb : ∀ a, off a + size a ≤ s.size a) (e : off = off')
    (x : (Rect.unit (s := s) off size inb).toLoadRect.shape.Idx) (y : s.Idx) (h : ∀ a, (y a).val = off' a + (x a).val) :
    (Rect.unit (s := s) off size inb).toLoadRect.idx x = y := by
  subst e
  funext a
  refine Fin.ext ?_
  rw [h a]
  show off a + 1 * (x a).val = _
  rw [Nat.one_mul]

section Stores

variable {κ : Kind} {sp : Space}

/-- What the two stores of an update leave: rows `p` and after of batch `k` changed, all else as before. -/
theorem update_read (v : View sig κ sp S16x144x144 .f32) (f : v.ty.Contents (Elt Ideal)) (k : ℕ) (p R : ℕ) (hR : p + 16 + R = 144)
    {off1 off2 : Fin 3 → ℕ} (h1 : off1 = ![k, p + 16, 0]) (h2 : off2 = ![k, p, 0])
    (inb1 : ∀ a, off1 a + (![1, R, 144] : Fin 3 → ℕ) a ≤ S16x144x144.size a)
    (inb2 : ∀ a, off2 a + (![1, 16, 144] : Fin 3 → ℕ) a ≤ S16x144x144.size a)
    (wR : (⟨3, ![1, R, 144]⟩ : Shape).Idx → Elt Ideal .f32) (wr : (⟨3, ![1, 16, 144]⟩ : Shape).Idx → Elt Ideal .f32)
    (new : ℕ → ℕ → EReal) (hwR : ∀ (r : Fin R) (j : Fin 144), wR (ix3 0 r j) = new (p + 16 + r.val) j.val)
    (hwr : ∀ (a : Fin 16) (j : Fin 144), wr (ix3 0 a j) = new (p + a.val) j.val) (b : Fin 16) (i j : Fin 144) :
    v.read (Elt Ideal) (v.writes (Elt Ideal) f
        [(⟨Rect.unit (s := S16x144x144) off1 ![1, R, 144] inb1, wR⟩ : View.Piece (Elt Ideal) S16x144x144 .f32),
          ⟨Rect.unit (s := S16x144x144) off2 ![1, 16, 144] inb2, wr⟩]) (ix3 b i j)
      = if b.val = k ∧ p ≤ i.val then new i.val j.val else v.read (Elt Ideal) f (ix3 b i j) := by
  by_cases hb : b.val = k
  · by_cases hi : p ≤ i.val
    · rw [if_pos ⟨hb, hi⟩]
      by_cases hi2 : p + 16 ≤ i.val
      · rw [View.read_writes_cons_unit_of_mem v f inb1 wR _ (ix3 b i j) (ix3 0 ⟨i.val - (p + 16), by omega⟩ j) h1
          (by intro a; fin_cases a
              · show b.val = k + 0; omega
              · show i.val = p + 16 + (i.val - (p + 16)); omega
              · show j.val = 0 + j.val; omega)]
        rw [hwR]; congr 1; show p + 16 + (i.val - (p + 16)) = i.val; omega
      · rw [View.read_writes_cons_unit_of_not_mem v f inb1 wR _ (ix3 b i j) h1 1 (Or.inl (by show i.val < p + 16; omega))]
        rw [View.read_writes_cons_unit_of_mem v f inb2 wr _ (ix3 b i j) (ix3 0 ⟨i.val - p, by omega⟩ j) h2
          (by intro a; fin_cases a
              · show b.val = k + 0; omega
              · show i.val = p + (i.val - p); omega
              · show j.val = 0 + j.val; omega)]
        rw [hwr]; congr 1; show p + (i.val - p) = i.val; omega
    · rw [if_neg (fun h => hi h.2)]
      rw [View.read_writes_cons_unit_of_not_mem v f inb1 wR _ (ix3 b i j) h1 1 (Or.inl (by show i.val < p + 16; omega)),
        View.read_writes_cons_unit_of_not_mem v f inb2 wr _ (ix3 b i j) h2 1 (Or.inl (by show i.val < p; omega))]
      rfl
  · rw [if_neg (fun h => hb h.1)]
    rw [View.read_writes_cons_unit_of_not_mem v f inb1 wR _ (ix3 b i j) h1 0
        (by show b.val < k ∨ k + 1 ≤ b.val; omega),
      View.read_writes_cons_unit_of_not_mem v f inb2 wr _ (ix3 b i j) h2 0 (by show b.val < k ∨ k + 1 ≤ b.val; omega)]
    rfl

/-- The same for the last panel, which has no later rows. -/
theorem update_read_last (v : View sig κ sp S16x144x144 .f32) (f : v.ty.Contents (Elt Ideal)) (k : ℕ)
    {off2 : Fin 3 → ℕ} (h2 : off2 = ![k, 128, 0])
    (inb2 : ∀ a, off2 a + (![1, 16, 144] : Fin 3 → ℕ) a ≤ S16x144x144.size a)
    (wr : (⟨3, ![1, 16, 144]⟩ : Shape).Idx → Elt Ideal .f32)
    (new : ℕ → ℕ → EReal) (hwr : ∀ (a : Fin 16) (j : Fin 144), wr (ix3 0 a j) = new (128 + a.val) j.val)
    (b : Fin 16) (i j : Fin 144) :
    v.read (Elt Ideal) (v.writes (Elt Ideal) f
        [(⟨Rect.unit (s := S16x144x144) off2 ![1, 16, 144] inb2, wr⟩ : View.Piece (Elt Ideal) S16x144x144 .f32)]) (ix3 b i j)
      = if b.val = k ∧ 128 ≤ i.val then new i.val j.val else v.read (Elt Ideal) f (ix3 b i j) := by
  by_cases hb : b.val = k
  · by_cases hi : 128 ≤ i.val
    · rw [if_pos ⟨hb, hi⟩]
      rw [View.read_writes_cons_unit_of_mem v f inb2 wr _ (ix3 b i j) (ix3 0 ⟨i.val - 128, by omega⟩ j) h2
          (by intro a; fin_cases a
              · show b.val = k + 0; omega
              · show i.val = 128 + (i.val - 128); omega
              · show j.val = 0 + j.val; omega)]
      rw [hwr]; congr 1; show 128 + (i.val - 128) = i.val; omega
    · rw [if_neg (fun h => hi h.2),
        View.read_writes_cons_unit_of_not_mem v f inb2 wr _ (ix3 b i j) h2 1 (Or.inl (by show i.val < 128; omega))]
      rfl
  · rw [if_neg (fun h => hb h.1),
      View.read_writes_cons_unit_of_not_mem v f inb2 wr _ (ix3 b i j) h2 0 (by show b.val < k ∨ k + 1 ≤ b.val; omega)]
    rfl

/-- What the store of one diagonal block leaves. -/
theorem load_read (v : View sig κ sp S256x128 .f32) (f : v.ty.Contents (Elt Ideal)) (k : ℕ)
    {off : Fin 2 → ℕ} (h1 : off = ![16 * k, 0])
    (inb : ∀ a, off a + (![16, 16] : Fin 2 → ℕ) a ≤ S256x128.size a)
    (x : (⟨2, ![16, 16]⟩ : Shape).Idx → Elt Ideal .f32) (b i a : Fin 16) :
    v.read (Elt Ideal) (v.writes (Elt Ideal) f
        [(⟨Rect.unit (s := S256x128) off ![16, 16] inb, x⟩ : View.Piece (Elt Ideal) S256x128 .f32)])
          (ix2 ⟨16 * b.val + i.val, by omega⟩ ⟨a.val, by omega⟩)
      = if b.val = k then x (ix2 i a) else v.read (Elt Ideal) f (ix2 ⟨16 * b.val + i.val, by omega⟩ ⟨a.val, by omega⟩) := by
  by_cases hb : b.val = k
  · rw [if_pos hb, View.read_writes_cons_unit_of_mem v f inb x _ _ (ix2 i a) h1
      (by intro c; fin_cases c
          · show 16 * b.val + i.val = 16 * k + i.val; omega
          · show a.val = 0 + a.val; omega)]
  · rw [if_neg hb, View.read_writes_cons_unit_of_not_mem v f inb x _ _ h1 0
      (by show 16 * b.val + i.val < 16 * k ∨ 16 * k + 16 ≤ 16 * b.val + i.val; omega)]
    rfl

/-- The update of all batches, from the update of one. -/
theorem loop_update (v : View sig κ sp S16x144x144 .f32) (g : v.ty.Contents (Elt Ideal)) (p : ℕ)
    (L : ℕ → List (View.Piece (Elt Ideal) S16x144x144 .f32)) (old new : Fin 16 → ℕ → ℕ → EReal) (h0 : L 0 = [])
    (T : Fin 16 → v.ty.Contents (Elt Ideal) → List (View.Piece (Elt Ideal) S16x144x144 .f32))
    (hs : ∀ k : Fin 16, L (k.val + 1) = T k (v.writes (Elt Ideal) g (L k.val)) ++ L k.val)
    (hT : ∀ (k : Fin 16) (f : v.ty.Contents (Elt Ideal)),
      (∀ i j : Fin 144, p ≤ i.val → v.read (Elt Ideal) f (ix3 k i j) = old k i.val j.val) →
      ∀ (b : Fin 16) (i j : Fin 144), v.read (Elt Ideal) (v.writes (Elt Ideal) f (T k f)) (ix3 b i j)
        = if b.val = k.val ∧ p ≤ i.val then new k i.val j.val else v.read (Elt Ideal) f (ix3 b i j))
    (hg : ∀ (b : Fin 16) (i j : Fin 144), p ≤ i.val → v.read (Elt Ideal) g (ix3 b i j) = old b i.val j.val)
    (b : Fin 16) (i j : Fin 144) :
    v.read (Elt Ideal) (v.writes (Elt Ideal) g (L 16)) (ix3 b i j)
      = if p ≤ i.val then new b i.val j.val else v.read (Elt Ideal) g (ix3 b i j) := by
  have key : ∀ n : ℕ, n ≤ 16 → ∀ (b : Fin 16) (i j : Fin 144), v.read (Elt Ideal) (v.writes (Elt Ideal) g (L n)) (ix3 b i j)
      = if b.val < n ∧ p ≤ i.val then new b i.val j.val else v.read (Elt Ideal) g (ix3 b i j) := by
    intro n
    induction n with
    | zero => intro _ b i j; rw [h0, if_neg (fun h => absurd h.1 (Nat.not_lt_zero _))]; rfl
    | succ n ih =>
      intro hn b i j
      have ihn := ih (Nat.le_of_succ_le hn)
      rw [show L (n + 1) = _ from hs ⟨n, hn⟩, View.writes_append, hT ⟨n, hn⟩ _ (fun i j hi => by
        rw [ihn, if_neg (fun h => absurd h.1 (Nat.lt_irrefl n)), hg _ _ _ hi]), ihn]
      by_cases hb : b.val = n
      · obtain rfl : b = ⟨n, hn⟩ := Fin.ext hb
        by_cases hi : p ≤ i.val
        · rw [if_pos ⟨rfl, hi⟩, if_pos ⟨Nat.lt_succ_self n, hi⟩]
        · rw [if_neg (fun h => hi h.2), if_neg (fun h => hi h.2), if_neg (fun h => hi h.2)]
      · rw [if_neg (fun h => hb h.1)]
        by_cases hc : b.val < n ∧ p ≤ i.val
        · rw [if_pos hc, if_pos ⟨by omega, hc.2⟩]
        · rw [if_neg hc, if_neg (fun h => hc ⟨by omega, h.2⟩)]
  rw [key 16 le_rfl b i j]
  by_cases hi : p ≤ i.val
  · rw [if_pos ⟨b.isLt, hi⟩, if_pos hi]
  · rw [if_neg (fun h => hi h.2), if_neg hi]

/-- All diagonal blocks loaded, from one. -/
theorem loop_load (v : View sig κ sp S256x128 .f32) (g : v.ty.Contents (Elt Ideal))
    (L : ℕ → List (View.Piece (Elt Ideal) S256x128 .f32)) (new : Fin 16 → Fin 16 → Fin 16 → EReal) (h0 : L 0 = [])
    (T : Fin 16 → List (View.Piece (Elt Ideal) S256x128 .f32))
    (hs : ∀ k : Fin 16, L (k.val + 1) = T k ++ L k.val)
    (hT : ∀ (k : Fin 16) (f : v.ty.Contents (Elt Ideal)) (b i a : Fin 16),
      v.read (Elt Ideal) (v.writes (Elt Ideal) f (T k)) (ix2 ⟨16 * b.val + i.val, by omega⟩ ⟨a.val, by omega⟩)
        = if b.val = k.val then new k i a
          else v.read (Elt Ideal) f (ix2 ⟨16 * b.val + i.val, by omega⟩ ⟨a.val, by omega⟩))
    (b i a : Fin 16) :
    v.read (Elt Ideal) (v.writes (Elt Ideal) g (L 16)) (ix2 ⟨16 * b.val + i.val, by omega⟩ ⟨a.val, by omega⟩) = new b i a := by
  have key : ∀ n : ℕ, n ≤ 16 → ∀ b i a : Fin 16, b.val < n →
      v.read (Elt Ideal) (v.writes (Elt Ideal) g (L n)) (ix2 ⟨16 * b.val + i.val, by omega⟩ ⟨a.val, by omega⟩) = new b i a := by
    intro n
    induction n with
    | zero => intro _ b i a hb; exact absurd hb (Nat.not_lt_zero _)
    | succ n ih =>
      intro hn b i a hbn
      rw [show L (n + 1) = _ from hs ⟨n, hn⟩, View.writes_append, hT]
      by_cases hb : b.val = n
      · obtain rfl : b = ⟨n, hn⟩ := Fin.ext hb
        rw [if_pos rfl]
      · rw [if_neg hb, ih (Nat.le_of_succ_le hn) b i a (by omega)]
  exact key 16 le_rfl b i a b.isLt

end Stores

end Cert.RangeFinder.Factor

end
-- ==== Proof.FactorTrips.lean ====
/- Each panel's two counted loops: the diagonal blocks they load, and the rows they leave. -/
module

public import proofs.«01_k».proof.Proof.FactorPanel
public import proofs.«01_k».proof.Proof.Gen.FactorIdeal.Loops

@[expose] public section

set_option maxRecDepth 16384

noncomputable section

namespace Cert.RangeFinder.Factor

open Cert.FactorIdeal Cert.FactorIdeal.Gen Idealize.ShloMosaic

/-- Panel 0: the blocks on the diagonal are loaded as they stand in the result's buffer. -/
theorem load_0 (c : Dev nD) (arg0 : Memref sig .tc .vmem S16x144x144 .f32) (harg0 : arg0.IsWhole) (arg1 : Memref sig .tc .vmem S16x144x144 .f32)
    (harg1 : arg1.IsWhole) (arg2 : Memref sig .tc .vmem S256x128 .f32) (harg2 : arg2.IsWhole)
     (X : arg1.view.ty.Contents (Elt Ideal)) (g : arg2.view.ty.Contents (Elt Ideal)) (b i a : Fin 16) :
    arg2.view.read (Elt Ideal) (arg2.view.writes (Elt Ideal) g
        (pb_k0_t1 Variants.none c none arg0 harg0 arg1 harg1 arg2 harg2 X (Scf.trips k0_t1_loop.lb k0_t1_loop.ub k0_t1_loop.st)))
        (ix2 ⟨16 * b.val + i.val, by omega⟩ ⟨a.val, by omega⟩)
      = arg1.view.read (Elt Ideal) X (ix3 b ⟨0 + i.val, by omega⟩ ⟨0 + a.val, by omega⟩) := by
  have ht : k0_t1_loop.trips = 16 := by decide +kernel
  refine loop_load arg2.view g (pb_k0_t1 Variants.none c none arg0 harg0 arg1 harg1 arg2 harg2 X)
    (fun b i a => arg1.view.read (Elt Ideal) X (ix3 b ⟨0 + i.val, by omega⟩ ⟨0 + a.val, by omega⟩)) rfl
    (fun k => tripL_k0_t1 Variants.none c none arg0 harg0 arg1 harg1 arg2 harg2 X (Fin.cast ht.symm k))
    (fun k => pb_k0_t1_succ Variants.none c none arg0 harg0 arg1 harg1 arg2 harg2 X (Fin.cast ht.symm k)) ?_ b i a
  intro k f b i a
  unfold tripL_k0_t1 trip_k0_t1
  dsimp only
  sl_unfold_words
  refine (load_read arg2.view f k.val (k0_off2_eq (Fin.cast ht.symm k)) _ _ b i a).trans ?_
  by_cases hb : b.val = k.val
  · rw [if_pos hb, if_pos hb]
    pointwise [k0_pay36]
    rw [View.readAt_apply]
    congr 1
    refine LoadRect.unit_idx_eq _ (k0_off1_eq (Fin.cast ht.symm k)) _ _ ?_
    intro c; fin_cases c
    · show k.val = k.val + 0; omega
    · show i.val = 0 + i.val; omega
    · show a.val = 0 + a.val; omega
  · rw [if_neg hb, if_neg hb]

/-- Panel 0's own rows after it. -/
theorem row_0 (v6 v7 : IVec S16x144 32) (hv6 : ∀ (t : Fin 16) (j : Fin 144), v6 (ix2 t j) = BitVec.ofNat 32 j.val)
    (hv7 : ∀ (t : Fin 16) (j : Fin 144), v7 (ix2 t j) = BitVec.ofNat 32 t.val) (d : Vec Ideal S16x16 .f32)
    (x : Vec Ideal S1x16x144 .f32) (l w : ℕ → ℕ → ℝ) (h : Inverse 144 l w)
    (hd : ∀ a t : Fin 16, d (ix2 a t) = ((w (0 + a.val) (0 + t.val) : ℝ) : EReal))
    (hx : ∀ (t : Fin 16) (j : Fin 144), x (ix3 0 t j) = ((elim 144 l w 0 (0 + t.val) j.val : ℝ) : EReal))
    (a : Fin 16) (j : Fin 144) :
    k0_pay4 v6 v7 d x (ix3 0 a j) = ((elim 144 l w 16 (0 + a.val) j.val : ℝ) : EReal) := by
  pointwise [k0_pay4, k0_pay3]
  simp only [hv6, hv7]
  simpa only [Nat.zero_add] using row_core h 0 (by norm_num) a j (fun t => d (ix2 a t)) (fun t => x (ix3 0 t j)) (fun t => hd a t) (fun t => hx t j)

/-- The rows after panel 0 once it is done. -/
theorem rest_0 (v6 v7 : IVec S16x144 32) (hv6 : ∀ (t : Fin 16) (j : Fin 144), v6 (ix2 t j) = BitVec.ofNat 32 j.val)
    (hv7 : ∀ (t : Fin 16) (j : Fin 144), v7 (ix2 t j) = BitVec.ofNat 32 t.val) (d : Vec Ideal S16x16 .f32)
    (x : Vec Ideal S1x16x144 .f32) (y : Vec Ideal S1x128x144 .f32) (l w : ℕ → ℕ → ℝ) (h : Inverse 144 l w)
    (hd : ∀ a t : Fin 16, d (ix2 a t) = ((w (0 + a.val) (0 + t.val) : ℝ) : EReal))
    (hx : ∀ (t : Fin 16) (j : Fin 144), x (ix3 0 t j) = ((elim 144 l w 0 (0 + t.val) j.val : ℝ) : EReal))
    (hy : ∀ (r : Fin 128) (j : Fin 144), y (ix3 0 r j) = ((elim 144 l w 0 (16 + r.val) j.val : ℝ) : EReal))
    (r : Fin 128) (j : Fin 144) :
    k0_pay274 (k0_pay3 v6 v7 d x) (k0_pay5 v6 v7 d x) (k0_pay6 y) (ix3 0 r j)
      = ((elim 144 l w 16 (16 + r.val) j.val : ℝ) : EReal) := by
  have hrow : ∀ (a : Fin 16) (j : Fin 144),
      k0_pay3 v6 v7 d x (ix2 a j) = ((elim 144 l w 16 (0 + a.val) j.val : ℝ) : EReal) := by
    intro a j
    pointwise [k0_pay3]
    simp only [hv6, hv7]
    simpa only [Nat.zero_add] using row_core h 0 (by norm_num) a j (fun t => d (ix2 a t)) (fun t => x (ix3 0 t j)) (fun t => hd a t) (fun t => hx t j)
  have hlow : ∀ (r : Fin 128) (t : Fin 16),
      k0_pay5 v6 v7 d x (ix2 r t) = ((elim 144 l w 16 (0 + t.val) (16 + r.val) : ℝ) : EReal) := by
    intro r t
    have := hrow t ⟨16 + r.val, by omega⟩
    rw [← this]
    pointwise [k0_pay5]
  pointwise [k0_pay274, k0_pay6]
  exact rest_core h 0 (by norm_num) (16 + r.val) (by omega) (by omega) j (y (ix3 0 r j))
    (fun t => k0_pay5 v6 v7 d x (ix2 r t)) (fun t => k0_pay3 v6 v7 d x (ix2 t j)) (hy r j) (fun t => hlow r t)
    (fun t => hrow t j)

/-- Panel 0's update of all batches. -/
theorem update_0 (c : Dev nD) (arg0 : Memref sig .tc .vmem S16x144x144 .f32) (harg0 : arg0.IsWhole) (arg1 : Memref sig .tc .vmem S16x144x144 .f32)
    (harg1 : arg1.IsWhole) (arg2 : Memref sig .tc .vmem S256x128 .f32) (harg2 : arg2.IsWhole)
     (v6 : IVec S16x144 32) (v7 : IVec S16x144 32) (v1317 : FVec Ideal S16x16 .f32) (v1321 : FVec Ideal S16x16 .f32) (v1325 : FVec Ideal S16x16 .f32) (v1329 : FVec Ideal S16x16 .f32) (v1398 : FVec Ideal S16x128 .f32) (hv6 : ∀ (t : Fin 16) (j : Fin 144), v6 (ix2 t j) = BitVec.ofNat 32 j.val)
    (hv7 : ∀ (t : Fin 16) (j : Fin 144), v7 (ix2 t j) = BitVec.ofNat 32 t.val)
    (X : arg2.view.ty.Contents (Elt Ideal)) (g : arg1.view.ty.Contents (Elt Ideal)) (l w : Fin 16 → ℕ → ℕ → ℝ)
    (h : ∀ b, Inverse 144 (l b) (w b))
    (hX : ∀ b i a : Fin 16, arg2.view.read (Elt Ideal) X (ix2 ⟨16 * b.val + i.val, by omega⟩ ⟨a.val, by omega⟩)
      = ((w b (0 + i.val) (0 + a.val) : ℝ) : EReal))
    (hg : ∀ (b : Fin 16) (i j : Fin 144), 0 ≤ i.val →
      arg1.view.read (Elt Ideal) g (ix3 b i j) = ((elim 144 (l b) (w b) 0 i.val j.val : ℝ) : EReal))
    (b : Fin 16) (i j : Fin 144) :
    arg1.view.read (Elt Ideal) (arg1.view.writes (Elt Ideal) g
        (pb_k0_t2 Variants.none c none arg0 harg0 arg1 harg1 arg2 harg2 v6 v7 v1317 v1321 v1325 v1329 v1398 X g (Scf.trips k0_t2_loop.lb k0_t2_loop.ub k0_t2_loop.st))) (ix3 b i j)
      = if 0 ≤ i.val then ((elim 144 (l b) (w b) 16 i.val j.val : ℝ) : EReal)
        else arg1.view.read (Elt Ideal) g (ix3 b i j) := by
  have ht : k0_t2_loop.trips = 16 := by decide +kernel
  refine loop_update arg1.view g 0 (pb_k0_t2 Variants.none c none arg0 harg0 arg1 harg1 arg2 harg2 v6 v7 v1317 v1321 v1325 v1329 v1398 X g)
    (fun b i j => ((elim 144 (l b) (w b) 0 i j : ℝ) : EReal)) (fun b i j => ((elim 144 (l b) (w b) 16 i j : ℝ) : EReal)) rfl
    (fun k => tripL_k0_t2 Variants.none c none arg0 harg0 arg1 harg1 arg2 harg2 v6 v7 v1317 v1321 v1325 v1329 v1398 X (Fin.cast ht.symm k))
    (fun k => pb_k0_t2_succ Variants.none c none arg0 harg0 arg1 harg1 arg2 harg2 v6 v7 v1317 v1321 v1325 v1329 v1398 X g (Fin.cast ht.symm k)) ?_ hg b i j
  intro k f hf b i j
  have hd : ∀ a t : Fin 16, arg2.view.readAt (Elt Ideal) (Rect.unit (s := S256x128) (k0_off3 (Fin.cast ht.symm k)) S16x16.size
      (k0_off3_inb (Fin.cast ht.symm k))).toLoadRect X (ix2 a t) = ((w k (0 + a.val) (0 + t.val) : ℝ) : EReal) := by
    intro a t
    rw [View.readAt_apply, ← hX k a t]
    congr 1
    refine LoadRect.unit_idx_eq _ (k0_off3_eq (Fin.cast ht.symm k)) _ _ ?_
    intro c; fin_cases c
    · show 16 * k.val + a.val = 16 * k.val + a.val; rfl
    · show t.val = 0 + t.val; omega
  have hx : ∀ (a : Fin 16) (j : Fin 144), arg1.view.readAt (Elt Ideal) (Rect.unit (s := S16x144x144) (k0_off4 (Fin.cast ht.symm k))
      S1x16x144.size (k0_off4_inb (Fin.cast ht.symm k))).toLoadRect f (ix3 0 a j)
        = ((elim 144 (l k) (w k) 0 (0 + a.val) j.val : ℝ) : EReal) := by
    intro a j
    rw [View.readAt_apply, ← hf ⟨0 + a.val, by omega⟩ j (by show 0 ≤ 0 + a.val; omega)]
    congr 1
    refine LoadRect.unit_idx_eq _ (k0_off4_eq (Fin.cast ht.symm k)) _ _ ?_
    intro c; fin_cases c
    · show k.val = k.val + 0; omega
    · show 0 + a.val = 0 + a.val; rfl
    · show j.val = 0 + j.val; omega
  have hy : ∀ (r : Fin 128) (j : Fin 144), arg1.view.readAt (Elt Ideal) (Rect.unit (s := S16x144x144) (k0_off5 (Fin.cast ht.symm k))
      S1x128x144.size (k0_off5_inb (Fin.cast ht.symm k))).toLoadRect f (ix3 0 r j)
        = ((elim 144 (l k) (w k) 0 (16 + r.val) j.val : ℝ) : EReal) := by
    intro r j
    rw [View.readAt_apply, ← hf ⟨16 + r.val, by omega⟩ j (by show 0 ≤ 16 + r.val; omega)]
    congr 1
    refine LoadRect.unit_idx_eq _ (k0_off5_eq (Fin.cast ht.symm k)) _ _ ?_
    intro c; fin_cases c
    · show k.val = k.val + 0; omega
    · show 16 + r.val = 16 + r.val; rfl
    · show j.val = 0 + j.val; omega
  unfold tripL_k0_t2 trip_k0_t2
  dsimp only
  sl_unfold_words
  exact update_read arg1.view f k.val 0 128 rfl (k0_off5_eq (Fin.cast ht.symm k)) (k0_off4_eq (Fin.cast ht.symm k)) _ _ _ _
    (fun i j => ((elim 144 (l k) (w k) 16 i j : ℝ) : EReal))
    (rest_0 v6 v7 hv6 hv7 _ _ _ (l k) (w k) (h k) hd hx hy) (row_0 v6 v7 hv6 hv7 _ _ (l k) (w k) (h k) hd hx) b i j

/-- Panel 1: the blocks on the diagonal are loaded as they stand in the result's buffer. -/
theorem load_1 (c : Dev nD) (arg0 : Memref sig .tc .vmem S16x144x144 .f32) (harg0 : arg0.IsWhole) (arg1 : Memref sig .tc .vmem S16x144x144 .f32)
    (harg1 : arg1.IsWhole) (arg2 : Memref sig .tc .vmem S256x128 .f32) (harg2 : arg2.IsWhole)
     (v6 : IVec S16x144 32) (v7 : IVec S16x144 32) (v1317 : FVec Ideal S16x16 .f32) (v1321 : FVec Ideal S16x16 .f32) (v1325 : FVec Ideal S16x16 .f32) (v1329 : FVec Ideal S16x16 .f32) (v1398 : FVec Ideal S16x128 .f32) (X : arg1.view.ty.Contents (Elt Ideal)) (g : arg2.view.ty.Contents (Elt Ideal)) (b i a : Fin 16) :
    arg2.view.read (Elt Ideal) (arg2.view.writes (Elt Ideal) g
        (pb_k0_t3 Variants.none c none arg0 harg0 arg1 harg1 arg2 harg2 v6 v7 v1317 v1321 v1325 v1329 v1398 X (Scf.trips k0_t3_loop.lb k0_t3_loop.ub k0_t3_loop.st)))
        (ix2 ⟨16 * b.val + i.val, by omega⟩ ⟨a.val, by omega⟩)
      = arg1.view.read (Elt Ideal) X (ix3 b ⟨16 + i.val, by omega⟩ ⟨16 + a.val, by omega⟩) := by
  have ht : k0_t3_loop.trips = 16 := by decide +kernel
  refine loop_load arg2.view g (pb_k0_t3 Variants.none c none arg0 harg0 arg1 harg1 arg2 harg2 v6 v7 v1317 v1321 v1325 v1329 v1398 X)
    (fun b i a => arg1.view.read (Elt Ideal) X (ix3 b ⟨16 + i.val, by omega⟩ ⟨16 + a.val, by omega⟩)) rfl
    (fun k => tripL_k0_t3 Variants.none c none arg0 harg0 arg1 harg1 arg2 harg2 v6 v7 v1317 v1321 v1325 v1329 v1398 X (Fin.cast ht.symm k))
    (fun k => pb_k0_t3_succ Variants.none c none arg0 harg0 arg1 harg1 arg2 harg2 v6 v7 v1317 v1321 v1325 v1329 v1398 X (Fin.cast ht.symm k)) ?_ b i a
  intro k f b i a
  unfold tripL_k0_t3 trip_k0_t3
  dsimp only
  sl_unfold_words
  refine (load_read arg2.view f k.val (k0_off7_eq (Fin.cast ht.symm k)) _ _ b i a).trans ?_
  by_cases hb : b.val = k.val
  · rw [if_pos hb, if_pos hb]
    pointwise [k0_pay275]
    rw [View.readAt_apply]
    congr 1
    refine LoadRect.unit_idx_eq _ (k0_off6_eq (Fin.cast ht.symm k)) _ _ ?_
    intro c; fin_cases c
    · show k.val = k.val + 0; omega
    · show 16 + i.val = 16 + i.val; omega
    · show 16 + a.val = 16 + a.val; omega
  · rw [if_neg hb, if_neg hb]

/-- Panel 1's own rows after it. -/
theorem row_1 (v6 v7 : IVec S16x144 32) (hv6 : ∀ (t : Fin 16) (j : Fin 144), v6 (ix2 t j) = BitVec.ofNat 32 j.val)
    (hv7 : ∀ (t : Fin 16) (j : Fin 144), v7 (ix2 t j) = BitVec.ofNat 32 t.val) (d : Vec Ideal S16x16 .f32)
    (x : Vec Ideal S1x16x144 .f32) (l w : ℕ → ℕ → ℝ) (h : Inverse 144 l w)
    (hd : ∀ a t : Fin 16, d (ix2 a t) = ((w (16 + a.val) (16 + t.val) : ℝ) : EReal))
    (hx : ∀ (t : Fin 16) (j : Fin 144), x (ix3 0 t j) = ((elim 144 l w 16 (16 + t.val) j.val : ℝ) : EReal))
    (a : Fin 16) (j : Fin 144) :
    k0_pay8 v6 v7 d x (ix3 0 a j) = ((elim 144 l w 32 (16 + a.val) j.val : ℝ) : EReal) := by
  pointwise [k0_pay8, k0_pay7]
  simp only [hv6, hv7]
  exact row_core h 16 (by norm_num) a j (fun t => d (ix2 a t)) (fun t => x (ix3 0 t j)) (fun t => hd a t) (fun t => hx t j)

/-- The rows after panel 1 once it is done. -/
theorem rest_1 (v6 v7 : IVec S16x144 32) (hv6 : ∀ (t : Fin 16) (j : Fin 144), v6 (ix2 t j) = BitVec.ofNat 32 j.val)
    (hv7 : ∀ (t : Fin 16) (j : Fin 144), v7 (ix2 t j) = BitVec.ofNat 32 t.val) (d : Vec Ideal S16x16 .f32)
    (x : Vec Ideal S1x16x144 .f32) (y : Vec Ideal S1x112x144 .f32) (l w : ℕ → ℕ → ℝ) (h : Inverse 144 l w)
    (hd : ∀ a t : Fin 16, d (ix2 a t) = ((w (16 + a.val) (16 + t.val) : ℝ) : EReal))
    (hx : ∀ (t : Fin 16) (j : Fin 144), x (ix3 0 t j) = ((elim 144 l w 16 (16 + t.val) j.val : ℝ) : EReal))
    (hy : ∀ (r : Fin 112) (j : Fin 144), y (ix3 0 r j) = ((elim 144 l w 16 (32 + r.val) j.val : ℝ) : EReal))
    (r : Fin 112) (j : Fin 144) :
    k0_pay509 (k0_pay7 v6 v7 d x) (k0_pay9 v6 v7 d x) (k0_pay10 y) (ix3 0 r j)
      = ((elim 144 l w 32 (32 + r.val) j.val : ℝ) : EReal) := by
  have hrow : ∀ (a : Fin 16) (j : Fin 144),
      k0_pay7 v6 v7 d x (ix2 a j) = ((elim 144 l w 32 (16 + a.val) j.val : ℝ) : EReal) := by
    intro a j
    pointwise [k0_pay7]
    simp only [hv6, hv7]
    exact row_core h 16 (by norm_num) a j (fun t => d (ix2 a t)) (fun t => x (ix3 0 t j)) (fun t => hd a t) (fun t => hx t j)
  have hlow : ∀ (r : Fin 112) (t : Fin 16),
      k0_pay9 v6 v7 d x (ix2 r t) = ((elim 144 l w 32 (16 + t.val) (32 + r.val) : ℝ) : EReal) := by
    intro r t
    have := hrow t ⟨32 + r.val, by omega⟩
    rw [← this]
    pointwise [k0_pay9]
  pointwise [k0_pay509, k0_pay10]
  exact rest_core h 16 (by norm_num) (32 + r.val) (by omega) (by omega) j (y (ix3 0 r j))
    (fun t => k0_pay9 v6 v7 d x (ix2 r t)) (fun t => k0_pay7 v6 v7 d x (ix2 t j)) (hy r j) (fun t => hlow r t)
    (fun t => hrow t j)

/-- Panel 1's update of all batches. -/
theorem update_1 (c : Dev nD) (arg0 : Memref sig .tc .vmem S16x144x144 .f32) (harg0 : arg0.IsWhole) (arg1 : Memref sig .tc .vmem S16x144x144 .f32)
    (harg1 : arg1.IsWhole) (arg2 : Memref sig .tc .vmem S256x128 .f32) (harg2 : arg2.IsWhole)
     (v6 : IVec S16x144 32) (v7 : IVec S16x144 32) (v2748 : FVec Ideal S16x16 .f32) (v2838 : FVec Ideal S16x128 .f32) (hv6 : ∀ (t : Fin 16) (j : Fin 144), v6 (ix2 t j) = BitVec.ofNat 32 j.val)
    (hv7 : ∀ (t : Fin 16) (j : Fin 144), v7 (ix2 t j) = BitVec.ofNat 32 t.val)
    (X : arg2.view.ty.Contents (Elt Ideal)) (g : arg1.view.ty.Contents (Elt Ideal)) (l w : Fin 16 → ℕ → ℕ → ℝ)
    (h : ∀ b, Inverse 144 (l b) (w b))
    (hX : ∀ b i a : Fin 16, arg2.view.read (Elt Ideal) X (ix2 ⟨16 * b.val + i.val, by omega⟩ ⟨a.val, by omega⟩)
      = ((w b (16 + i.val) (16 + a.val) : ℝ) : EReal))
    (hg : ∀ (b : Fin 16) (i j : Fin 144), 16 ≤ i.val →
      arg1.view.read (Elt Ideal) g (ix3 b i j) = ((elim 144 (l b) (w b) 16 i.val j.val : ℝ) : EReal))
    (b : Fin 16) (i j : Fin 144) :
    arg1.view.read (Elt Ideal) (arg1.view.writes (Elt Ideal) g
        (pb_k0_t4 Variants.none c none arg0 harg0 arg1 harg1 arg2 harg2 v6 v7 v2748 v2838 X g (Scf.trips k0_t4_loop.lb k0_t4_loop.ub k0_t4_loop.st))) (ix3 b i j)
      = if 16 ≤ i.val then ((elim 144 (l b) (w b) 32 i.val j.val : ℝ) : EReal)
        else arg1.view.read (Elt Ideal) g (ix3 b i j) := by
  have ht : k0_t4_loop.trips = 16 := by decide +kernel
  refine loop_update arg1.view g 16 (pb_k0_t4 Variants.none c none arg0 harg0 arg1 harg1 arg2 harg2 v6 v7 v2748 v2838 X g)
    (fun b i j => ((elim 144 (l b) (w b) 16 i j : ℝ) : EReal)) (fun b i j => ((elim 144 (l b) (w b) 32 i j : ℝ) : EReal)) rfl
    (fun k => tripL_k0_t4 Variants.none c none arg0 harg0 arg1 harg1 arg2 harg2 v6 v7 v2748 v2838 X (Fin.cast ht.symm k))
    (fun k => pb_k0_t4_succ Variants.none c none arg0 harg0 arg1 harg1 arg2 harg2 v6 v7 v2748 v2838 X g (Fin.cast ht.symm k)) ?_ hg b i j
  intro k f hf b i j
  have hd : ∀ a t : Fin 16, arg2.view.readAt (Elt Ideal) (Rect.unit (s := S256x128) (k0_off8 (Fin.cast ht.symm k)) S16x16.size
      (k0_off8_inb (Fin.cast ht.symm k))).toLoadRect X (ix2 a t) = ((w k (16 + a.val) (16 + t.val) : ℝ) : EReal) := by
    intro a t
    rw [View.readAt_apply, ← hX k a t]
    congr 1
    refine LoadRect.unit_idx_eq _ (k0_off8_eq (Fin.cast ht.symm k)) _ _ ?_
    intro c; fin_cases c
    · show 16 * k.val + a.val = 16 * k.val + a.val; rfl
    · show t.val = 0 + t.val; omega
  have hx : ∀ (a : Fin 16) (j : Fin 144), arg1.view.readAt (Elt Ideal) (Rect.unit (s := S16x144x144) (k0_off9 (Fin.cast ht.symm k))
      S1x16x144.size (k0_off9_inb (Fin.cast ht.symm k))).toLoadRect f (ix3 0 a j)
        = ((elim 144 (l k) (w k) 16 (16 + a.val) j.val : ℝ) : EReal) := by
    intro a j
    rw [View.readAt_apply, ← hf ⟨16 + a.val, by omega⟩ j (by show 16 ≤ 16 + a.val; omega)]
    congr 1
    refine LoadRect.unit_idx_eq _ (k0_off9_eq (Fin.cast ht.symm k)) _ _ ?_
    intro c; fin_cases c
    · show k.val = k.val + 0; omega
    · show 16 + a.val = 16 + a.val; rfl
    · show j.val = 0 + j.val; omega
  have hy : ∀ (r : Fin 112) (j : Fin 144), arg1.view.readAt (Elt Ideal) (Rect.unit (s := S16x144x144) (k0_off10 (Fin.cast ht.symm k))
      S1x112x144.size (k0_off10_inb (Fin.cast ht.symm k))).toLoadRect f (ix3 0 r j)
        = ((elim 144 (l k) (w k) 16 (32 + r.val) j.val : ℝ) : EReal) := by
    intro r j
    rw [View.readAt_apply, ← hf ⟨32 + r.val, by omega⟩ j (by show 16 ≤ 32 + r.val; omega)]
    congr 1
    refine LoadRect.unit_idx_eq _ (k0_off10_eq (Fin.cast ht.symm k)) _ _ ?_
    intro c; fin_cases c
    · show k.val = k.val + 0; omega
    · show 32 + r.val = 32 + r.val; rfl
    · show j.val = 0 + j.val; omega
  unfold tripL_k0_t4 trip_k0_t4
  dsimp only
  sl_unfold_words
  exact update_read arg1.view f k.val 16 112 rfl (k0_off10_eq (Fin.cast ht.symm k)) (k0_off9_eq (Fin.cast ht.symm k)) _ _ _ _
    (fun i j => ((elim 144 (l k) (w k) 32 i j : ℝ) : EReal))
    (rest_1 v6 v7 hv6 hv7 _ _ _ (l k) (w k) (h k) hd hx hy) (row_1 v6 v7 hv6 hv7 _ _ (l k) (w k) (h k) hd hx) b i j

/-- Panel 2: the blocks on the diagonal are loaded as they stand in the result's buffer. -/
theorem load_2 (c : Dev nD) (arg0 : Memref sig .tc .vmem S16x144x144 .f32) (harg0 : arg0.IsWhole) (arg1 : Memref sig .tc .vmem S16x144x144 .f32)
    (harg1 : arg1.IsWhole) (arg2 : Memref sig .tc .vmem S256x128 .f32) (harg2 : arg2.IsWhole)
     (v6 : IVec S16x144 32) (v7 : IVec S16x144 32) (v2748 : FVec Ideal S16x16 .f32) (v2838 : FVec Ideal S16x128 .f32) (X : arg1.view.ty.Contents (Elt Ideal)) (g : arg2.view.ty.Contents (Elt Ideal)) (b i a : Fin 16) :
    arg2.view.read (Elt Ideal) (arg2.view.writes (Elt Ideal) g
        (pb_k0_t5 Variants.none c none arg0 harg0 arg1 harg1 arg2 harg2 v6 v7 v2748 v2838 X (Scf.trips k0_t5_loop.lb k0_t5_loop.ub k0_t5_loop.st)))
        (ix2 ⟨16 * b.val + i.val, by omega⟩ ⟨a.val, by omega⟩)
      = arg1.view.read (Elt Ideal) X (ix3 b ⟨32 + i.val, by omega⟩ ⟨32 + a.val, by omega⟩) := by
  have ht : k0_t5_loop.trips = 16 := by decide +kernel
  refine loop_load arg2.view g (pb_k0_t5 Variants.none c none arg0 harg0 arg1 harg1 arg2 harg2 v6 v7 v2748 v2838 X)
    (fun b i a => arg1.view.read (Elt Ideal) X (ix3 b ⟨32 + i.val, by omega⟩ ⟨32 + a.val, by omega⟩)) rfl
    (fun k => tripL_k0_t5 Variants.none c none arg0 harg0 arg1 harg1 arg2 harg2 v6 v7 v2748 v2838 X (Fin.cast ht.symm k))
    (fun k => pb_k0_t5_succ Variants.none c none arg0 harg0 arg1 harg1 arg2 harg2 v6 v7 v2748 v2838 X (Fin.cast ht.symm k)) ?_ b i a
  intro k f b i a
  unfold tripL_k0_t5 trip_k0_t5
  dsimp only
  sl_unfold_words
  refine (load_read arg2.view f k.val (k0_off12_eq (Fin.cast ht.symm k)) _ _ b i a).trans ?_
  by_cases hb : b.val = k.val
  · rw [if_pos hb, if_pos hb]
    pointwise [k0_pay510]
    rw [View.readAt_apply]
    congr 1
    refine LoadRect.unit_idx_eq _ (k0_off11_eq (Fin.cast ht.symm k)) _ _ ?_
    intro c; fin_cases c
    · show k.val = k.val + 0; omega
    · show 32 + i.val = 32 + i.val; omega
    · show 32 + a.val = 32 + a.val; omega
  · rw [if_neg hb, if_neg hb]

/-- Panel 2's own rows after it. -/
theorem row_2 (v6 v7 : IVec S16x144 32) (hv6 : ∀ (t : Fin 16) (j : Fin 144), v6 (ix2 t j) = BitVec.ofNat 32 j.val)
    (hv7 : ∀ (t : Fin 16) (j : Fin 144), v7 (ix2 t j) = BitVec.ofNat 32 t.val) (d : Vec Ideal S16x16 .f32)
    (x : Vec Ideal S1x16x144 .f32) (l w : ℕ → ℕ → ℝ) (h : Inverse 144 l w)
    (hd : ∀ a t : Fin 16, d (ix2 a t) = ((w (32 + a.val) (32 + t.val) : ℝ) : EReal))
    (hx : ∀ (t : Fin 16) (j : Fin 144), x (ix3 0 t j) = ((elim 144 l w 32 (32 + t.val) j.val : ℝ) : EReal))
    (a : Fin 16) (j : Fin 144) :
    k0_pay12 v6 v7 d x (ix3 0 a j) = ((elim 144 l w 48 (32 + a.val) j.val : ℝ) : EReal) := by
  pointwise [k0_pay12, k0_pay11]
  simp only [hv6, hv7]
  exact row_core h 32 (by norm_num) a j (fun t => d (ix2 a t)) (fun t => x (ix3 0 t j)) (fun t => hd a t) (fun t => hx t j)

/-- The rows after panel 2 once it is done. -/
theorem rest_2 (v6 v7 : IVec S16x144 32) (hv6 : ∀ (t : Fin 16) (j : Fin 144), v6 (ix2 t j) = BitVec.ofNat 32 j.val)
    (hv7 : ∀ (t : Fin 16) (j : Fin 144), v7 (ix2 t j) = BitVec.ofNat 32 t.val) (d : Vec Ideal S16x16 .f32)
    (x : Vec Ideal S1x16x144 .f32) (y : Vec Ideal S1x96x144 .f32) (l w : ℕ → ℕ → ℝ) (h : Inverse 144 l w)
    (hd : ∀ a t : Fin 16, d (ix2 a t) = ((w (32 + a.val) (32 + t.val) : ℝ) : EReal))
    (hx : ∀ (t : Fin 16) (j : Fin 144), x (ix3 0 t j) = ((elim 144 l w 32 (32 + t.val) j.val : ℝ) : EReal))
    (hy : ∀ (r : Fin 96) (j : Fin 144), y (ix3 0 r j) = ((elim 144 l w 32 (48 + r.val) j.val : ℝ) : EReal))
    (r : Fin 96) (j : Fin 144) :
    k0_pay747 (k0_pay11 v6 v7 d x) (k0_pay13 v6 v7 d x) (k0_pay14 y) (ix3 0 r j)
      = ((elim 144 l w 48 (48 + r.val) j.val : ℝ) : EReal) := by
  have hrow : ∀ (a : Fin 16) (j : Fin 144),
      k0_pay11 v6 v7 d x (ix2 a j) = ((elim 144 l w 48 (32 + a.val) j.val : ℝ) : EReal) := by
    intro a j
    pointwise [k0_pay11]
    simp only [hv6, hv7]
    exact row_core h 32 (by norm_num) a j (fun t => d (ix2 a t)) (fun t => x (ix3 0 t j)) (fun t => hd a t) (fun t => hx t j)
  have hlow : ∀ (r : Fin 96) (t : Fin 16),
      k0_pay13 v6 v7 d x (ix2 r t) = ((elim 144 l w 48 (32 + t.val) (48 + r.val) : ℝ) : EReal) := by
    intro r t
    have := hrow t ⟨48 + r.val, by omega⟩
    rw [← this]
    pointwise [k0_pay13]
  pointwise [k0_pay747, k0_pay14]
  exact rest_core h 32 (by norm_num) (48 + r.val) (by omega) (by omega) j (y (ix3 0 r j))
    (fun t => k0_pay13 v6 v7 d x (ix2 r t)) (fun t => k0_pay11 v6 v7 d x (ix2 t j)) (hy r j) (fun t => hlow r t)
    (fun t => hrow t j)

/-- Panel 2's update of all batches. -/
theorem update_2 (c : Dev nD) (arg0 : Memref sig .tc .vmem S16x144x144 .f32) (harg0 : arg0.IsWhole) (arg1 : Memref sig .tc .vmem S16x144x144 .f32)
    (harg1 : arg1.IsWhole) (arg2 : Memref sig .tc .vmem S256x128 .f32) (harg2 : arg2.IsWhole)
     (v6 : IVec S16x144 32) (v7 : IVec S16x144 32) (v4155 : FVec Ideal S16x16 .f32) (v4159 : FVec Ideal S16x16 .f32) (v4163 : FVec Ideal S16x16 .f32) (v4167 : FVec Ideal S16x16 .f32) (hv6 : ∀ (t : Fin 16) (j : Fin 144), v6 (ix2 t j) = BitVec.ofNat 32 j.val)
    (hv7 : ∀ (t : Fin 16) (j : Fin 144), v7 (ix2 t j) = BitVec.ofNat 32 t.val)
    (X : arg2.view.ty.Contents (Elt Ideal)) (g : arg1.view.ty.Contents (Elt Ideal)) (l w : Fin 16 → ℕ → ℕ → ℝ)
    (h : ∀ b, Inverse 144 (l b) (w b))
    (hX : ∀ b i a : Fin 16, arg2.view.read (Elt Ideal) X (ix2 ⟨16 * b.val + i.val, by omega⟩ ⟨a.val, by omega⟩)
      = ((w b (32 + i.val) (32 + a.val) : ℝ) : EReal))
    (hg : ∀ (b : Fin 16) (i j : Fin 144), 32 ≤ i.val →
      arg1.view.read (Elt Ideal) g (ix3 b i j) = ((elim 144 (l b) (w b) 32 i.val j.val : ℝ) : EReal))
    (b : Fin 16) (i j : Fin 144) :
    arg1.view.read (Elt Ideal) (arg1.view.writes (Elt Ideal) g
        (pb_k0_t6 Variants.none c none arg0 harg0 arg1 harg1 arg2 harg2 v6 v7 v4155 v4159 v4163 v4167 X g (Scf.trips k0_t6_loop.lb k0_t6_loop.ub k0_t6_loop.st))) (ix3 b i j)
      = if 32 ≤ i.val then ((elim 144 (l b) (w b) 48 i.val j.val : ℝ) : EReal)
        else arg1.view.read (Elt Ideal) g (ix3 b i j) := by
  have ht : k0_t6_loop.trips = 16 := by decide +kernel
  refine loop_update arg1.view g 32 (pb_k0_t6 Variants.none c none arg0 harg0 arg1 harg1 arg2 harg2 v6 v7 v4155 v4159 v4163 v4167 X g)
    (fun b i j => ((elim 144 (l b) (w b) 32 i j : ℝ) : EReal)) (fun b i j => ((elim 144 (l b) (w b) 48 i j : ℝ) : EReal)) rfl
    (fun k => tripL_k0_t6 Variants.none c none arg0 harg0 arg1 harg1 arg2 harg2 v6 v7 v4155 v4159 v4163 v4167 X (Fin.cast ht.symm k))
    (fun k => pb_k0_t6_succ Variants.none c none arg0 harg0 arg1 harg1 arg2 harg2 v6 v7 v4155 v4159 v4163 v4167 X g (Fin.cast ht.symm k)) ?_ hg b i j
  intro k f hf b i j
  have hd : ∀ a t : Fin 16, arg2.view.readAt (Elt Ideal) (Rect.unit (s := S256x128) (k0_off13 (Fin.cast ht.symm k)) S16x16.size
      (k0_off13_inb (Fin.cast ht.symm k))).toLoadRect X (ix2 a t) = ((w k (32 + a.val) (32 + t.val) : ℝ) : EReal) := by
    intro a t
    rw [View.readAt_apply, ← hX k a t]
    congr 1
    refine LoadRect.unit_idx_eq _ (k0_off13_eq (Fin.cast ht.symm k)) _ _ ?_
    intro c; fin_cases c
    · show 16 * k.val + a.val = 16 * k.val + a.val; rfl
    · show t.val = 0 + t.val; omega
  have hx : ∀ (a : Fin 16) (j : Fin 144), arg1.view.readAt (Elt Ideal) (Rect.unit (s := S16x144x144) (k0_off14 (Fin.cast ht.symm k))
      S1x16x144.size (k0_off14_inb (Fin.cast ht.symm k))).toLoadRect f (ix3 0 a j)
        = ((elim 144 (l k) (w k) 32 (32 + a.val) j.val : ℝ) : EReal) := by
    intro a j
    rw [View.readAt_apply, ← hf ⟨32 + a.val, by omega⟩ j (by show 32 ≤ 32 + a.val; omega)]
    congr 1
    refine LoadRect.unit_idx_eq _ (k0_off14_eq (Fin.cast ht.symm k)) _ _ ?_
    intro c; fin_cases c
    · show k.val = k.val + 0; omega
    · show 32 + a.val = 32 + a.val; rfl
    · show j.val = 0 + j.val; omega
  have hy : ∀ (r : Fin 96) (j : Fin 144), arg1.view.readAt (Elt Ideal) (Rect.unit (s := S16x144x144) (k0_off15 (Fin.cast ht.symm k))
      S1x96x144.size (k0_off15_inb (Fin.cast ht.symm k))).toLoadRect f (ix3 0 r j)
        = ((elim 144 (l k) (w k) 32 (48 + r.val) j.val : ℝ) : EReal) := by
    intro r j
    rw [View.readAt_apply, ← hf ⟨48 + r.val, by omega⟩ j (by show 32 ≤ 48 + r.val; omega)]
    congr 1
    refine LoadRect.unit_idx_eq _ (k0_off15_eq (Fin.cast ht.symm k)) _ _ ?_
    intro c; fin_cases c
    · show k.val = k.val + 0; omega
    · show 48 + r.val = 48 + r.val; rfl
    · show j.val = 0 + j.val; omega
  unfold tripL_k0_t6 trip_k0_t6
  dsimp only
  sl_unfold_words
  exact update_read arg1.view f k.val 32 96 rfl (k0_off15_eq (Fin.cast ht.symm k)) (k0_off14_eq (Fin.cast ht.symm k)) _ _ _ _
    (fun i j => ((elim 144 (l k) (w k) 48 i j : ℝ) : EReal))
    (rest_2 v6 v7 hv6 hv7 _ _ _ (l k) (w k) (h k) hd hx hy) (row_2 v6 v7 hv6 hv7 _ _ (l k) (w k) (h k) hd hx) b i j

/-- Panel 3: the blocks on the diagonal are loaded as they stand in the result's buffer. -/
theorem load_3 (c : Dev nD) (arg0 : Memref sig .tc .vmem S16x144x144 .f32) (harg0 : arg0.IsWhole) (arg1 : Memref sig .tc .vmem S16x144x144 .f32)
    (harg1 : arg1.IsWhole) (arg2 : Memref sig .tc .vmem S256x128 .f32) (harg2 : arg2.IsWhole)
     (v6 : IVec S16x144 32) (v7 : IVec S16x144 32) (v4155 : FVec Ideal S16x16 .f32) (v4159 : FVec Ideal S16x16 .f32) (v4163 : FVec Ideal S16x16 .f32) (v4167 : FVec Ideal S16x16 .f32) (X : arg1.view.ty.Contents (Elt Ideal)) (g : arg2.view.ty.Contents (Elt Ideal)) (b i a : Fin 16) :
    arg2.view.read (Elt Ideal) (arg2.view.writes (Elt Ideal) g
        (pb_k0_t7 Variants.none c none arg0 harg0 arg1 harg1 arg2 harg2 v6 v7 v4155 v4159 v4163 v4167 X (Scf.trips k0_t7_loop.lb k0_t7_loop.ub k0_t7_loop.st)))
        (ix2 ⟨16 * b.val + i.val, by omega⟩ ⟨a.val, by omega⟩)
      = arg1.view.read (Elt Ideal) X (ix3 b ⟨48 + i.val, by omega⟩ ⟨48 + a.val, by omega⟩) := by
  have ht : k0_t7_loop.trips = 16 := by decide +kernel
  refine loop_load arg2.view g (pb_k0_t7 Variants.none c none arg0 harg0 arg1 harg1 arg2 harg2 v6 v7 v4155 v4159 v4163 v4167 X)
    (fun b i a => arg1.view.read (Elt Ideal) X (ix3 b ⟨48 + i.val, by omega⟩ ⟨48 + a.val, by omega⟩)) rfl
    (fun k => tripL_k0_t7 Variants.none c none arg0 harg0 arg1 harg1 arg2 harg2 v6 v7 v4155 v4159 v4163 v4167 X (Fin.cast ht.symm k))
    (fun k => pb_k0_t7_succ Variants.none c none arg0 harg0 arg1 harg1 arg2 harg2 v6 v7 v4155 v4159 v4163 v4167 X (Fin.cast ht.symm k)) ?_ b i a
  intro k f b i a
  unfold tripL_k0_t7 trip_k0_t7
  dsimp only
  sl_unfold_words
  refine (load_read arg2.view f k.val (k0_off17_eq (Fin.cast ht.symm k)) _ _ b i a).trans ?_
  by_cases hb : b.val = k.val
  · rw [if_pos hb, if_pos hb]
    pointwise [k0_pay748]
    rw [View.readAt_apply]
    congr 1
    refine LoadRect.unit_idx_eq _ (k0_off16_eq (Fin.cast ht.symm k)) _ _ ?_
    intro c; fin_cases c
    · show k.val = k.val + 0; omega
    · show 48 + i.val = 48 + i.val; omega
    · show 48 + a.val = 48 + a.val; omega
  · rw [if_neg hb, if_neg hb]

/-- Panel 3's own rows after it. -/
theorem row_3 (v6 v7 : IVec S16x144 32) (hv6 : ∀ (t : Fin 16) (j : Fin 144), v6 (ix2 t j) = BitVec.ofNat 32 j.val)
    (hv7 : ∀ (t : Fin 16) (j : Fin 144), v7 (ix2 t j) = BitVec.ofNat 32 t.val) (d : Vec Ideal S16x16 .f32)
    (x : Vec Ideal S1x16x144 .f32) (l w : ℕ → ℕ → ℝ) (h : Inverse 144 l w)
    (hd : ∀ a t : Fin 16, d (ix2 a t) = ((w (48 + a.val) (48 + t.val) : ℝ) : EReal))
    (hx : ∀ (t : Fin 16) (j : Fin 144), x (ix3 0 t j) = ((elim 144 l w 48 (48 + t.val) j.val : ℝ) : EReal))
    (a : Fin 16) (j : Fin 144) :
    k0_pay16 v6 v7 d x (ix3 0 a j) = ((elim 144 l w 64 (48 + a.val) j.val : ℝ) : EReal) := by
  pointwise [k0_pay16, k0_pay15]
  simp only [hv6, hv7]
  exact row_core h 48 (by norm_num) a j (fun t => d (ix2 a t)) (fun t => x (ix3 0 t j)) (fun t => hd a t) (fun t => hx t j)

/-- The rows after panel 3 once it is done. -/
theorem rest_3 (v6 v7 : IVec S16x144 32) (hv6 : ∀ (t : Fin 16) (j : Fin 144), v6 (ix2 t j) = BitVec.ofNat 32 j.val)
    (hv7 : ∀ (t : Fin 16) (j : Fin 144), v7 (ix2 t j) = BitVec.ofNat 32 t.val) (d : Vec Ideal S16x16 .f32)
    (x : Vec Ideal S1x16x144 .f32) (y : Vec Ideal S1x80x144 .f32) (l w : ℕ → ℕ → ℝ) (h : Inverse 144 l w)
    (hd : ∀ a t : Fin 16, d (ix2 a t) = ((w (48 + a.val) (48 + t.val) : ℝ) : EReal))
    (hx : ∀ (t : Fin 16) (j : Fin 144), x (ix3 0 t j) = ((elim 144 l w 48 (48 + t.val) j.val : ℝ) : EReal))
    (hy : ∀ (r : Fin 80) (j : Fin 144), y (ix3 0 r j) = ((elim 144 l w 48 (64 + r.val) j.val : ℝ) : EReal))
    (r : Fin 80) (j : Fin 144) :
    k0_pay979 (k0_pay15 v6 v7 d x) (k0_pay17 v6 v7 d x) (k0_pay18 y) (ix3 0 r j)
      = ((elim 144 l w 64 (64 + r.val) j.val : ℝ) : EReal) := by
  have hrow : ∀ (a : Fin 16) (j : Fin 144),
      k0_pay15 v6 v7 d x (ix2 a j) = ((elim 144 l w 64 (48 + a.val) j.val : ℝ) : EReal) := by
    intro a j
    pointwise [k0_pay15]
    simp only [hv6, hv7]
    exact row_core h 48 (by norm_num) a j (fun t => d (ix2 a t)) (fun t => x (ix3 0 t j)) (fun t => hd a t) (fun t => hx t j)
  have hlow : ∀ (r : Fin 80) (t : Fin 16),
      k0_pay17 v6 v7 d x (ix2 r t) = ((elim 144 l w 64 (48 + t.val) (64 + r.val) : ℝ) : EReal) := by
    intro r t
    have := hrow t ⟨64 + r.val, by omega⟩
    rw [← this]
    pointwise [k0_pay17]
  pointwise [k0_pay979, k0_pay18]
  exact rest_core h 48 (by norm_num) (64 + r.val) (by omega) (by omega) j (y (ix3 0 r j))
    (fun t => k0_pay17 v6 v7 d x (ix2 r t)) (fun t => k0_pay15 v6 v7 d x (ix2 t j)) (hy r j) (fun t => hlow r t)
    (fun t => hrow t j)

/-- Panel 3's update of all batches. -/
theorem update_3 (c : Dev nD) (arg0 : Memref sig .tc .vmem S16x144x144 .f32) (harg0 : arg0.IsWhole) (arg1 : Memref sig .tc .vmem S16x144x144 .f32)
    (harg1 : arg1.IsWhole) (arg2 : Memref sig .tc .vmem S256x128 .f32) (harg2 : arg2.IsWhole)
     (v6 : IVec S16x144 32) (v7 : IVec S16x144 32) (v5677 : FVec Ideal S16x16 .f32) (hv6 : ∀ (t : Fin 16) (j : Fin 144), v6 (ix2 t j) = BitVec.ofNat 32 j.val)
    (hv7 : ∀ (t : Fin 16) (j : Fin 144), v7 (ix2 t j) = BitVec.ofNat 32 t.val)
    (X : arg2.view.ty.Contents (Elt Ideal)) (g : arg1.view.ty.Contents (Elt Ideal)) (l w : Fin 16 → ℕ → ℕ → ℝ)
    (h : ∀ b, Inverse 144 (l b) (w b))
    (hX : ∀ b i a : Fin 16, arg2.view.read (Elt Ideal) X (ix2 ⟨16 * b.val + i.val, by omega⟩ ⟨a.val, by omega⟩)
      = ((w b (48 + i.val) (48 + a.val) : ℝ) : EReal))
    (hg : ∀ (b : Fin 16) (i j : Fin 144), 48 ≤ i.val →
      arg1.view.read (Elt Ideal) g (ix3 b i j) = ((elim 144 (l b) (w b) 48 i.val j.val : ℝ) : EReal))
    (b : Fin 16) (i j : Fin 144) :
    arg1.view.read (Elt Ideal) (arg1.view.writes (Elt Ideal) g
        (pb_k0_t8 Variants.none c none arg0 harg0 arg1 harg1 arg2 harg2 v6 v7 v5677 X g (Scf.trips k0_t8_loop.lb k0_t8_loop.ub k0_t8_loop.st))) (ix3 b i j)
      = if 48 ≤ i.val then ((elim 144 (l b) (w b) 64 i.val j.val : ℝ) : EReal)
        else arg1.view.read (Elt Ideal) g (ix3 b i j) := by
  have ht : k0_t8_loop.trips = 16 := by decide +kernel
  refine loop_update arg1.view g 48 (pb_k0_t8 Variants.none c none arg0 harg0 arg1 harg1 arg2 harg2 v6 v7 v5677 X g)
    (fun b i j => ((elim 144 (l b) (w b) 48 i j : ℝ) : EReal)) (fun b i j => ((elim 144 (l b) (w b) 64 i j : ℝ) : EReal)) rfl
    (fun k => tripL_k0_t8 Variants.none c none arg0 harg0 arg1 harg1 arg2 harg2 v6 v7 v5677 X (Fin.cast ht.symm k))
    (fun k => pb_k0_t8_succ Variants.none c none arg0 harg0 arg1 harg1 arg2 harg2 v6 v7 v5677 X g (Fin.cast ht.symm k)) ?_ hg b i j
  intro k f hf b i j
  have hd : ∀ a t : Fin 16, arg2.view.readAt (Elt Ideal) (Rect.unit (s := S256x128) (k0_off18 (Fin.cast ht.symm k)) S16x16.size
      (k0_off18_inb (Fin.cast ht.symm k))).toLoadRect X (ix2 a t) = ((w k (48 + a.val) (48 + t.val) : ℝ) : EReal) := by
    intro a t
    rw [View.readAt_apply, ← hX k a t]
    congr 1
    refine LoadRect.unit_idx_eq _ (k0_off18_eq (Fin.cast ht.symm k)) _ _ ?_
    intro c; fin_cases c
    · show 16 * k.val + a.val = 16 * k.val + a.val; rfl
    · show t.val = 0 + t.val; omega
  have hx : ∀ (a : Fin 16) (j : Fin 144), arg1.view.readAt (Elt Ideal) (Rect.unit (s := S16x144x144) (k0_off19 (Fin.cast ht.symm k))
      S1x16x144.size (k0_off19_inb (Fin.cast ht.symm k))).toLoadRect f (ix3 0 a j)
        = ((elim 144 (l k) (w k) 48 (48 + a.val) j.val : ℝ) : EReal) := by
    intro a j
    rw [View.readAt_apply, ← hf ⟨48 + a.val, by omega⟩ j (by show 48 ≤ 48 + a.val; omega)]
    congr 1
    refine LoadRect.unit_idx_eq _ (k0_off19_eq (Fin.cast ht.symm k)) _ _ ?_
    intro c; fin_cases c
    · show k.val = k.val + 0; omega
    · show 48 + a.val = 48 + a.val; rfl
    · show j.val = 0 + j.val; omega
  have hy : ∀ (r : Fin 80) (j : Fin 144), arg1.view.readAt (Elt Ideal) (Rect.unit (s := S16x144x144) (k0_off20 (Fin.cast ht.symm k))
      S1x80x144.size (k0_off20_inb (Fin.cast ht.symm k))).toLoadRect f (ix3 0 r j)
        = ((elim 144 (l k) (w k) 48 (64 + r.val) j.val : ℝ) : EReal) := by
    intro r j
    rw [View.readAt_apply, ← hf ⟨64 + r.val, by omega⟩ j (by show 48 ≤ 64 + r.val; omega)]
    congr 1
    refine LoadRect.unit_idx_eq _ (k0_off20_eq (Fin.cast ht.symm k)) _ _ ?_
    intro c; fin_cases c
    · show k.val = k.val + 0; omega
    · show 64 + r.val = 64 + r.val; rfl
    · show j.val = 0 + j.val; omega
  unfold tripL_k0_t8 trip_k0_t8
  dsimp only
  sl_unfold_words
  exact update_read arg1.view f k.val 48 80 rfl (k0_off20_eq (Fin.cast ht.symm k)) (k0_off19_eq (Fin.cast ht.symm k)) _ _ _ _
    (fun i j => ((elim 144 (l k) (w k) 64 i j : ℝ) : EReal))
    (rest_3 v6 v7 hv6 hv7 _ _ _ (l k) (w k) (h k) hd hx hy) (row_3 v6 v7 hv6 hv7 _ _ (l k) (w k) (h k) hd hx) b i j

/-- Panel 4: the blocks on the diagonal are loaded as they stand in the result's buffer. -/
theorem load_4 (c : Dev nD) (arg0 : Memref sig .tc .vmem S16x144x144 .f32) (harg0 : arg0.IsWhole) (arg1 : Memref sig .tc .vmem S16x144x144 .f32)
    (harg1 : arg1.IsWhole) (arg2 : Memref sig .tc .vmem S256x128 .f32) (harg2 : arg2.IsWhole)
     (v6 : IVec S16x144 32) (v7 : IVec S16x144 32) (v5677 : FVec Ideal S16x16 .f32) (X : arg1.view.ty.Contents (Elt Ideal)) (g : arg2.view.ty.Contents (Elt Ideal)) (b i a : Fin 16) :
    arg2.view.read (Elt Ideal) (arg2.view.writes (Elt Ideal) g
        (pb_k0_t9 Variants.none c none arg0 harg0 arg1 harg1 arg2 harg2 v6 v7 v5677 X (Scf.trips k0_t9_loop.lb k0_t9_loop.ub k0_t9_loop.st)))
        (ix2 ⟨16 * b.val + i.val, by omega⟩ ⟨a.val, by omega⟩)
      = arg1.view.read (Elt Ideal) X (ix3 b ⟨64 + i.val, by omega⟩ ⟨64 + a.val, by omega⟩) := by
  have ht : k0_t9_loop.trips = 16 := by decide +kernel
  refine loop_load arg2.view g (pb_k0_t9 Variants.none c none arg0 harg0 arg1 harg1 arg2 harg2 v6 v7 v5677 X)
    (fun b i a => arg1.view.read (Elt Ideal) X (ix3 b ⟨64 + i.val, by omega⟩ ⟨64 + a.val, by omega⟩)) rfl
    (fun k => tripL_k0_t9 Variants.none c none arg0 harg0 arg1 harg1 arg2 harg2 v6 v7 v5677 X (Fin.cast ht.symm k))
    (fun k => pb_k0_t9_succ Variants.none c none arg0 harg0 arg1 harg1 arg2 harg2 v6 v7 v5677 X (Fin.cast ht.symm k)) ?_ b i a
  intro k f b i a
  unfold tripL_k0_t9 trip_k0_t9
  dsimp only
  sl_unfold_words
  refine (load_read arg2.view f k.val (k0_off22_eq (Fin.cast ht.symm k)) _ _ b i a).trans ?_
  by_cases hb : b.val = k.val
  · rw [if_pos hb, if_pos hb]
    pointwise [k0_pay980]
    rw [View.readAt_apply]
    congr 1
    refine LoadRect.unit_idx_eq _ (k0_off21_eq (Fin.cast ht.symm k)) _ _ ?_
    intro c; fin_cases c
    · show k.val = k.val + 0; omega
    · show 64 + i.val = 64 + i.val; omega
    · show 64 + a.val = 64 + a.val; omega
  · rw [if_neg hb, if_neg hb]

/-- Panel 4's own rows after it. -/
theorem row_4 (v6 v7 : IVec S16x144 32) (hv6 : ∀ (t : Fin 16) (j : Fin 144), v6 (ix2 t j) = BitVec.ofNat 32 j.val)
    (hv7 : ∀ (t : Fin 16) (j : Fin 144), v7 (ix2 t j) = BitVec.ofNat 32 t.val) (d : Vec Ideal S16x16 .f32)
    (x : Vec Ideal S1x16x144 .f32) (l w : ℕ → ℕ → ℝ) (h : Inverse 144 l w)
    (hd : ∀ a t : Fin 16, d (ix2 a t) = ((w (64 + a.val) (64 + t.val) : ℝ) : EReal))
    (hx : ∀ (t : Fin 16) (j : Fin 144), x (ix3 0 t j) = ((elim 144 l w 64 (64 + t.val) j.val : ℝ) : EReal))
    (a : Fin 16) (j : Fin 144) :
    k0_pay20 v6 v7 d x (ix3 0 a j) = ((elim 144 l w 80 (64 + a.val) j.val : ℝ) : EReal) := by
  pointwise [k0_pay20, k0_pay19]
  simp only [hv6, hv7]
  exact row_core h 64 (by norm_num) a j (fun t => d (ix2 a t)) (fun t => x (ix3 0 t j)) (fun t => hd a t) (fun t => hx t j)

/-- The rows after panel 4 once it is done. -/
theorem rest_4 (v6 v7 : IVec S16x144 32) (hv6 : ∀ (t : Fin 16) (j : Fin 144), v6 (ix2 t j) = BitVec.ofNat 32 j.val)
    (hv7 : ∀ (t : Fin 16) (j : Fin 144), v7 (ix2 t j) = BitVec.ofNat 32 t.val) (d : Vec Ideal S16x16 .f32)
    (x : Vec Ideal S1x16x144 .f32) (y : Vec Ideal S1x64x144 .f32) (l w : ℕ → ℕ → ℝ) (h : Inverse 144 l w)
    (hd : ∀ a t : Fin 16, d (ix2 a t) = ((w (64 + a.val) (64 + t.val) : ℝ) : EReal))
    (hx : ∀ (t : Fin 16) (j : Fin 144), x (ix3 0 t j) = ((elim 144 l w 64 (64 + t.val) j.val : ℝ) : EReal))
    (hy : ∀ (r : Fin 64) (j : Fin 144), y (ix3 0 r j) = ((elim 144 l w 64 (80 + r.val) j.val : ℝ) : EReal))
    (r : Fin 64) (j : Fin 144) :
    k0_pay1221 (k0_pay19 v6 v7 d x) (k0_pay21 v6 v7 d x) (k0_pay22 y) (ix3 0 r j)
      = ((elim 144 l w 80 (80 + r.val) j.val : ℝ) : EReal) := by
  have hrow : ∀ (a : Fin 16) (j : Fin 144),
      k0_pay19 v6 v7 d x (ix2 a j) = ((elim 144 l w 80 (64 + a.val) j.val : ℝ) : EReal) := by
    intro a j
    pointwise [k0_pay19]
    simp only [hv6, hv7]
    exact row_core h 64 (by norm_num) a j (fun t => d (ix2 a t)) (fun t => x (ix3 0 t j)) (fun t => hd a t) (fun t => hx t j)
  have hlow : ∀ (r : Fin 64) (t : Fin 16),
      k0_pay21 v6 v7 d x (ix2 r t) = ((elim 144 l w 80 (64 + t.val) (80 + r.val) : ℝ) : EReal) := by
    intro r t
    have := hrow t ⟨80 + r.val, by omega⟩
    rw [← this]
    pointwise [k0_pay21]
  pointwise [k0_pay1221, k0_pay22]
  exact rest_core h 64 (by norm_num) (80 + r.val) (by omega) (by omega) j (y (ix3 0 r j))
    (fun t => k0_pay21 v6 v7 d x (ix2 r t)) (fun t => k0_pay19 v6 v7 d x (ix2 t j)) (hy r j) (fun t => hlow r t)
    (fun t => hrow t j)

/-- Panel 4's update of all batches. -/
theorem update_4 (c : Dev nD) (arg0 : Memref sig .tc .vmem S16x144x144 .f32) (harg0 : arg0.IsWhole) (arg1 : Memref sig .tc .vmem S16x144x144 .f32)
    (harg1 : arg1.IsWhole) (arg2 : Memref sig .tc .vmem S256x128 .f32) (harg2 : arg2.IsWhole)
     (v6 : IVec S16x144 32) (v7 : IVec S16x144 32) (v6997 : FVec Ideal S16x16 .f32) (v7001 : FVec Ideal S16x16 .f32) (v7005 : FVec Ideal S16x16 .f32) (v7078 : FVec Ideal S16x16 .f32) (cst : Ideal .f32) (hv6 : ∀ (t : Fin 16) (j : Fin 144), v6 (ix2 t j) = BitVec.ofNat 32 j.val)
    (hv7 : ∀ (t : Fin 16) (j : Fin 144), v7 (ix2 t j) = BitVec.ofNat 32 t.val)
    (X : arg2.view.ty.Contents (Elt Ideal)) (g : arg1.view.ty.Contents (Elt Ideal)) (l w : Fin 16 → ℕ → ℕ → ℝ)
    (h : ∀ b, Inverse 144 (l b) (w b))
    (hX : ∀ b i a : Fin 16, arg2.view.read (Elt Ideal) X (ix2 ⟨16 * b.val + i.val, by omega⟩ ⟨a.val, by omega⟩)
      = ((w b (64 + i.val) (64 + a.val) : ℝ) : EReal))
    (hg : ∀ (b : Fin 16) (i j : Fin 144), 64 ≤ i.val →
      arg1.view.read (Elt Ideal) g (ix3 b i j) = ((elim 144 (l b) (w b) 64 i.val j.val : ℝ) : EReal))
    (b : Fin 16) (i j : Fin 144) :
    arg1.view.read (Elt Ideal) (arg1.view.writes (Elt Ideal) g
        (pb_k0_t10 Variants.none c none arg0 harg0 arg1 harg1 arg2 harg2 v6 v7 v6997 v7001 v7005 v7078 cst X g (Scf.trips k0_t10_loop.lb k0_t10_loop.ub k0_t10_loop.st))) (ix3 b i j)
      = if 64 ≤ i.val then ((elim 144 (l b) (w b) 80 i.val j.val : ℝ) : EReal)
        else arg1.view.read (Elt Ideal) g (ix3 b i j) := by
  have ht : k0_t10_loop.trips = 16 := by decide +kernel
  refine loop_update arg1.view g 64 (pb_k0_t10 Variants.none c none arg0 harg0 arg1 harg1 arg2 harg2 v6 v7 v6997 v7001 v7005 v7078 cst X g)
    (fun b i j => ((elim 144 (l b) (w b) 64 i j : ℝ) : EReal)) (fun b i j => ((elim 144 (l b) (w b) 80 i j : ℝ) : EReal)) rfl
    (fun k => tripL_k0_t10 Variants.none c none arg0 harg0 arg1 harg1 arg2 harg2 v6 v7 v6997 v7001 v7005 v7078 cst X (Fin.cast ht.symm k))
    (fun k => pb_k0_t10_succ Variants.none c none arg0 harg0 arg1 harg1 arg2 harg2 v6 v7 v6997 v7001 v7005 v7078 cst X g (Fin.cast ht.symm k)) ?_ hg b i j
  intro k f hf b i j
  have hd : ∀ a t : Fin 16, arg2.view.readAt (Elt Ideal) (Rect.unit (s := S256x128) (k0_off23 (Fin.cast ht.symm k)) S16x16.size
      (k0_off23_inb (Fin.cast ht.symm k))).toLoadRect X (ix2 a t) = ((w k (64 + a.val) (64 + t.val) : ℝ) : EReal) := by
    intro a t
    rw [View.readAt_apply, ← hX k a t]
    congr 1
    refine LoadRect.unit_idx_eq _ (k0_off23_eq (Fin.cast ht.symm k)) _ _ ?_
    intro c; fin_cases c
    · show 16 * k.val + a.val = 16 * k.val + a.val; rfl
    · show t.val = 0 + t.val; omega
  have hx : ∀ (a : Fin 16) (j : Fin 144), arg1.view.readAt (Elt Ideal) (Rect.unit (s := S16x144x144) (k0_off24 (Fin.cast ht.symm k))
      S1x16x144.size (k0_off24_inb (Fin.cast ht.symm k))).toLoadRect f (ix3 0 a j)
        = ((elim 144 (l k) (w k) 64 (64 + a.val) j.val : ℝ) : EReal) := by
    intro a j
    rw [View.readAt_apply, ← hf ⟨64 + a.val, by omega⟩ j (by show 64 ≤ 64 + a.val; omega)]
    congr 1
    refine LoadRect.unit_idx_eq _ (k0_off24_eq (Fin.cast ht.symm k)) _ _ ?_
    intro c; fin_cases c
    · show k.val = k.val + 0; omega
    · show 64 + a.val = 64 + a.val; rfl
    · show j.val = 0 + j.val; omega
  have hy : ∀ (r : Fin 64) (j : Fin 144), arg1.view.readAt (Elt Ideal) (Rect.unit (s := S16x144x144) (k0_off25 (Fin.cast ht.symm k))
      S1x64x144.size (k0_off25_inb (Fin.cast ht.symm k))).toLoadRect f (ix3 0 r j)
        = ((elim 144 (l k) (w k) 64 (80 + r.val) j.val : ℝ) : EReal) := by
    intro r j
    rw [View.readAt_apply, ← hf ⟨80 + r.val, by omega⟩ j (by show 64 ≤ 80 + r.val; omega)]
    congr 1
    refine LoadRect.unit_idx_eq _ (k0_off25_eq (Fin.cast ht.symm k)) _ _ ?_
    intro c; fin_cases c
    · show k.val = k.val + 0; omega
    · show 80 + r.val = 80 + r.val; rfl
    · show j.val = 0 + j.val; omega
  unfold tripL_k0_t10 trip_k0_t10
  dsimp only
  sl_unfold_words
  exact update_read arg1.view f k.val 64 64 rfl (k0_off25_eq (Fin.cast ht.symm k)) (k0_off24_eq (Fin.cast ht.symm k)) _ _ _ _
    (fun i j => ((elim 144 (l k) (w k) 80 i j : ℝ) : EReal))
    (rest_4 v6 v7 hv6 hv7 _ _ _ (l k) (w k) (h k) hd hx hy) (row_4 v6 v7 hv6 hv7 _ _ (l k) (w k) (h k) hd hx) b i j

/-- Panel 5: the blocks on the diagonal are loaded as they stand in the result's buffer. -/
theorem load_5 (c : Dev nD) (arg0 : Memref sig .tc .vmem S16x144x144 .f32) (harg0 : arg0.IsWhole) (arg1 : Memref sig .tc .vmem S16x144x144 .f32)
    (harg1 : arg1.IsWhole) (arg2 : Memref sig .tc .vmem S256x128 .f32) (harg2 : arg2.IsWhole)
     (v6 : IVec S16x144 32) (v7 : IVec S16x144 32) (v6997 : FVec Ideal S16x16 .f32) (v7001 : FVec Ideal S16x16 .f32) (v7005 : FVec Ideal S16x16 .f32) (v7078 : FVec Ideal S16x16 .f32) (cst : Ideal .f32) (X : arg1.view.ty.Contents (Elt Ideal)) (g : arg2.view.ty.Contents (Elt Ideal)) (b i a : Fin 16) :
    arg2.view.read (Elt Ideal) (arg2.view.writes (Elt Ideal) g
        (pb_k0_t11 Variants.none c none arg0 harg0 arg1 harg1 arg2 harg2 v6 v7 v6997 v7001 v7005 v7078 cst X (Scf.trips k0_t11_loop.lb k0_t11_loop.ub k0_t11_loop.st)))
        (ix2 ⟨16 * b.val + i.val, by omega⟩ ⟨a.val, by omega⟩)
      = arg1.view.read (Elt Ideal) X (ix3 b ⟨80 + i.val, by omega⟩ ⟨80 + a.val, by omega⟩) := by
  have ht : k0_t11_loop.trips = 16 := by decide +kernel
  refine loop_load arg2.view g (pb_k0_t11 Variants.none c none arg0 harg0 arg1 harg1 arg2 harg2 v6 v7 v6997 v7001 v7005 v7078 cst X)
    (fun b i a => arg1.view.read (Elt Ideal) X (ix3 b ⟨80 + i.val, by omega⟩ ⟨80 + a.val, by omega⟩)) rfl
    (fun k => tripL_k0_t11 Variants.none c none arg0 harg0 arg1 harg1 arg2 harg2 v6 v7 v6997 v7001 v7005 v7078 cst X (Fin.cast ht.symm k))
    (fun k => pb_k0_t11_succ Variants.none c none arg0 harg0 arg1 harg1 arg2 harg2 v6 v7 v6997 v7001 v7005 v7078 cst X (Fin.cast ht.symm k)) ?_ b i a
  intro k f b i a
  unfold tripL_k0_t11 trip_k0_t11
  dsimp only
  sl_unfold_words
  refine (load_read arg2.view f k.val (k0_off27_eq (Fin.cast ht.symm k)) _ _ b i a).trans ?_
  by_cases hb : b.val = k.val
  · rw [if_pos hb, if_pos hb]
    pointwise [k0_pay1222]
    rw [View.readAt_apply]
    congr 1
    refine LoadRect.unit_idx_eq _ (k0_off26_eq (Fin.cast ht.symm k)) _ _ ?_
    intro c; fin_cases c
    · show k.val = k.val + 0; omega
    · show 80 + i.val = 80 + i.val; omega
    · show 80 + a.val = 80 + a.val; omega
  · rw [if_neg hb, if_neg hb]

/-- Panel 5's own rows after it. -/
theorem row_5 (v6 v7 : IVec S16x144 32) (hv6 : ∀ (t : Fin 16) (j : Fin 144), v6 (ix2 t j) = BitVec.ofNat 32 j.val)
    (hv7 : ∀ (t : Fin 16) (j : Fin 144), v7 (ix2 t j) = BitVec.ofNat 32 t.val) (d : Vec Ideal S16x16 .f32)
    (x : Vec Ideal S1x16x144 .f32) (l w : ℕ → ℕ → ℝ) (h : Inverse 144 l w)
    (hd : ∀ a t : Fin 16, d (ix2 a t) = ((w (80 + a.val) (80 + t.val) : ℝ) : EReal))
    (hx : ∀ (t : Fin 16) (j : Fin 144), x (ix3 0 t j) = ((elim 144 l w 80 (80 + t.val) j.val : ℝ) : EReal))
    (a : Fin 16) (j : Fin 144) :
    k0_pay24 v6 v7 d x (ix3 0 a j) = ((elim 144 l w 96 (80 + a.val) j.val : ℝ) : EReal) := by
  pointwise [k0_pay24, k0_pay23]
  simp only [hv6, hv7]
  exact row_core h 80 (by norm_num) a j (fun t => d (ix2 a t)) (fun t => x (ix3 0 t j)) (fun t => hd a t) (fun t => hx t j)

/-- The rows after panel 5 once it is done. -/
theorem rest_5 (v6 v7 : IVec S16x144 32) (hv6 : ∀ (t : Fin 16) (j : Fin 144), v6 (ix2 t j) = BitVec.ofNat 32 j.val)
    (hv7 : ∀ (t : Fin 16) (j : Fin 144), v7 (ix2 t j) = BitVec.ofNat 32 t.val) (d : Vec Ideal S16x16 .f32)
    (x : Vec Ideal S1x16x144 .f32) (y : Vec Ideal S1x48x144 .f32) (l w : ℕ → ℕ → ℝ) (h : Inverse 144 l w)
    (hd : ∀ a t : Fin 16, d (ix2 a t) = ((w (80 + a.val) (80 + t.val) : ℝ) : EReal))
    (hx : ∀ (t : Fin 16) (j : Fin 144), x (ix3 0 t j) = ((elim 144 l w 80 (80 + t.val) j.val : ℝ) : EReal))
    (hy : ∀ (r : Fin 48) (j : Fin 144), y (ix3 0 r j) = ((elim 144 l w 80 (96 + r.val) j.val : ℝ) : EReal))
    (r : Fin 48) (j : Fin 144) :
    k0_pay1462 (k0_pay23 v6 v7 d x) (k0_pay25 v6 v7 d x) (k0_pay26 y) (ix3 0 r j)
      = ((elim 144 l w 96 (96 + r.val) j.val : ℝ) : EReal) := by
  have hrow : ∀ (a : Fin 16) (j : Fin 144),
      k0_pay23 v6 v7 d x (ix2 a j) = ((elim 144 l w 96 (80 + a.val) j.val : ℝ) : EReal) := by
    intro a j
    pointwise [k0_pay23]
    simp only [hv6, hv7]
    exact row_core h 80 (by norm_num) a j (fun t => d (ix2 a t)) (fun t => x (ix3 0 t j)) (fun t => hd a t) (fun t => hx t j)
  have hlow : ∀ (r : Fin 48) (t : Fin 16),
      k0_pay25 v6 v7 d x (ix2 r t) = ((elim 144 l w 96 (80 + t.val) (96 + r.val) : ℝ) : EReal) := by
    intro r t
    have := hrow t ⟨96 + r.val, by omega⟩
    rw [← this]
    pointwise [k0_pay25]
  pointwise [k0_pay1462, k0_pay26]
  exact rest_core h 80 (by norm_num) (96 + r.val) (by omega) (by omega) j (y (ix3 0 r j))
    (fun t => k0_pay25 v6 v7 d x (ix2 r t)) (fun t => k0_pay23 v6 v7 d x (ix2 t j)) (hy r j) (fun t => hlow r t)
    (fun t => hrow t j)

/-- Panel 5's update of all batches. -/
theorem update_5 (c : Dev nD) (arg0 : Memref sig .tc .vmem S16x144x144 .f32) (harg0 : arg0.IsWhole) (arg1 : Memref sig .tc .vmem S16x144x144 .f32)
    (harg1 : arg1.IsWhole) (arg2 : Memref sig .tc .vmem S256x128 .f32) (harg2 : arg2.IsWhole)
     (v6 : IVec S16x144 32) (v7 : IVec S16x144 32) (v8515 : FVec Ideal S16x16 .f32) (v8516 : FVec Ideal S16x112 .f32) (hv6 : ∀ (t : Fin 16) (j : Fin 144), v6 (ix2 t j) = BitVec.ofNat 32 j.val)
    (hv7 : ∀ (t : Fin 16) (j : Fin 144), v7 (ix2 t j) = BitVec.ofNat 32 t.val)
    (X : arg2.view.ty.Contents (Elt Ideal)) (g : arg1.view.ty.Contents (Elt Ideal)) (l w : Fin 16 → ℕ → ℕ → ℝ)
    (h : ∀ b, Inverse 144 (l b) (w b))
    (hX : ∀ b i a : Fin 16, arg2.view.read (Elt Ideal) X (ix2 ⟨16 * b.val + i.val, by omega⟩ ⟨a.val, by omega⟩)
      = ((w b (80 + i.val) (80 + a.val) : ℝ) : EReal))
    (hg : ∀ (b : Fin 16) (i j : Fin 144), 80 ≤ i.val →
      arg1.view.read (Elt Ideal) g (ix3 b i j) = ((elim 144 (l b) (w b) 80 i.val j.val : ℝ) : EReal))
    (b : Fin 16) (i j : Fin 144) :
    arg1.view.read (Elt Ideal) (arg1.view.writes (Elt Ideal) g
        (pb_k0_t12 Variants.none c none arg0 harg0 arg1 harg1 arg2 harg2 v6 v7 v8515 v8516 X g (Scf.trips k0_t12_loop.lb k0_t12_loop.ub k0_t12_loop.st))) (ix3 b i j)
      = if 80 ≤ i.val then ((elim 144 (l b) (w b) 96 i.val j.val : ℝ) : EReal)
        else arg1.view.read (Elt Ideal) g (ix3 b i j) := by
  have ht : k0_t12_loop.trips = 16 := by decide +kernel
  refine loop_update arg1.view g 80 (pb_k0_t12 Variants.none c none arg0 harg0 arg1 harg1 arg2 harg2 v6 v7 v8515 v8516 X g)
    (fun b i j => ((elim 144 (l b) (w b) 80 i j : ℝ) : EReal)) (fun b i j => ((elim 144 (l b) (w b) 96 i j : ℝ) : EReal)) rfl
    (fun k => tripL_k0_t12 Variants.none c none arg0 harg0 arg1 harg1 arg2 harg2 v6 v7 v8515 v8516 X (Fin.cast ht.symm k))
    (fun k => pb_k0_t12_succ Variants.none c none arg0 harg0 arg1 harg1 arg2 harg2 v6 v7 v8515 v8516 X g (Fin.cast ht.symm k)) ?_ hg b i j
  intro k f hf b i j
  have hd : ∀ a t : Fin 16, arg2.view.readAt (Elt Ideal) (Rect.unit (s := S256x128) (k0_off28 (Fin.cast ht.symm k)) S16x16.size
      (k0_off28_inb (Fin.cast ht.symm k))).toLoadRect X (ix2 a t) = ((w k (80 + a.val) (80 + t.val) : ℝ) : EReal) := by
    intro a t
    rw [View.readAt_apply, ← hX k a t]
    congr 1
    refine LoadRect.unit_idx_eq _ (k0_off28_eq (Fin.cast ht.symm k)) _ _ ?_
    intro c; fin_cases c
    · show 16 * k.val + a.val = 16 * k.val + a.val; rfl
    · show t.val = 0 + t.val; omega
  have hx : ∀ (a : Fin 16) (j : Fin 144), arg1.view.readAt (Elt Ideal) (Rect.unit (s := S16x144x144) (k0_off29 (Fin.cast ht.symm k))
      S1x16x144.size (k0_off29_inb (Fin.cast ht.symm k))).toLoadRect f (ix3 0 a j)
        = ((elim 144 (l k) (w k) 80 (80 + a.val) j.val : ℝ) : EReal) := by
    intro a j
    rw [View.readAt_apply, ← hf ⟨80 + a.val, by omega⟩ j (by show 80 ≤ 80 + a.val; omega)]
    congr 1
    refine LoadRect.unit_idx_eq _ (k0_off29_eq (Fin.cast ht.symm k)) _ _ ?_
    intro c; fin_cases c
    · show k.val = k.val + 0; omega
    · show 80 + a.val = 80 + a.val; rfl
    · show j.val = 0 + j.val; omega
  have hy : ∀ (r : Fin 48) (j : Fin 144), arg1.view.readAt (Elt Ideal) (Rect.unit (s := S16x144x144) (k0_off30 (Fin.cast ht.symm k))
      S1x48x144.size (k0_off30_inb (Fin.cast ht.symm k))).toLoadRect f (ix3 0 r j)
        = ((elim 144 (l k) (w k) 80 (96 + r.val) j.val : ℝ) : EReal) := by
    intro r j
    rw [View.readAt_apply, ← hf ⟨96 + r.val, by omega⟩ j (by show 80 ≤ 96 + r.val; omega)]
    congr 1
    refine LoadRect.unit_idx_eq _ (k0_off30_eq (Fin.cast ht.symm k)) _ _ ?_
    intro c; fin_cases c
    · show k.val = k.val + 0; omega
    · show 96 + r.val = 96 + r.val; rfl
    · show j.val = 0 + j.val; omega
  unfold tripL_k0_t12 trip_k0_t12
  dsimp only
  sl_unfold_words
  exact update_read arg1.view f k.val 80 48 rfl (k0_off30_eq (Fin.cast ht.symm k)) (k0_off29_eq (Fin.cast ht.symm k)) _ _ _ _
    (fun i j => ((elim 144 (l k) (w k) 96 i j : ℝ) : EReal))
    (rest_5 v6 v7 hv6 hv7 _ _ _ (l k) (w k) (h k) hd hx hy) (row_5 v6 v7 hv6 hv7 _ _ (l k) (w k) (h k) hd hx) b i j

/-- Panel 6: the blocks on the diagonal are loaded as they stand in the result's buffer. -/
theorem load_6 (c : Dev nD) (arg0 : Memref sig .tc .vmem S16x144x144 .f32) (harg0 : arg0.IsWhole) (arg1 : Memref sig .tc .vmem S16x144x144 .f32)
    (harg1 : arg1.IsWhole) (arg2 : Memref sig .tc .vmem S256x128 .f32) (harg2 : arg2.IsWhole)
     (v6 : IVec S16x144 32) (v7 : IVec S16x144 32) (v8515 : FVec Ideal S16x16 .f32) (v8516 : FVec Ideal S16x112 .f32) (X : arg1.view.ty.Contents (Elt Ideal)) (g : arg2.view.ty.Contents (Elt Ideal)) (b i a : Fin 16) :
    arg2.view.read (Elt Ideal) (arg2.view.writes (Elt Ideal) g
        (pb_k0_t13 Variants.none c none arg0 harg0 arg1 harg1 arg2 harg2 v6 v7 v8515 v8516 X (Scf.trips k0_t13_loop.lb k0_t13_loop.ub k0_t13_loop.st)))
        (ix2 ⟨16 * b.val + i.val, by omega⟩ ⟨a.val, by omega⟩)
      = arg1.view.read (Elt Ideal) X (ix3 b ⟨96 + i.val, by omega⟩ ⟨96 + a.val, by omega⟩) := by
  have ht : k0_t13_loop.trips = 16 := by decide +kernel
  refine loop_load arg2.view g (pb_k0_t13 Variants.none c none arg0 harg0 arg1 harg1 arg2 harg2 v6 v7 v8515 v8516 X)
    (fun b i a => arg1.view.read (Elt Ideal) X (ix3 b ⟨96 + i.val, by omega⟩ ⟨96 + a.val, by omega⟩)) rfl
    (fun k => tripL_k0_t13 Variants.none c none arg0 harg0 arg1 harg1 arg2 harg2 v6 v7 v8515 v8516 X (Fin.cast ht.symm k))
    (fun k => pb_k0_t13_succ Variants.none c none arg0 harg0 arg1 harg1 arg2 harg2 v6 v7 v8515 v8516 X (Fin.cast ht.symm k)) ?_ b i a
  intro k f b i a
  unfold tripL_k0_t13 trip_k0_t13
  dsimp only
  sl_unfold_words
  refine (load_read arg2.view f k.val (k0_off32_eq (Fin.cast ht.symm k)) _ _ b i a).trans ?_
  by_cases hb : b.val = k.val
  · rw [if_pos hb, if_pos hb]
    pointwise [k0_pay1463]
    rw [View.readAt_apply]
    congr 1
    refine LoadRect.unit_idx_eq _ (k0_off31_eq (Fin.cast ht.symm k)) _ _ ?_
    intro c; fin_cases c
    · show k.val = k.val + 0; omega
    · show 96 + i.val = 96 + i.val; omega
    · show 96 + a.val = 96 + a.val; omega
  · rw [if_neg hb, if_neg hb]

/-- Panel 6's own rows after it. -/
theorem row_6 (v6 v7 : IVec S16x144 32) (hv6 : ∀ (t : Fin 16) (j : Fin 144), v6 (ix2 t j) = BitVec.ofNat 32 j.val)
    (hv7 : ∀ (t : Fin 16) (j : Fin 144), v7 (ix2 t j) = BitVec.ofNat 32 t.val) (d : Vec Ideal S16x16 .f32)
    (x : Vec Ideal S1x16x144 .f32) (l w : ℕ → ℕ → ℝ) (h : Inverse 144 l w)
    (hd : ∀ a t : Fin 16, d (ix2 a t) = ((w (96 + a.val) (96 + t.val) : ℝ) : EReal))
    (hx : ∀ (t : Fin 16) (j : Fin 144), x (ix3 0 t j) = ((elim 144 l w 96 (96 + t.val) j.val : ℝ) : EReal))
    (a : Fin 16) (j : Fin 144) :
    k0_pay28 v6 v7 d x (ix3 0 a j) = ((elim 144 l w 112 (96 + a.val) j.val : ℝ) : EReal) := by
  pointwise [k0_pay28, k0_pay27]
  simp only [hv6, hv7]
  exact row_core h 96 (by norm_num) a j (fun t => d (ix2 a t)) (fun t => x (ix3 0 t j)) (fun t => hd a t) (fun t => hx t j)

/-- The rows after panel 6 once it is done. -/
theorem rest_6 (v6 v7 : IVec S16x144 32) (hv6 : ∀ (t : Fin 16) (j : Fin 144), v6 (ix2 t j) = BitVec.ofNat 32 j.val)
    (hv7 : ∀ (t : Fin 16) (j : Fin 144), v7 (ix2 t j) = BitVec.ofNat 32 t.val) (d : Vec Ideal S16x16 .f32)
    (x : Vec Ideal S1x16x144 .f32) (y : Vec Ideal S1x32x144 .f32) (l w : ℕ → ℕ → ℝ) (h : Inverse 144 l w)
    (hd : ∀ a t : Fin 16, d (ix2 a t) = ((w (96 + a.val) (96 + t.val) : ℝ) : EReal))
    (hx : ∀ (t : Fin 16) (j : Fin 144), x (ix3 0 t j) = ((elim 144 l w 96 (96 + t.val) j.val : ℝ) : EReal))
    (hy : ∀ (r : Fin 32) (j : Fin 144), y (ix3 0 r j) = ((elim 144 l w 96 (112 + r.val) j.val : ℝ) : EReal))
    (r : Fin 32) (j : Fin 144) :
    k0_pay1702 (k0_pay27 v6 v7 d x) (k0_pay29 v6 v7 d x) (k0_pay30 y) (ix3 0 r j)
      = ((elim 144 l w 112 (112 + r.val) j.val : ℝ) : EReal) := by
  have hrow : ∀ (a : Fin 16) (j : Fin 144),
      k0_pay27 v6 v7 d x (ix2 a j) = ((elim 144 l w 112 (96 + a.val) j.val : ℝ) : EReal) := by
    intro a j
    pointwise [k0_pay27]
    simp only [hv6, hv7]
    exact row_core h 96 (by norm_num) a j (fun t => d (ix2 a t)) (fun t => x (ix3 0 t j)) (fun t => hd a t) (fun t => hx t j)
  have hlow : ∀ (r : Fin 32) (t : Fin 16),
      k0_pay29 v6 v7 d x (ix2 r t) = ((elim 144 l w 112 (96 + t.val) (112 + r.val) : ℝ) : EReal) := by
    intro r t
    have := hrow t ⟨112 + r.val, by omega⟩
    rw [← this]
    pointwise [k0_pay29]
  pointwise [k0_pay1702, k0_pay30]
  exact rest_core h 96 (by norm_num) (112 + r.val) (by omega) (by omega) j (y (ix3 0 r j))
    (fun t => k0_pay29 v6 v7 d x (ix2 r t)) (fun t => k0_pay27 v6 v7 d x (ix2 t j)) (hy r j) (fun t => hlow r t)
    (fun t => hrow t j)

/-- Panel 6's update of all batches. -/
theorem update_6 (c : Dev nD) (arg0 : Memref sig .tc .vmem S16x144x144 .f32) (harg0 : arg0.IsWhole) (arg1 : Memref sig .tc .vmem S16x144x144 .f32)
    (harg1 : arg1.IsWhole) (arg2 : Memref sig .tc .vmem S256x128 .f32) (harg2 : arg2.IsWhole)
     (v6 : IVec S16x144 32) (v7 : IVec S16x144 32) (v9835 : FVec Ideal S16x16 .f32) (v9839 : FVec Ideal S16x16 .f32) (v9843 : FVec Ideal S16x16 .f32) (v9918 : FVec Ideal S16x128 .f32) (hv6 : ∀ (t : Fin 16) (j : Fin 144), v6 (ix2 t j) = BitVec.ofNat 32 j.val)
    (hv7 : ∀ (t : Fin 16) (j : Fin 144), v7 (ix2 t j) = BitVec.ofNat 32 t.val)
    (X : arg2.view.ty.Contents (Elt Ideal)) (g : arg1.view.ty.Contents (Elt Ideal)) (l w : Fin 16 → ℕ → ℕ → ℝ)
    (h : ∀ b, Inverse 144 (l b) (w b))
    (hX : ∀ b i a : Fin 16, arg2.view.read (Elt Ideal) X (ix2 ⟨16 * b.val + i.val, by omega⟩ ⟨a.val, by omega⟩)
      = ((w b (96 + i.val) (96 + a.val) : ℝ) : EReal))
    (hg : ∀ (b : Fin 16) (i j : Fin 144), 96 ≤ i.val →
      arg1.view.read (Elt Ideal) g (ix3 b i j) = ((elim 144 (l b) (w b) 96 i.val j.val : ℝ) : EReal))
    (b : Fin 16) (i j : Fin 144) :
    arg1.view.read (Elt Ideal) (arg1.view.writes (Elt Ideal) g
        (pb_k0_t14 Variants.none c none arg0 harg0 arg1 harg1 arg2 harg2 v6 v7 v9835 v9839 v9843 v9918 X g (Scf.trips k0_t14_loop.lb k0_t14_loop.ub k0_t14_loop.st))) (ix3 b i j)
      = if 96 ≤ i.val then ((elim 144 (l b) (w b) 112 i.val j.val : ℝ) : EReal)
        else arg1.view.read (Elt Ideal) g (ix3 b i j) := by
  have ht : k0_t14_loop.trips = 16 := by decide +kernel
  refine loop_update arg1.view g 96 (pb_k0_t14 Variants.none c none arg0 harg0 arg1 harg1 arg2 harg2 v6 v7 v9835 v9839 v9843 v9918 X g)
    (fun b i j => ((elim 144 (l b) (w b) 96 i j : ℝ) : EReal)) (fun b i j => ((elim 144 (l b) (w b) 112 i j : ℝ) : EReal)) rfl
    (fun k => tripL_k0_t14 Variants.none c none arg0 harg0 arg1 harg1 arg2 harg2 v6 v7 v9835 v9839 v9843 v9918 X (Fin.cast ht.symm k))
    (fun k => pb_k0_t14_succ Variants.none c none arg0 harg0 arg1 harg1 arg2 harg2 v6 v7 v9835 v9839 v9843 v9918 X g (Fin.cast ht.symm k)) ?_ hg b i j
  intro k f hf b i j
  have hd : ∀ a t : Fin 16, arg2.view.readAt (Elt Ideal) (Rect.unit (s := S256x128) (k0_off33 (Fin.cast ht.symm k)) S16x16.size
      (k0_off33_inb (Fin.cast ht.symm k))).toLoadRect X (ix2 a t) = ((w k (96 + a.val) (96 + t.val) : ℝ) : EReal) := by
    intro a t
    rw [View.readAt_apply, ← hX k a t]
    congr 1
    refine LoadRect.unit_idx_eq _ (k0_off33_eq (Fin.cast ht.symm k)) _ _ ?_
    intro c; fin_cases c
    · show 16 * k.val + a.val = 16 * k.val + a.val; rfl
    · show t.val = 0 + t.val; omega
  have hx : ∀ (a : Fin 16) (j : Fin 144), arg1.view.readAt (Elt Ideal) (Rect.unit (s := S16x144x144) (k0_off34 (Fin.cast ht.symm k))
      S1x16x144.size (k0_off34_inb (Fin.cast ht.symm k))).toLoadRect f (ix3 0 a j)
        = ((elim 144 (l k) (w k) 96 (96 + a.val) j.val : ℝ) : EReal) := by
    intro a j
    rw [View.readAt_apply, ← hf ⟨96 + a.val, by omega⟩ j (by show 96 ≤ 96 + a.val; omega)]
    congr 1
    refine LoadRect.unit_idx_eq _ (k0_off34_eq (Fin.cast ht.symm k)) _ _ ?_
    intro c; fin_cases c
    · show k.val = k.val + 0; omega
    · show 96 + a.val = 96 + a.val; rfl
    · show j.val = 0 + j.val; omega
  have hy : ∀ (r : Fin 32) (j : Fin 144), arg1.view.readAt (Elt Ideal) (Rect.unit (s := S16x144x144) (k0_off35 (Fin.cast ht.symm k))
      S1x32x144.size (k0_off35_inb (Fin.cast ht.symm k))).toLoadRect f (ix3 0 r j)
        = ((elim 144 (l k) (w k) 96 (112 + r.val) j.val : ℝ) : EReal) := by
    intro r j
    rw [View.readAt_apply, ← hf ⟨112 + r.val, by omega⟩ j (by show 96 ≤ 112 + r.val; omega)]
    congr 1
    refine LoadRect.unit_idx_eq _ (k0_off35_eq (Fin.cast ht.symm k)) _ _ ?_
    intro c; fin_cases c
    · show k.val = k.val + 0; omega
    · show 112 + r.val = 112 + r.val; rfl
    · show j.val = 0 + j.val; omega
  unfold tripL_k0_t14 trip_k0_t14
  dsimp only
  sl_unfold_words
  exact update_read arg1.view f k.val 96 32 rfl (k0_off35_eq (Fin.cast ht.symm k)) (k0_off34_eq (Fin.cast ht.symm k)) _ _ _ _
    (fun i j => ((elim 144 (l k) (w k) 112 i j : ℝ) : EReal))
    (rest_6 v6 v7 hv6 hv7 _ _ _ (l k) (w k) (h k) hd hx hy) (row_6 v6 v7 hv6 hv7 _ _ (l k) (w k) (h k) hd hx) b i j

/-- Panel 7: the blocks on the diagonal are loaded as they stand in the result's buffer. -/
theorem load_7 (c : Dev nD) (arg0 : Memref sig .tc .vmem S16x144x144 .f32) (harg0 : arg0.IsWhole) (arg1 : Memref sig .tc .vmem S16x144x144 .f32)
    (harg1 : arg1.IsWhole) (arg2 : Memref sig .tc .vmem S256x128 .f32) (harg2 : arg2.IsWhole)
     (v6 : IVec S16x144 32) (v7 : IVec S16x144 32) (v9835 : FVec Ideal S16x16 .f32) (v9839 : FVec Ideal S16x16 .f32) (v9843 : FVec Ideal S16x16 .f32) (v9918 : FVec Ideal S16x128 .f32) (X : arg1.view.ty.Contents (Elt Ideal)) (g : arg2.view.ty.Contents (Elt Ideal)) (b i a : Fin 16) :
    arg2.view.read (Elt Ideal) (arg2.view.writes (Elt Ideal) g
        (pb_k0_t15 Variants.none c none arg0 harg0 arg1 harg1 arg2 harg2 v6 v7 v9835 v9839 v9843 v9918 X (Scf.trips k0_t15_loop.lb k0_t15_loop.ub k0_t15_loop.st)))
        (ix2 ⟨16 * b.val + i.val, by omega⟩ ⟨a.val, by omega⟩)
      = arg1.view.read (Elt Ideal) X (ix3 b ⟨112 + i.val, by omega⟩ ⟨112 + a.val, by omega⟩) := by
  have ht : k0_t15_loop.trips = 16 := by decide +kernel
  refine loop_load arg2.view g (pb_k0_t15 Variants.none c none arg0 harg0 arg1 harg1 arg2 harg2 v6 v7 v9835 v9839 v9843 v9918 X)
    (fun b i a => arg1.view.read (Elt Ideal) X (ix3 b ⟨112 + i.val, by omega⟩ ⟨112 + a.val, by omega⟩)) rfl
    (fun k => tripL_k0_t15 Variants.none c none arg0 harg0 arg1 harg1 arg2 harg2 v6 v7 v9835 v9839 v9843 v9918 X (Fin.cast ht.symm k))
    (fun k => pb_k0_t15_succ Variants.none c none arg0 harg0 arg1 harg1 arg2 harg2 v6 v7 v9835 v9839 v9843 v9918 X (Fin.cast ht.symm k)) ?_ b i a
  intro k f b i a
  unfold tripL_k0_t15 trip_k0_t15
  dsimp only
  sl_unfold_words
  refine (load_read arg2.view f k.val (k0_off37_eq (Fin.cast ht.symm k)) _ _ b i a).trans ?_
  by_cases hb : b.val = k.val
  · rw [if_pos hb, if_pos hb]
    pointwise [k0_pay1703]
    rw [View.readAt_apply]
    congr 1
    refine LoadRect.unit_idx_eq _ (k0_off36_eq (Fin.cast ht.symm k)) _ _ ?_
    intro c; fin_cases c
    · show k.val = k.val + 0; omega
    · show 112 + i.val = 112 + i.val; omega
    · show 112 + a.val = 112 + a.val; omega
  · rw [if_neg hb, if_neg hb]

/-- Panel 7's own rows after it. -/
theorem row_7 (v6 v7 : IVec S16x144 32) (hv6 : ∀ (t : Fin 16) (j : Fin 144), v6 (ix2 t j) = BitVec.ofNat 32 j.val)
    (hv7 : ∀ (t : Fin 16) (j : Fin 144), v7 (ix2 t j) = BitVec.ofNat 32 t.val) (d : Vec Ideal S16x16 .f32)
    (x : Vec Ideal S1x16x144 .f32) (l w : ℕ → ℕ → ℝ) (h : Inverse 144 l w)
    (hd : ∀ a t : Fin 16, d (ix2 a t) = ((w (112 + a.val) (112 + t.val) : ℝ) : EReal))
    (hx : ∀ (t : Fin 16) (j : Fin 144), x (ix3 0 t j) = ((elim 144 l w 112 (112 + t.val) j.val : ℝ) : EReal))
    (a : Fin 16) (j : Fin 144) :
    k0_pay32 v6 v7 d x (ix3 0 a j) = ((elim 144 l w 128 (112 + a.val) j.val : ℝ) : EReal) := by
  pointwise [k0_pay32, k0_pay31]
  simp only [hv6, hv7]
  exact row_core h 112 (by norm_num) a j (fun t => d (ix2 a t)) (fun t => x (ix3 0 t j)) (fun t => hd a t) (fun t => hx t j)

/-- The rows after panel 7 once it is done. -/
theorem rest_7 (v6 v7 : IVec S16x144 32) (hv6 : ∀ (t : Fin 16) (j : Fin 144), v6 (ix2 t j) = BitVec.ofNat 32 j.val)
    (hv7 : ∀ (t : Fin 16) (j : Fin 144), v7 (ix2 t j) = BitVec.ofNat 32 t.val) (d : Vec Ideal S16x16 .f32)
    (x : Vec Ideal S1x16x144 .f32) (y : Vec Ideal S1x16x144 .f32) (l w : ℕ → ℕ → ℝ) (h : Inverse 144 l w)
    (hd : ∀ a t : Fin 16, d (ix2 a t) = ((w (112 + a.val) (112 + t.val) : ℝ) : EReal))
    (hx : ∀ (t : Fin 16) (j : Fin 144), x (ix3 0 t j) = ((elim 144 l w 112 (112 + t.val) j.val : ℝ) : EReal))
    (hy : ∀ (r : Fin 16) (j : Fin 144), y (ix3 0 r j) = ((elim 144 l w 112 (128 + r.val) j.val : ℝ) : EReal))
    (r : Fin 16) (j : Fin 144) :
    k0_pay1950 (k0_pay31 v6 v7 d x) (k0_pay33 v6 v7 d x) (k0_pay34 y) (ix3 0 r j)
      = ((elim 144 l w 128 (128 + r.val) j.val : ℝ) : EReal) := by
  have hrow : ∀ (a : Fin 16) (j : Fin 144),
      k0_pay31 v6 v7 d x (ix2 a j) = ((elim 144 l w 128 (112 + a.val) j.val : ℝ) : EReal) := by
    intro a j
    pointwise [k0_pay31]
    simp only [hv6, hv7]
    exact row_core h 112 (by norm_num) a j (fun t => d (ix2 a t)) (fun t => x (ix3 0 t j)) (fun t => hd a t) (fun t => hx t j)
  have hlow : ∀ (r : Fin 16) (t : Fin 16),
      k0_pay33 v6 v7 d x (ix2 r t) = ((elim 144 l w 128 (112 + t.val) (128 + r.val) : ℝ) : EReal) := by
    intro r t
    have := hrow t ⟨128 + r.val, by omega⟩
    rw [← this]
    pointwise [k0_pay33]
  pointwise [k0_pay1950, k0_pay34]
  exact rest_core h 112 (by norm_num) (128 + r.val) (by omega) (by omega) j (y (ix3 0 r j))
    (fun t => k0_pay33 v6 v7 d x (ix2 r t)) (fun t => k0_pay31 v6 v7 d x (ix2 t j)) (hy r j) (fun t => hlow r t)
    (fun t => hrow t j)

/-- Panel 7's update of all batches. -/
theorem update_7 (c : Dev nD) (arg0 : Memref sig .tc .vmem S16x144x144 .f32) (harg0 : arg0.IsWhole) (arg1 : Memref sig .tc .vmem S16x144x144 .f32)
    (harg1 : arg1.IsWhole) (arg2 : Memref sig .tc .vmem S256x128 .f32) (harg2 : arg2.IsWhole)
     (v6 : IVec S16x144 32) (v7 : IVec S16x144 32) (v11355 : FVec Ideal S16x128 .f32) (hv6 : ∀ (t : Fin 16) (j : Fin 144), v6 (ix2 t j) = BitVec.ofNat 32 j.val)
    (hv7 : ∀ (t : Fin 16) (j : Fin 144), v7 (ix2 t j) = BitVec.ofNat 32 t.val)
    (X : arg2.view.ty.Contents (Elt Ideal)) (g : arg1.view.ty.Contents (Elt Ideal)) (l w : Fin 16 → ℕ → ℕ → ℝ)
    (h : ∀ b, Inverse 144 (l b) (w b))
    (hX : ∀ b i a : Fin 16, arg2.view.read (Elt Ideal) X (ix2 ⟨16 * b.val + i.val, by omega⟩ ⟨a.val, by omega⟩)
      = ((w b (112 + i.val) (112 + a.val) : ℝ) : EReal))
    (hg : ∀ (b : Fin 16) (i j : Fin 144), 112 ≤ i.val →
      arg1.view.read (Elt Ideal) g (ix3 b i j) = ((elim 144 (l b) (w b) 112 i.val j.val : ℝ) : EReal))
    (b : Fin 16) (i j : Fin 144) :
    arg1.view.read (Elt Ideal) (arg1.view.writes (Elt Ideal) g
        (pb_k0_t16 Variants.none c none arg0 harg0 arg1 harg1 arg2 harg2 v6 v7 v11355 X g (Scf.trips k0_t16_loop.lb k0_t16_loop.ub k0_t16_loop.st))) (ix3 b i j)
      = if 112 ≤ i.val then ((elim 144 (l b) (w b) 128 i.val j.val : ℝ) : EReal)
        else arg1.view.read (Elt Ideal) g (ix3 b i j) := by
  have ht : k0_t16_loop.trips = 16 := by decide +kernel
  refine loop_update arg1.view g 112 (pb_k0_t16 Variants.none c none arg0 harg0 arg1 harg1 arg2 harg2 v6 v7 v11355 X g)
    (fun b i j => ((elim 144 (l b) (w b) 112 i j : ℝ) : EReal)) (fun b i j => ((elim 144 (l b) (w b) 128 i j : ℝ) : EReal)) rfl
    (fun k => tripL_k0_t16 Variants.none c none arg0 harg0 arg1 harg1 arg2 harg2 v6 v7 v11355 X (Fin.cast ht.symm k))
    (fun k => pb_k0_t16_succ Variants.none c none arg0 harg0 arg1 harg1 arg2 harg2 v6 v7 v11355 X g (Fin.cast ht.symm k)) ?_ hg b i j
  intro k f hf b i j
  have hd : ∀ a t : Fin 16, arg2.view.readAt (Elt Ideal) (Rect.unit (s := S256x128) (k0_off38 (Fin.cast ht.symm k)) S16x16.size
      (k0_off38_inb (Fin.cast ht.symm k))).toLoadRect X (ix2 a t) = ((w k (112 + a.val) (112 + t.val) : ℝ) : EReal) := by
    intro a t
    rw [View.readAt_apply, ← hX k a t]
    congr 1
    refine LoadRect.unit_idx_eq _ (k0_off38_eq (Fin.cast ht.symm k)) _ _ ?_
    intro c; fin_cases c
    · show 16 * k.val + a.val = 16 * k.val + a.val; rfl
    · show t.val = 0 + t.val; omega
  have hx : ∀ (a : Fin 16) (j : Fin 144), arg1.view.readAt (Elt Ideal) (Rect.unit (s := S16x144x144) (k0_off39 (Fin.cast ht.symm k))
      S1x16x144.size (k0_off39_inb (Fin.cast ht.symm k))).toLoadRect f (ix3 0 a j)
        = ((elim 144 (l k) (w k) 112 (112 + a.val) j.val : ℝ) : EReal) := by
    intro a j
    rw [View.readAt_apply, ← hf ⟨112 + a.val, by omega⟩ j (by show 112 ≤ 112 + a.val; omega)]
    congr 1
    refine LoadRect.unit_idx_eq _ (k0_off39_eq (Fin.cast ht.symm k)) _ _ ?_
    intro c; fin_cases c
    · show k.val = k.val + 0; omega
    · show 112 + a.val = 112 + a.val; rfl
    · show j.val = 0 + j.val; omega
  have hy : ∀ (r : Fin 16) (j : Fin 144), arg1.view.readAt (Elt Ideal) (Rect.unit (s := S16x144x144) (k0_off40 (Fin.cast ht.symm k))
      S1x16x144.size (k0_off40_inb (Fin.cast ht.symm k))).toLoadRect f (ix3 0 r j)
        = ((elim 144 (l k) (w k) 112 (128 + r.val) j.val : ℝ) : EReal) := by
    intro r j
    rw [View.readAt_apply, ← hf ⟨128 + r.val, by omega⟩ j (by show 112 ≤ 128 + r.val; omega)]
    congr 1
    refine LoadRect.unit_idx_eq _ (k0_off40_eq (Fin.cast ht.symm k)) _ _ ?_
    intro c; fin_cases c
    · show k.val = k.val + 0; omega
    · show 128 + r.val = 128 + r.val; rfl
    · show j.val = 0 + j.val; omega
  unfold tripL_k0_t16 trip_k0_t16
  dsimp only
  sl_unfold_words
  exact update_read arg1.view f k.val 112 16 rfl (k0_off40_eq (Fin.cast ht.symm k)) (k0_off39_eq (Fin.cast ht.symm k)) _ _ _ _
    (fun i j => ((elim 144 (l k) (w k) 128 i j : ℝ) : EReal))
    (rest_7 v6 v7 hv6 hv7 _ _ _ (l k) (w k) (h k) hd hx hy) (row_7 v6 v7 hv6 hv7 _ _ (l k) (w k) (h k) hd hx) b i j

/-- Panel 8: the blocks on the diagonal are loaded as they stand in the result's buffer. -/
theorem load_8 (c : Dev nD) (arg0 : Memref sig .tc .vmem S16x144x144 .f32) (harg0 : arg0.IsWhole) (arg1 : Memref sig .tc .vmem S16x144x144 .f32)
    (harg1 : arg1.IsWhole) (arg2 : Memref sig .tc .vmem S256x128 .f32) (harg2 : arg2.IsWhole)
     (v6 : IVec S16x144 32) (v7 : IVec S16x144 32) (v11355 : FVec Ideal S16x128 .f32) (X : arg1.view.ty.Contents (Elt Ideal)) (g : arg2.view.ty.Contents (Elt Ideal)) (b i a : Fin 16) :
    arg2.view.read (Elt Ideal) (arg2.view.writes (Elt Ideal) g
        (pb_k0_t17 Variants.none c none arg0 harg0 arg1 harg1 arg2 harg2 v6 v7 v11355 X (Scf.trips k0_t17_loop.lb k0_t17_loop.ub k0_t17_loop.st)))
        (ix2 ⟨16 * b.val + i.val, by omega⟩ ⟨a.val, by omega⟩)
      = arg1.view.read (Elt Ideal) X (ix3 b ⟨128 + i.val, by omega⟩ ⟨128 + a.val, by omega⟩) := by
  have ht : k0_t17_loop.trips = 16 := by decide +kernel
  refine loop_load arg2.view g (pb_k0_t17 Variants.none c none arg0 harg0 arg1 harg1 arg2 harg2 v6 v7 v11355 X)
    (fun b i a => arg1.view.read (Elt Ideal) X (ix3 b ⟨128 + i.val, by omega⟩ ⟨128 + a.val, by omega⟩)) rfl
    (fun k => tripL_k0_t17 Variants.none c none arg0 harg0 arg1 harg1 arg2 harg2 v6 v7 v11355 X (Fin.cast ht.symm k))
    (fun k => pb_k0_t17_succ Variants.none c none arg0 harg0 arg1 harg1 arg2 harg2 v6 v7 v11355 X (Fin.cast ht.symm k)) ?_ b i a
  intro k f b i a
  unfold tripL_k0_t17 trip_k0_t17
  dsimp only
  sl_unfold_words
  refine (load_read arg2.view f k.val (k0_off42_eq (Fin.cast ht.symm k)) _ _ b i a).trans ?_
  by_cases hb : b.val = k.val
  · rw [if_pos hb, if_pos hb]
    pointwise [k0_pay1951]
    rw [View.readAt_apply]
    congr 1
    refine LoadRect.unit_idx_eq _ (k0_off41_eq (Fin.cast ht.symm k)) _ _ ?_
    intro c; fin_cases c
    · show k.val = k.val + 0; omega
    · show 128 + i.val = 128 + i.val; omega
    · show 128 + a.val = 128 + a.val; omega
  · rw [if_neg hb, if_neg hb]

/-- Panel 8's own rows after it. -/
theorem row_8 (v6 v7 : IVec S16x144 32) (hv6 : ∀ (t : Fin 16) (j : Fin 144), v6 (ix2 t j) = BitVec.ofNat 32 j.val)
    (hv7 : ∀ (t : Fin 16) (j : Fin 144), v7 (ix2 t j) = BitVec.ofNat 32 t.val) (d : Vec Ideal S16x16 .f32)
    (x : Vec Ideal S1x16x144 .f32) (l w : ℕ → ℕ → ℝ) (h : Inverse 144 l w)
    (hd : ∀ a t : Fin 16, d (ix2 a t) = ((w (128 + a.val) (128 + t.val) : ℝ) : EReal))
    (hx : ∀ (t : Fin 16) (j : Fin 144), x (ix3 0 t j) = ((elim 144 l w 128 (128 + t.val) j.val : ℝ) : EReal))
    (a : Fin 16) (j : Fin 144) :
    k0_pay2 v6 v7 d x (ix3 0 a j) = ((elim 144 l w 144 (128 + a.val) j.val : ℝ) : EReal) := by
  pointwise [k0_pay2]
  simp only [hv6, hv7]
  exact row_core h 128 (by norm_num) a j (fun t => d (ix2 a t)) (fun t => x (ix3 0 t j)) (fun t => hd a t) (fun t => hx t j)

/-- Panel 8's update of all batches. -/
theorem update_8 (c : Dev nD) (arg0 : Memref sig .tc .vmem S16x144x144 .f32) (harg0 : arg0.IsWhole) (arg1 : Memref sig .tc .vmem S16x144x144 .f32)
    (harg1 : arg1.IsWhole) (arg2 : Memref sig .tc .vmem S256x128 .f32) (harg2 : arg2.IsWhole)
     (v6 : IVec S16x144 32) (v7 : IVec S16x144 32) (hv6 : ∀ (t : Fin 16) (j : Fin 144), v6 (ix2 t j) = BitVec.ofNat 32 j.val)
    (hv7 : ∀ (t : Fin 16) (j : Fin 144), v7 (ix2 t j) = BitVec.ofNat 32 t.val)
    (X : arg2.view.ty.Contents (Elt Ideal)) (g : arg1.view.ty.Contents (Elt Ideal)) (l w : Fin 16 → ℕ → ℕ → ℝ)
    (h : ∀ b, Inverse 144 (l b) (w b))
    (hX : ∀ b i a : Fin 16, arg2.view.read (Elt Ideal) X (ix2 ⟨16 * b.val + i.val, by omega⟩ ⟨a.val, by omega⟩)
      = ((w b (128 + i.val) (128 + a.val) : ℝ) : EReal))
    (hg : ∀ (b : Fin 16) (i j : Fin 144), 128 ≤ i.val →
      arg1.view.read (Elt Ideal) g (ix3 b i j) = ((elim 144 (l b) (w b) 128 i.val j.val : ℝ) : EReal))
    (b : Fin 16) (i j : Fin 144) :
    arg1.view.read (Elt Ideal) (arg1.view.writes (Elt Ideal) g
        (pb_k0_t18 Variants.none c none arg0 harg0 arg1 harg1 arg2 harg2 v6 v7 X g (Scf.trips k0_t18_loop.lb k0_t18_loop.ub k0_t18_loop.st))) (ix3 b i j)
      = if 128 ≤ i.val then ((elim 144 (l b) (w b) 144 i.val j.val : ℝ) : EReal)
        else arg1.view.read (Elt Ideal) g (ix3 b i j) := by
  have ht : k0_t18_loop.trips = 16 := by decide +kernel
  refine loop_update arg1.view g 128 (pb_k0_t18 Variants.none c none arg0 harg0 arg1 harg1 arg2 harg2 v6 v7 X g)
    (fun b i j => ((elim 144 (l b) (w b) 128 i j : ℝ) : EReal)) (fun b i j => ((elim 144 (l b) (w b) 144 i j : ℝ) : EReal)) rfl
    (fun k => tripL_k0_t18 Variants.none c none arg0 harg0 arg1 harg1 arg2 harg2 v6 v7 X (Fin.cast ht.symm k))
    (fun k => pb_k0_t18_succ Variants.none c none arg0 harg0 arg1 harg1 arg2 harg2 v6 v7 X g (Fin.cast ht.symm k)) ?_ hg b i j
  intro k f hf b i j
  have hd : ∀ a t : Fin 16, arg2.view.readAt (Elt Ideal) (Rect.unit (s := S256x128) (k0_off43 (Fin.cast ht.symm k)) S16x16.size
      (k0_off43_inb (Fin.cast ht.symm k))).toLoadRect X (ix2 a t) = ((w k (128 + a.val) (128 + t.val) : ℝ) : EReal) := by
    intro a t
    rw [View.readAt_apply, ← hX k a t]
    congr 1
    refine LoadRect.unit_idx_eq _ (k0_off43_eq (Fin.cast ht.symm k)) _ _ ?_
    intro c; fin_cases c
    · show 16 * k.val + a.val = 16 * k.val + a.val; rfl
    · show t.val = 0 + t.val; omega
  have hx : ∀ (a : Fin 16) (j : Fin 144), arg1.view.readAt (Elt Ideal) (Rect.unit (s := S16x144x144) (k0_off44 (Fin.cast ht.symm k))
      S1x16x144.size (k0_off44_inb (Fin.cast ht.symm k))).toLoadRect f (ix3 0 a j)
        = ((elim 144 (l k) (w k) 128 (128 + a.val) j.val : ℝ) : EReal) := by
    intro a j
    rw [View.readAt_apply, ← hf ⟨128 + a.val, by omega⟩ j (by show 128 ≤ 128 + a.val; omega)]
    congr 1
    refine LoadRect.unit_idx_eq _ (k0_off44_eq (Fin.cast ht.symm k)) _ _ ?_
    intro c; fin_cases c
    · show k.val = k.val + 0; omega
    · show 128 + a.val = 128 + a.val; rfl
    · show j.val = 0 + j.val; omega
  unfold tripL_k0_t18 trip_k0_t18
  dsimp only
  sl_unfold_words
  exact update_read_last arg1.view f k.val (k0_off44_eq (Fin.cast ht.symm k)) _ _
    (fun i j => ((elim 144 (l k) (w k) 144 i j : ℝ) : EReal))
    (row_8 v6 v7 hv6 hv7 _ _ (l k) (w k) (h k) hd hx) b i j

end Cert.RangeFinder.Factor

end
-- ==== Proof.FactorRun.lean ====
/- The pieces that the factor kernel's run leaves in its result's buffer, panel by panel: the diagonal blocks loaded, their
   rows eliminated and stored, the panel's rows and the rows after it updated. -/
module

public import proofs.«01_k».proof.Proof.Gen.FactorIdeal.Frame.RunA
public import proofs.«01_k».proof.Proof.FactorRows

@[expose] public section

set_option maxRecDepth 65536

noncomputable section

namespace Cert.RangeFinder.Factor

open Cert.FactorIdeal Cert.FactorIdeal.Gen Idealize.ShloMosaic Idealize.ShloMosaic.Tactic

variable {F : FTy → Type} [FloatOps F]

/-- The sixteen rows, sixteen apart, that start at row `i`: row `i` of every batch's block. -/
def strip (i : Fin 16) : LoadRect S256x128 :=
  { off := ![i.val, 0], size := S16x128.size, stride := ![16, 1], inb := by revert i; decide }

/-- Row `i` of every block as it is loaded: column first, batch second. -/
def rowIn (v : Vec F S16x128 .f32) : Row F := k0_pay37 v

/-- A row as it is stored: batch first, the lanes after the block zero. -/
def rowOut (v : Row F) : Vec F S16x128 .f32 := k0_pay273 v

/-- The store of row `i` of every block. -/
def rowStore (r : Fin 16 → Row F) (i : Fin 16) : View.Piece (Elt F) S256x128 .f32 :=
  ⟨{ toLoadRect := strip i, stride_pos := spos_16_1 }, rowOut (r i)⟩

/-- The stores of the rows, last first. -/
def rowStores (r : Fin 16 → Row F) : List (View.Piece (Elt F) S256x128 .f32) :=
  [rowStore r 15, rowStore r 14, rowStore r 13, rowStore r 12, rowStore r 11, rowStore r 10, rowStore r 9, rowStore r 8,
    rowStore r 7, rowStore r 6, rowStore r 5, rowStore r 4, rowStore r 3, rowStore r 2, rowStore r 1, rowStore r 0]

/-- The rows that are loaded once the pieces `L` are written. -/
def rowsOf (arg2 : Memref sig .tc .vmem S256x128 .f32) (L : List (View.Piece (Elt F) S256x128 .f32)) (i : Fin 16) : Row F :=
  rowIn (arg2.view.readCov L (strip i))

/-- The pieces of the diagonal blocks' buffer once their rows are eliminated. -/
def eliminated (arg2 : Memref sig .tc .vmem S256x128 .f32) (L : List (View.Piece (Elt F) S256x128 .f32)) :
    List (View.Piece (Elt F) S256x128 .f32) :=
  rowStores (diagRows (rowsOf arg2 L)) ++ L

/-- The result's pieces before the first panel: the whole argument. -/
def m0 (c : Dev nD) (arg0 : Memref sig .tc .vmem S16x144x144 .f32) (harg0 : arg0.IsWhole) (arg1 : Memref sig .tc .vmem S16x144x144 .f32)
    (harg1 : arg1.IsWhole) (arg2 : Memref sig .tc .vmem S256x128 .f32) (harg2 : arg2.IsWhole) (x0 : Vec F S16x144x144 .f32) :
    List (View.Piece (Elt F) S16x144x144 .f32) := kernelRun0_A.sl.H1_1 c arg0 harg0 x0

/-- The diagonal blocks' pieces once panel 0's blocks are loaded. -/
def d0 (c : Dev nD) (arg0 : Memref sig .tc .vmem S16x144x144 .f32) (harg0 : arg0.IsWhole) (arg1 : Memref sig .tc .vmem S16x144x144 .f32)
    (harg1 : arg1.IsWhole) (arg2 : Memref sig .tc .vmem S256x128 .f32) (harg2 : arg2.IsWhole) (x0 : Vec F S16x144x144 .f32) :
    List (View.Piece (Elt F) S256x128 .f32) :=
  pb_k0_t1 Variants.none c none arg0 harg0 arg1 harg1 arg2 harg2
      (arg1.view.writes (Elt F) arg1.view.junk (m0 c arg0 harg0 arg1 harg1 arg2 harg2 x0)) (Scf.trips k0_t1_loop.lb k0_t1_loop.ub k0_t1_loop.st)
    ++ kernelRun0_A.sl.HS0_1

/-- The result's pieces after panel 0. -/
def m1 (c : Dev nD) (arg0 : Memref sig .tc .vmem S16x144x144 .f32) (harg0 : arg0.IsWhole) (arg1 : Memref sig .tc .vmem S16x144x144 .f32)
    (harg1 : arg1.IsWhole) (arg2 : Memref sig .tc .vmem S256x128 .f32) (harg2 : arg2.IsWhole) (x0 : Vec F S16x144x144 .f32) :
    List (View.Piece (Elt F) S16x144x144 .f32) :=
  pb_k0_t2 Variants.none c none arg0 harg0 arg1 harg1 arg2 harg2 kernelRun0_A.sl.v6 kernelRun0_A.sl.v7 (kernelRun0_A.sl.r_205 c arg0 harg0 arg1 harg1 arg2 harg2 x0) (kernelRun0_A.sl.r_206 c arg0 harg0 arg1 harg1 arg2 harg2 x0) (kernelRun0_A.sl.r_207 c arg0 harg0 arg1 harg1 arg2 harg2 x0) (kernelRun0_A.sl.r_208 c arg0 harg0 arg1 harg1 arg2 harg2 x0) (kernelRun0_A.sl.r_210 c arg0 harg0 arg1 harg1 arg2 harg2 x0)
      (arg2.view.writes (Elt F) arg2.view.junk (eliminated arg2 (d0 c arg0 harg0 arg1 harg1 arg2 harg2 x0)))
      (arg1.view.writes (Elt F) arg1.view.junk (m0 c arg0 harg0 arg1 harg1 arg2 harg2 x0)) (Scf.trips k0_t2_loop.lb k0_t2_loop.ub k0_t2_loop.st)
    ++ m0 c arg0 harg0 arg1 harg1 arg2 harg2 x0

/-- The diagonal blocks' pieces once panel 1's blocks are loaded. -/
def d1 (c : Dev nD) (arg0 : Memref sig .tc .vmem S16x144x144 .f32) (harg0 : arg0.IsWhole) (arg1 : Memref sig .tc .vmem S16x144x144 .f32)
    (harg1 : arg1.IsWhole) (arg2 : Memref sig .tc .vmem S256x128 .f32) (harg2 : arg2.IsWhole) (x0 : Vec F S16x144x144 .f32) :
    List (View.Piece (Elt F) S256x128 .f32) :=
  pb_k0_t3 Variants.none c none arg0 harg0 arg1 harg1 arg2 harg2 kernelRun0_A.sl.v6 kernelRun0_A.sl.v7 (kernelRun0_A.sl.r_205 c arg0 harg0 arg1 harg1 arg2 harg2 x0) (kernelRun0_A.sl.r_206 c arg0 harg0 arg1 harg1 arg2 harg2 x0) (kernelRun0_A.sl.r_207 c arg0 harg0 arg1 harg1 arg2 harg2 x0) (kernelRun0_A.sl.r_208 c arg0 harg0 arg1 harg1 arg2 harg2 x0) (kernelRun0_A.sl.r_210 c arg0 harg0 arg1 harg1 arg2 harg2 x0)
      (arg1.view.writes (Elt F) arg1.view.junk (m1 c arg0 harg0 arg1 harg1 arg2 harg2 x0)) (Scf.trips k0_t3_loop.lb k0_t3_loop.ub k0_t3_loop.st)
    ++ eliminated arg2 (d0 c arg0 harg0 arg1 harg1 arg2 harg2 x0)

/-- The result's pieces after panel 1. -/
def m2 (c : Dev nD) (arg0 : Memref sig .tc .vmem S16x144x144 .f32) (harg0 : arg0.IsWhole) (arg1 : Memref sig .tc .vmem S16x144x144 .f32)
    (harg1 : arg1.IsWhole) (arg2 : Memref sig .tc .vmem S256x128 .f32) (harg2 : arg2.IsWhole) (x0 : Vec F S16x144x144 .f32) :
    List (View.Piece (Elt F) S16x144x144 .f32) :=
  pb_k0_t4 Variants.none c none arg0 harg0 arg1 harg1 arg2 harg2 kernelRun0_A.sl.v6 kernelRun0_A.sl.v7 (kernelRun0_A.sl.r_392 c arg0 harg0 arg1 harg1 arg2 harg2 x0) (kernelRun0_A.sl.r_395 c arg0 harg0 arg1 harg1 arg2 harg2 x0)
      (arg2.view.writes (Elt F) arg2.view.junk (eliminated arg2 (d1 c arg0 harg0 arg1 harg1 arg2 harg2 x0)))
      (arg1.view.writes (Elt F) arg1.view.junk (m1 c arg0 harg0 arg1 harg1 arg2 harg2 x0)) (Scf.trips k0_t4_loop.lb k0_t4_loop.ub k0_t4_loop.st)
    ++ m1 c arg0 harg0 arg1 harg1 arg2 harg2 x0

/-- The diagonal blocks' pieces once panel 2's blocks are loaded. -/
def d2 (c : Dev nD) (arg0 : Memref sig .tc .vmem S16x144x144 .f32) (harg0 : arg0.IsWhole) (arg1 : Memref sig .tc .vmem S16x144x144 .f32)
    (harg1 : arg1.IsWhole) (arg2 : Memref sig .tc .vmem S256x128 .f32) (harg2 : arg2.IsWhole) (x0 : Vec F S16x144x144 .f32) :
    List (View.Piece (Elt F) S256x128 .f32) :=
  pb_k0_t5 Variants.none c none arg0 harg0 arg1 harg1 arg2 harg2 kernelRun0_A.sl.v6 kernelRun0_A.sl.v7 (kernelRun0_A.sl.r_392 c arg0 harg0 arg1 harg1 arg2 harg2 x0) (kernelRun0_A.sl.r_395 c arg0 harg0 arg1 harg1 arg2 harg2 x0)
      (arg1.view.writes (Elt F) arg1.view.junk (m2 c arg0 harg0 arg1 harg1 arg2 harg2 x0)) (Scf.trips k0_t5_loop.lb k0_t5_loop.ub k0_t5_loop.st)
    ++ eliminated arg2 (d1 c arg0 harg0 arg1 harg1 arg2 harg2 x0)

/-- The result's pieces after panel 2. -/
def m3 (c : Dev nD) (arg0 : Memref sig .tc .vmem S16x144x144 .f32) (harg0 : arg0.IsWhole) (arg1 : Memref sig .tc .vmem S16x144x144 .f32)
    (harg1 : arg1.IsWhole) (arg2 : Memref sig .tc .vmem S256x128 .f32) (harg2 : arg2.IsWhole) (x0 : Vec F S16x144x144 .f32) :
    List (View.Piece (Elt F) S16x144x144 .f32) :=
  pb_k0_t6 Variants.none c none arg0 harg0 arg1 harg1 arg2 harg2 kernelRun0_A.sl.v6 kernelRun0_A.sl.v7 (kernelRun0_A.sl.r_596 c arg0 harg0 arg1 harg1 arg2 harg2 x0) (kernelRun0_A.sl.r_597 c arg0 harg0 arg1 harg1 arg2 harg2 x0) (kernelRun0_A.sl.r_598 c arg0 harg0 arg1 harg1 arg2 harg2 x0) (kernelRun0_A.sl.r_599 c arg0 harg0 arg1 harg1 arg2 harg2 x0)
      (arg2.view.writes (Elt F) arg2.view.junk (eliminated arg2 (d2 c arg0 harg0 arg1 harg1 arg2 harg2 x0)))
      (arg1.view.writes (Elt F) arg1.view.junk (m2 c arg0 harg0 arg1 harg1 arg2 harg2 x0)) (Scf.trips k0_t6_loop.lb k0_t6_loop.ub k0_t6_loop.st)
    ++ m2 c arg0 harg0 arg1 harg1 arg2 harg2 x0

/-- The diagonal blocks' pieces once panel 3's blocks are loaded. -/
def d3 (c : Dev nD) (arg0 : Memref sig .tc .vmem S16x144x144 .f32) (harg0 : arg0.IsWhole) (arg1 : Memref sig .tc .vmem S16x144x144 .f32)
    (harg1 : arg1.IsWhole) (arg2 : Memref sig .tc .vmem S256x128 .f32) (harg2 : arg2.IsWhole) (x0 : Vec F S16x144x144 .f32) :
    List (View.Piece (Elt F) S256x128 .f32) :=
  pb_k0_t7 Variants.none c none arg0 harg0 arg1 harg1 arg2 harg2 kernelRun0_A.sl.v6 kernelRun0_A.sl.v7 (kernelRun0_A.sl.r_596 c arg0 harg0 arg1 harg1 arg2 harg2 x0) (kernelRun0_A.sl.r_597 c arg0 harg0 arg1 harg1 arg2 harg2 x0) (kernelRun0_A.sl.r_598 c arg0 harg0 arg1 harg1 arg2 harg2 x0) (kernelRun0_A.sl.r_599 c arg0 harg0 arg1 harg1 arg2 harg2 x0)
      (arg1.view.writes (Elt F) arg1.view.junk (m3 c arg0 harg0 arg1 harg1 arg2 harg2 x0)) (Scf.trips k0_t7_loop.lb k0_t7_loop.ub k0_t7_loop.st)
    ++ eliminated arg2 (d2 c arg0 harg0 arg1 harg1 arg2 harg2 x0)

/-- The result's pieces after panel 3. -/
def m4 (c : Dev nD) (arg0 : Memref sig .tc .vmem S16x144x144 .f32) (harg0 : arg0.IsWhole) (arg1 : Memref sig .tc .vmem S16x144x144 .f32)
    (harg1 : arg1.IsWhole) (arg2 : Memref sig .tc .vmem S256x128 .f32) (harg2 : arg2.IsWhole) (x0 : Vec F S16x144x144 .f32) :
    List (View.Piece (Elt F) S16x144x144 .f32) :=
  pb_k0_t8 Variants.none c none arg0 harg0 arg1 harg1 arg2 harg2 kernelRun0_A.sl.v6 kernelRun0_A.sl.v7 (kernelRun0_A.sl.r_794 c arg0 harg0 arg1 harg1 arg2 harg2 x0)
      (arg2.view.writes (Elt F) arg2.view.junk (eliminated arg2 (d3 c arg0 harg0 arg1 harg1 arg2 harg2 x0)))
      (arg1.view.writes (Elt F) arg1.view.junk (m3 c arg0 harg0 arg1 harg1 arg2 harg2 x0)) (Scf.trips k0_t8_loop.lb k0_t8_loop.ub k0_t8_loop.st)
    ++ m3 c arg0 harg0 arg1 harg1 arg2 harg2 x0

/-- The diagonal blocks' pieces once panel 4's blocks are loaded. -/
def d4 (c : Dev nD) (arg0 : Memref sig .tc .vmem S16x144x144 .f32) (harg0 : arg0.IsWhole) (arg1 : Memref sig .tc .vmem S16x144x144 .f32)
    (harg1 : arg1.IsWhole) (arg2 : Memref sig .tc .vmem S256x128 .f32) (harg2 : arg2.IsWhole) (x0 : Vec F S16x144x144 .f32) :
    List (View.Piece (Elt F) S256x128 .f32) :=
  pb_k0_t9 Variants.none c none arg0 harg0 arg1 harg1 arg2 harg2 kernelRun0_A.sl.v6 kernelRun0_A.sl.v7 (kernelRun0_A.sl.r_794 c arg0 harg0 arg1 harg1 arg2 harg2 x0)
      (arg1.view.writes (Elt F) arg1.view.junk (m4 c arg0 harg0 arg1 harg1 arg2 harg2 x0)) (Scf.trips k0_t9_loop.lb k0_t9_loop.ub k0_t9_loop.st)
    ++ eliminated arg2 (d3 c arg0 harg0 arg1 harg1 arg2 harg2 x0)

/-- The result's pieces after panel 4. -/
def m5 (c : Dev nD) (arg0 : Memref sig .tc .vmem S16x144x144 .f32) (harg0 : arg0.IsWhole) (arg1 : Memref sig .tc .vmem S16x144x144 .f32)
    (harg1 : arg1.IsWhole) (arg2 : Memref sig .tc .vmem S256x128 .f32) (harg2 : arg2.IsWhole) (x0 : Vec F S16x144x144 .f32) :
    List (View.Piece (Elt F) S16x144x144 .f32) :=
  pb_k0_t10 Variants.none c none arg0 harg0 arg1 harg1 arg2 harg2 kernelRun0_A.sl.v6 kernelRun0_A.sl.v7 (kernelRun0_A.sl.r_994 c arg0 harg0 arg1 harg1 arg2 harg2 x0) (kernelRun0_A.sl.r_995 c arg0 harg0 arg1 harg1 arg2 harg2 x0) (kernelRun0_A.sl.r_996 c arg0 harg0 arg1 harg1 arg2 harg2 x0) (kernelRun0_A.sl.r_999 c arg0 harg0 arg1 harg1 arg2 harg2 x0) kernelRun0_A.sl.cst_1692
      (arg2.view.writes (Elt F) arg2.view.junk (eliminated arg2 (d4 c arg0 harg0 arg1 harg1 arg2 harg2 x0)))
      (arg1.view.writes (Elt F) arg1.view.junk (m4 c arg0 harg0 arg1 harg1 arg2 harg2 x0)) (Scf.trips k0_t10_loop.lb k0_t10_loop.ub k0_t10_loop.st)
    ++ m4 c arg0 harg0 arg1 harg1 arg2 harg2 x0

/-- The diagonal blocks' pieces once panel 5's blocks are loaded. -/
def d5 (c : Dev nD) (arg0 : Memref sig .tc .vmem S16x144x144 .f32) (harg0 : arg0.IsWhole) (arg1 : Memref sig .tc .vmem S16x144x144 .f32)
    (harg1 : arg1.IsWhole) (arg2 : Memref sig .tc .vmem S256x128 .f32) (harg2 : arg2.IsWhole) (x0 : Vec F S16x144x144 .f32) :
    List (View.Piece (Elt F) S256x128 .f32) :=
  pb_k0_t11 Variants.none c none arg0 harg0 arg1 harg1 arg2 harg2 kernelRun0_A.sl.v6 kernelRun0_A.sl.v7 (kernelRun0_A.sl.r_994 c arg0 harg0 arg1 harg1 arg2 harg2 x0) (kernelRun0_A.sl.r_995 c arg0 harg0 arg1 harg1 arg2 harg2 x0) (kernelRun0_A.sl.r_996 c arg0 harg0 arg1 harg1 arg2 harg2 x0) (kernelRun0_A.sl.r_999 c arg0 harg0 arg1 harg1 arg2 harg2 x0) kernelRun0_A.sl.cst_1692
      (arg1.view.writes (Elt F) arg1.view.junk (m5 c arg0 harg0 arg1 harg1 arg2 harg2 x0)) (Scf.trips k0_t11_loop.lb k0_t11_loop.ub k0_t11_loop.st)
    ++ eliminated arg2 (d4 c arg0 harg0 arg1 harg1 arg2 harg2 x0)

/-- The result's pieces after panel 5. -/
def m6 (c : Dev nD) (arg0 : Memref sig .tc .vmem S16x144x144 .f32) (harg0 : arg0.IsWhole) (arg1 : Memref sig .tc .vmem S16x144x144 .f32)
    (harg1 : arg1.IsWhole) (arg2 : Memref sig .tc .vmem S256x128 .f32) (harg2 : arg2.IsWhole) (x0 : Vec F S16x144x144 .f32) :
    List (View.Piece (Elt F) S16x144x144 .f32) :=
  pb_k0_t12 Variants.none c none arg0 harg0 arg1 harg1 arg2 harg2 kernelRun0_A.sl.v6 kernelRun0_A.sl.v7 (kernelRun0_A.sl.r_1188 c arg0 harg0 arg1 harg1 arg2 harg2 x0) k0_pay1460
      (arg2.view.writes (Elt F) arg2.view.junk (eliminated arg2 (d5 c arg0 harg0 arg1 harg1 arg2 harg2 x0)))
      (arg1.view.writes (Elt F) arg1.view.junk (m5 c arg0 harg0 arg1 harg1 arg2 harg2 x0)) (Scf.trips k0_t12_loop.lb k0_t12_loop.ub k0_t12_loop.st)
    ++ m5 c arg0 harg0 arg1 harg1 arg2 harg2 x0

/-- The diagonal blocks' pieces once panel 6's blocks are loaded. -/
def d6 (c : Dev nD) (arg0 : Memref sig .tc .vmem S16x144x144 .f32) (harg0 : arg0.IsWhole) (arg1 : Memref sig .tc .vmem S16x144x144 .f32)
    (harg1 : arg1.IsWhole) (arg2 : Memref sig .tc .vmem S256x128 .f32) (harg2 : arg2.IsWhole) (x0 : Vec F S16x144x144 .f32) :
    List (View.Piece (Elt F) S256x128 .f32) :=
  pb_k0_t13 Variants.none c none arg0 harg0 arg1 harg1 arg2 harg2 kernelRun0_A.sl.v6 kernelRun0_A.sl.v7 (kernelRun0_A.sl.r_1188 c arg0 harg0 arg1 harg1 arg2 harg2 x0) k0_pay1460
      (arg1.view.writes (Elt F) arg1.view.junk (m6 c arg0 harg0 arg1 harg1 arg2 harg2 x0)) (Scf.trips k0_t13_loop.lb k0_t13_loop.ub k0_t13_loop.st)
    ++ eliminated arg2 (d5 c arg0 harg0 arg1 harg1 arg2 harg2 x0)

/-- The result's pieces after panel 6. -/
def m7 (c : Dev nD) (arg0 : Memref sig .tc .vmem S16x144x144 .f32) (harg0 : arg0.IsWhole) (arg1 : Memref sig .tc .vmem S16x144x144 .f32)
    (harg1 : arg1.IsWhole) (arg2 : Memref sig .tc .vmem S256x128 .f32) (harg2 : arg2.IsWhole) (x0 : Vec F S16x144x144 .f32) :
    List (View.Piece (Elt F) S16x144x144 .f32) :=
  pb_k0_t14 Variants.none c none arg0 harg0 arg1 harg1 arg2 harg2 kernelRun0_A.sl.v6 kernelRun0_A.sl.v7 (kernelRun0_A.sl.r_1396 c arg0 harg0 arg1 harg1 arg2 harg2 x0) (kernelRun0_A.sl.r_1397 c arg0 harg0 arg1 harg1 arg2 harg2 x0) (kernelRun0_A.sl.r_1398 c arg0 harg0 arg1 harg1 arg2 harg2 x0) (kernelRun0_A.sl.r_1401 c arg0 harg0 arg1 harg1 arg2 harg2 x0)
      (arg2.view.writes (Elt F) arg2.view.junk (eliminated arg2 (d6 c arg0 harg0 arg1 harg1 arg2 harg2 x0)))
      (arg1.view.writes (Elt F) arg1.view.junk (m6 c arg0 harg0 arg1 harg1 arg2 harg2 x0)) (Scf.trips k0_t14_loop.lb k0_t14_loop.ub k0_t14_loop.st)
    ++ m6 c arg0 harg0 arg1 harg1 arg2 harg2 x0

/-- The diagonal blocks' pieces once panel 7's blocks are loaded. -/
def d7 (c : Dev nD) (arg0 : Memref sig .tc .vmem S16x144x144 .f32) (harg0 : arg0.IsWhole) (arg1 : Memref sig .tc .vmem S16x144x144 .f32)
    (harg1 : arg1.IsWhole) (arg2 : Memref sig .tc .vmem S256x128 .f32) (harg2 : arg2.IsWhole) (x0 : Vec F S16x144x144 .f32) :
    List (View.Piece (Elt F) S256x128 .f32) :=
  pb_k0_t15 Variants.none c none arg0 harg0 arg1 harg1 arg2 harg2 kernelRun0_A.sl.v6 kernelRun0_A.sl.v7 (kernelRun0_A.sl.r_1396 c arg0 harg0 arg1 harg1 arg2 harg2 x0) (kernelRun0_A.sl.r_1397 c arg0 harg0 arg1 harg1 arg2 harg2 x0) (kernelRun0_A.sl.r_1398 c arg0 harg0 arg1 harg1 arg2 harg2 x0) (kernelRun0_A.sl.r_1401 c arg0 harg0 arg1 harg1 arg2 harg2 x0)
      (arg1.view.writes (Elt F) arg1.view.junk (m7 c arg0 harg0 arg1 harg1 arg2 harg2 x0)) (Scf.trips k0_t15_loop.lb k0_t15_loop.ub k0_t15_loop.st)
    ++ eliminated arg2 (d6 c arg0 harg0 arg1 harg1 arg2 harg2 x0)

/-- The result's pieces after panel 7. -/
def m8 (c : Dev nD) (arg0 : Memref sig .tc .vmem S16x144x144 .f32) (harg0 : arg0.IsWhole) (arg1 : Memref sig .tc .vmem S16x144x144 .f32)
    (harg1 : arg1.IsWhole) (arg2 : Memref sig .tc .vmem S256x128 .f32) (harg2 : arg2.IsWhole) (x0 : Vec F S16x144x144 .f32) :
    List (View.Piece (Elt F) S16x144x144 .f32) :=
  pb_k0_t16 Variants.none c none arg0 harg0 arg1 harg1 arg2 harg2 kernelRun0_A.sl.v6 kernelRun0_A.sl.v7 (kernelRun0_A.sl.r_1589 c arg0 harg0 arg1 harg1 arg2 harg2 x0)
      (arg2.view.writes (Elt F) arg2.view.junk (eliminated arg2 (d7 c arg0 harg0 arg1 harg1 arg2 harg2 x0)))
      (arg1.view.writes (Elt F) arg1.view.junk (m7 c arg0 harg0 arg1 harg1 arg2 harg2 x0)) (Scf.trips k0_t16_loop.lb k0_t16_loop.ub k0_t16_loop.st)
    ++ m7 c arg0 harg0 arg1 harg1 arg2 harg2 x0

/-- The diagonal blocks' pieces once panel 8's blocks are loaded. -/
def d8 (c : Dev nD) (arg0 : Memref sig .tc .vmem S16x144x144 .f32) (harg0 : arg0.IsWhole) (arg1 : Memref sig .tc .vmem S16x144x144 .f32)
    (harg1 : arg1.IsWhole) (arg2 : Memref sig .tc .vmem S256x128 .f32) (harg2 : arg2.IsWhole) (x0 : Vec F S16x144x144 .f32) :
    List (View.Piece (Elt F) S256x128 .f32) :=
  pb_k0_t17 Variants.none c none arg0 harg0 arg1 harg1 arg2 harg2 kernelRun0_A.sl.v6 kernelRun0_A.sl.v7 (kernelRun0_A.sl.r_1589 c arg0 harg0 arg1 harg1 arg2 harg2 x0)
      (arg1.view.writes (Elt F) arg1.view.junk (m8 c arg0 harg0 arg1 harg1 arg2 harg2 x0)) (Scf.trips k0_t17_loop.lb k0_t17_loop.ub k0_t17_loop.st)
    ++ eliminated arg2 (d7 c arg0 harg0 arg1 harg1 arg2 harg2 x0)

/-- The result's pieces after panel 8. -/
def m9 (c : Dev nD) (arg0 : Memref sig .tc .vmem S16x144x144 .f32) (harg0 : arg0.IsWhole) (arg1 : Memref sig .tc .vmem S16x144x144 .f32)
    (harg1 : arg1.IsWhole) (arg2 : Memref sig .tc .vmem S256x128 .f32) (harg2 : arg2.IsWhole) (x0 : Vec F S16x144x144 .f32) :
    List (View.Piece (Elt F) S16x144x144 .f32) :=
  pb_k0_t18 Variants.none c none arg0 harg0 arg1 harg1 arg2 harg2 kernelRun0_A.sl.v6 kernelRun0_A.sl.v7
      (arg2.view.writes (Elt F) arg2.view.junk (eliminated arg2 (d8 c arg0 harg0 arg1 harg1 arg2 harg2 x0)))
      (arg1.view.writes (Elt F) arg1.view.junk (m8 c arg0 harg0 arg1 harg1 arg2 harg2 x0)) (Scf.trips k0_t18_loop.lb k0_t18_loop.ub k0_t18_loop.st)
    ++ m8 c arg0 harg0 arg1 harg1 arg2 harg2 x0

/-- The run's pieces are the last panel's. -/
theorem run_eq (c : Dev nD) (arg0 : Memref sig .tc .vmem S16x144x144 .f32) (harg0 : arg0.IsWhole) (arg1 : Memref sig .tc .vmem S16x144x144 .f32)
    (harg1 : arg1.IsWhole) (arg2 : Memref sig .tc .vmem S256x128 .f32) (harg2 : arg2.IsWhole) (x0 : Vec F S16x144x144 .f32) :
    (kernelRun0_A c arg0 harg0 arg1 harg1 arg2 harg2 x0).1 = m9 c arg0 harg0 arg1 harg1 arg2 harg2 x0 := by
  sl_kernel_rfl

end Cert.RangeFinder.Factor

end
-- ==== Proof.FactorChain.lean ====
/- The factor kernel's run, panel by panel: what its result's buffer holds after each. -/
module

public import proofs.«01_k».proof.Proof.FactorTrips
public import proofs.«01_k».proof.Proof.FactorRun

@[expose] public section

set_option maxRecDepth 16384

noncomputable section

namespace Cert.RangeFinder.Factor

open Cert.FactorIdeal Cert.FactorIdeal.Gen Idealize.ShloMosaic

/-- Where the strided row `i` reads: row `i` of every block. -/
theorem strip_idx (i : Fin 16) (b : Fin 16) (a : Fin 128) :
    (strip i).idx (ix2 b a) = ix2 ⟨16 * b.val + i.val, by omega⟩ a := by
  funext d
  refine Fin.ext ?_
  fin_cases d
  · show i.val + 16 * b.val = 16 * b.val + i.val; omega
  · show 0 + 1 * a.val = a.val; omega

/-- A loaded row, column first. -/
theorem rowsOf_apply (arg2 : Memref sig .tc .vmem S256x128 .f32) (L : List (View.Piece (Elt Ideal) S256x128 .f32)) (i a b : Fin 16) :
    rowsOf arg2 L i (ix2 a b) = arg2.view.read (Elt Ideal) (arg2.view.writes (Elt Ideal) arg2.view.junk L)
      (ix2 ⟨16 * b.val + i.val, by omega⟩ ⟨a.val, by omega⟩) := by
  unfold rowsOf rowIn
  pointwise [k0_pay37]
  have hr : arg2.view.readCov L (strip i) (ix2 b ⟨a.val, by omega⟩)
      = arg2.view.read (Elt Ideal) (arg2.view.writes (Elt Ideal) arg2.view.junk L) ((strip i).idx (ix2 b ⟨a.val, by omega⟩)) := rfl
  rw [hr, strip_idx]

/-- A row as it is stored, on the block's own lanes. -/
theorem rowOut_apply (r : Row Ideal) (a b : Fin 16) : rowOut r (ix2 b ⟨a.val, by omega⟩) = r (ix2 a b) := by
  unfold rowOut
  pointwise [k0_pay273]

/-- One row's store, read back. -/
theorem rowStore_read (arg2 : Memref sig .tc .vmem S256x128 .f32) (r : Fin 16 → Row Ideal) (k : Fin 16)
    (L : List (View.Piece (Elt Ideal) S256x128 .f32)) (b i a : Fin 16) :
    arg2.view.read (Elt Ideal) (arg2.view.writes (Elt Ideal) arg2.view.junk (rowStore r k :: L))
        (ix2 ⟨16 * b.val + i.val, by omega⟩ ⟨a.val, by omega⟩)
      = if i = k then r k (ix2 a b) else arg2.view.read (Elt Ideal) (arg2.view.writes (Elt Ideal) arg2.view.junk L)
        (ix2 ⟨16 * b.val + i.val, by omega⟩ ⟨a.val, by omega⟩) := by
  by_cases h : i = k
  · subst h
    rw [if_pos rfl, ← rowOut_apply (r i) a b]
    unfold rowStore
    refine View.read_writes_cons_hit_of_coords _ _ _ _ _ _ _ ?_
    intro d; fin_cases d
    · show 16 * b.val + i.val = i.val + 16 * b.val; omega
    · show a.val = 0 + 1 * a.val; omega
  · rw [if_neg h]
    refine View.read_writes_cons_miss _ _ _ _ _ ?_
    intro hm
    obtain ⟨x, hx1, hx⟩ := (LoadRect.mem_set _).mp hm 0
    have hx' : 16 * b.val + i.val = k.val + 16 * x := hx
    exact h (Fin.ext (by omega))

/-- The eliminated rows, read back. -/
theorem eliminated_read (arg2 : Memref sig .tc .vmem S256x128 .f32) (L : List (View.Piece (Elt Ideal) S256x128 .f32)) (b i a : Fin 16) :
    arg2.view.read (Elt Ideal) (arg2.view.writes (Elt Ideal) arg2.view.junk (eliminated arg2 L))
        (ix2 ⟨16 * b.val + i.val, by omega⟩ ⟨a.val, by omega⟩)
      = diagRows (rowsOf arg2 L) i (ix2 a b) := by
  unfold eliminated
  generalize diagRows (rowsOf arg2 L) = r
  unfold rowStores
  simp only [List.cons_append, rowStore_read]
  fin_cases i <;> rfl

/-- A panel's diagonal blocks once eliminated: the inverse's diagonal blocks. -/
theorem diag_panel (arg2 : Memref sig .tc .vmem S256x128 .f32) (L : List (View.Piece (Elt Ideal) S256x128 .f32)) (p : ℕ)
    (hp : p + 16 ≤ 144) (l w : Fin 16 → ℕ → ℕ → ℝ) (h : ∀ b, Inverse 144 (l b) (w b)) (hpos : ∀ b j, j < 144 → 0 < l b j j)
    (hL : ∀ b i a : Fin 16, arg2.view.read (Elt Ideal) (arg2.view.writes (Elt Ideal) arg2.view.junk L)
        (ix2 ⟨16 * b.val + i.val, by omega⟩ ⟨a.val, by omega⟩)
      = ((elim 144 (l b) (w b) p (p + i.val) (p + a.val) : ℝ) : EReal)) (b i a : Fin 16) :
    arg2.view.read (Elt Ideal) (arg2.view.writes (Elt Ideal) arg2.view.junk (eliminated arg2 L))
        (ix2 ⟨16 * b.val + i.val, by omega⟩ ⟨a.val, by omega⟩)
      = ((w b (p + i.val) (p + a.val) : ℝ) : EReal) := by
  rw [eliminated_read]
  refine diagRows_apply (l := fun b i j => l b (p + i) (p + j)) (w := fun b i j => w b (p + i) (p + j))
    (fun b => (h b).shift hp) (fun b j hj => hpos b _ (by omega)) _ ?_ i a b
  intro i a b
  rw [rowsOf_apply, hL, elim_shift (h b) hp i.isLt]

/-- How many panels row `i` has taken part in, in columns, when the panels before column `p` are done. -/
def stage (p i : ℕ) : ℕ := if i < p then 16 * (i / 16) + 16 else p

/-- A row not yet in a panel. -/
theorem stage_ge {p i : ℕ} (h : p ≤ i) : stage p i = p := if_neg (Nat.not_lt.mpr h)

/-- From one panel's stage to the next. -/
theorem panel_step (v f : Fin 16 → Fin 144 → Fin 144 → EReal) (n : ℕ) (p : ℕ) (hp : p = 16 * n) (l w : Fin 16 → ℕ → ℕ → ℝ)
    (hv : ∀ b i j, v b i j = if p ≤ i.val then ((elim 144 (l b) (w b) (p + 16) i.val j.val : ℝ) : EReal) else f b i j)
    (hf : ∀ b i j, f b i j = ((elim 144 (l b) (w b) (stage p i.val) i.val j.val : ℝ) : EReal)) (b : Fin 16) (i j : Fin 144) :
    v b i j = ((elim 144 (l b) (w b) (stage (p + 16) i.val) i.val j.val : ℝ) : EReal) := by
  rw [hv]
  by_cases h : p ≤ i.val
  · rw [if_pos h]
    have : stage (p + 16) i.val = p + 16 := by
      unfold stage
      split <;> omega
    rw [this]
  · rw [if_neg h, hf]
    have : stage (p + 16) i.val = stage p i.val := by
      unfold stage
      rw [if_pos (by omega), if_pos (by omega)]
    rw [this]

/-- The column index of the kernel's masks. -/
theorem v6_apply (t : Fin 16) (j : Fin 144) : kernelRun0_A.sl.v6 (ix2 t j) = BitVec.ofNat 32 j.val := by
  unfold kernelRun0_A.sl.v6
  pointwise []

/-- The row index of the kernel's masks. -/
theorem v7_apply (t : Fin 16) (j : Fin 144) : kernelRun0_A.sl.v7 (ix2 t j) = BitVec.ofNat 32 t.val := by
  unfold kernelRun0_A.sl.v7
  pointwise []

section Chain

variable (c : Dev nD) (arg0 : Memref sig .tc .vmem S16x144x144 .f32) (harg0 : arg0.IsWhole) (arg1 : Memref sig .tc .vmem S16x144x144 .f32)
    (harg1 : arg1.IsWhole) (arg2 : Memref sig .tc .vmem S256x128 .f32) (harg2 : arg2.IsWhole)
    (x0 : Vec Ideal S16x144x144 .f32) (l w : Fin 16 → ℕ → ℕ → ℝ)

include c harg0 harg1 harg2

/-- The result's buffer before the first panel. -/
theorem m0_read (hx : ∀ (b : Fin 16) (i j : Fin 144), x0 (ix3 b i j) = ((elim 144 (l b) (w b) 0 i.val j.val : ℝ) : EReal))
    (b : Fin 16) (i j : Fin 144) :
    arg1.view.read (Elt Ideal) (arg1.view.writes (Elt Ideal) arg1.view.junk (m0 c arg0 harg0 arg1 harg1 arg2 harg2 x0)) (ix3 b i j)
      = ((elim 144 (l b) (w b) (stage 0 i.val) i.val j.val : ℝ) : EReal) := by
  rw [stage_ge (Nat.zero_le _), ← hx]
  unfold m0 kernelRun0_A.sl.H1_1
  refine (View.read_writes_cons_unit_of_mem arg1.view _ inb_S16x144x144_S16x144x144_0_0_0 _ [] (ix3 b i j) (ix3 b i j) rfl
    (by intro a; fin_cases a
        · show b.val = 0 + b.val; omega
        · show i.val = 0 + i.val; omega
        · show j.val = 0 + j.val; omega)).trans ?_
  rw [View.readAt_apply, harg0.read_unread]
  congr 1
  refine LoadRect.unit_idx_eq _ rfl _ _ ?_
  intro a; fin_cases a
  · show b.val = 0 + b.val; omega
  · show i.val = 0 + i.val; omega
  · show j.val = 0 + j.val; omega

/-- The result's buffer after panel 0. -/
theorem m1_read (h : ∀ b, Inverse 144 (l b) (w b)) (hpos : ∀ b j, j < 144 → 0 < l b j j)
    (hx : ∀ (b : Fin 16) (i j : Fin 144), x0 (ix3 b i j) = ((elim 144 (l b) (w b) 0 i.val j.val : ℝ) : EReal))
    (b : Fin 16) (i j : Fin 144) :
    arg1.view.read (Elt Ideal) (arg1.view.writes (Elt Ideal) arg1.view.junk (m1 c arg0 harg0 arg1 harg1 arg2 harg2 x0)) (ix3 b i j)
      = ((elim 144 (l b) (w b) (stage 16 i.val) i.val j.val : ℝ) : EReal) := by
  have hm := m0_read c arg0 harg0 arg1 harg1 arg2 harg2 x0 l w hx
  have hL : ∀ b i a : Fin 16, arg2.view.read (Elt Ideal) (arg2.view.writes (Elt Ideal) arg2.view.junk (d0 c arg0 harg0 arg1 harg1 arg2 harg2 x0))
        (ix2 ⟨16 * b.val + i.val, by omega⟩ ⟨a.val, by omega⟩)
      = ((elim 144 (l b) (w b) 0 (0 + i.val) (0 + a.val) : ℝ) : EReal) := by
    intro b i a
    unfold d0
    rw [View.writes_append]
    refine (load_0 c arg0 harg0 arg1 harg1 arg2 harg2  _ _ b i a).trans ?_
    rw [hm, stage_ge (by show 0 ≤ 0 + i.val; omega)]
  have hX := diag_panel arg2 (d0 c arg0 harg0 arg1 harg1 arg2 harg2 x0) 0 (by norm_num) l w h hpos hL
  refine panel_step (fun b i j => arg1.view.read (Elt Ideal) (arg1.view.writes (Elt Ideal) arg1.view.junk (m1 c arg0 harg0 arg1 harg1 arg2 harg2 x0)) (ix3 b i j))
    (fun b i j => arg1.view.read (Elt Ideal) (arg1.view.writes (Elt Ideal) arg1.view.junk (m0 c arg0 harg0 arg1 harg1 arg2 harg2 x0)) (ix3 b i j)) 0 0 rfl l w ?_
    hm b i j
  intro b i j
  unfold m1
  rw [View.writes_append]
  exact update_0 c arg0 harg0 arg1 harg1 arg2 harg2 _ _ _ _ _ _ _ v6_apply v7_apply _ _ l w h hX
    (fun b i j hi => by rw [hm, stage_ge hi]) b i j

/-- The result's buffer after panel 1. -/
theorem m2_read (h : ∀ b, Inverse 144 (l b) (w b)) (hpos : ∀ b j, j < 144 → 0 < l b j j)
    (hx : ∀ (b : Fin 16) (i j : Fin 144), x0 (ix3 b i j) = ((elim 144 (l b) (w b) 0 i.val j.val : ℝ) : EReal))
    (b : Fin 16) (i j : Fin 144) :
    arg1.view.read (Elt Ideal) (arg1.view.writes (Elt Ideal) arg1.view.junk (m2 c arg0 harg0 arg1 harg1 arg2 harg2 x0)) (ix3 b i j)
      = ((elim 144 (l b) (w b) (stage 32 i.val) i.val j.val : ℝ) : EReal) := by
  have hm := m1_read c arg0 harg0 arg1 harg1 arg2 harg2 x0 l w h hpos hx
  have hL : ∀ b i a : Fin 16, arg2.view.read (Elt Ideal) (arg2.view.writes (Elt Ideal) arg2.view.junk (d1 c arg0 harg0 arg1 harg1 arg2 harg2 x0))
        (ix2 ⟨16 * b.val + i.val, by omega⟩ ⟨a.val, by omega⟩)
      = ((elim 144 (l b) (w b) 16 (16 + i.val) (16 + a.val) : ℝ) : EReal) := by
    intro b i a
    unfold d1
    rw [View.writes_append]
    refine (load_1 c arg0 harg0 arg1 harg1 arg2 harg2 _ _ _ _ _ _ _ _ _ b i a).trans ?_
    rw [hm, stage_ge (by show 16 ≤ 16 + i.val; omega)]
  have hX := diag_panel arg2 (d1 c arg0 harg0 arg1 harg1 arg2 harg2 x0) 16 (by norm_num) l w h hpos hL
  refine panel_step (fun b i j => arg1.view.read (Elt Ideal) (arg1.view.writes (Elt Ideal) arg1.view.junk (m2 c arg0 harg0 arg1 harg1 arg2 harg2 x0)) (ix3 b i j))
    (fun b i j => arg1.view.read (Elt Ideal) (arg1.view.writes (Elt Ideal) arg1.view.junk (m1 c arg0 harg0 arg1 harg1 arg2 harg2 x0)) (ix3 b i j)) 1 16 rfl l w ?_
    hm b i j
  intro b i j
  unfold m2
  rw [View.writes_append]
  exact update_1 c arg0 harg0 arg1 harg1 arg2 harg2 _ _ _ _ v6_apply v7_apply _ _ l w h hX
    (fun b i j hi => by rw [hm, stage_ge hi]) b i j

/-- The result's buffer after panel 2. -/
theorem m3_read (h : ∀ b, Inverse 144 (l b) (w b)) (hpos : ∀ b j, j < 144 → 0 < l b j j)
    (hx : ∀ (b : Fin 16) (i j : Fin 144), x0 (ix3 b i j) = ((elim 144 (l b) (w b) 0 i.val j.val : ℝ) : EReal))
    (b : Fin 16) (i j : Fin 144) :
    arg1.view.read (Elt Ideal) (arg1.view.writes (Elt Ideal) arg1.view.junk (m3 c arg0 harg0 arg1 harg1 arg2 harg2 x0)) (ix3 b i j)
      = ((elim 144 (l b) (w b) (stage 48 i.val) i.val j.val : ℝ) : EReal) := by
  have hm := m2_read c arg0 harg0 arg1 harg1 arg2 harg2 x0 l w h hpos hx
  have hL : ∀ b i a : Fin 16, arg2.view.read (Elt Ideal) (arg2.view.writes (Elt Ideal) arg2.view.junk (d2 c arg0 harg0 arg1 harg1 arg2 harg2 x0))
        (ix2 ⟨16 * b.val + i.val, by omega⟩ ⟨a.val, by omega⟩)
      = ((elim 144 (l b) (w b) 32 (32 + i.val) (32 + a.val) : ℝ) : EReal) := by
    intro b i a
    unfold d2
    rw [View.writes_append]
    refine (load_2 c arg0 harg0 arg1 harg1 arg2 harg2 _ _ _ _ _ _ b i a).trans ?_
    rw [hm, stage_ge (by show 32 ≤ 32 + i.val; omega)]
  have hX := diag_panel arg2 (d2 c arg0 harg0 arg1 harg1 arg2 harg2 x0) 32 (by norm_num) l w h hpos hL
  refine panel_step (fun b i j => arg1.view.read (Elt Ideal) (arg1.view.writes (Elt Ideal) arg1.view.junk (m3 c arg0 harg0 arg1 harg1 arg2 harg2 x0)) (ix3 b i j))
    (fun b i j => arg1.view.read (Elt Ideal) (arg1.view.writes (Elt Ideal) arg1.view.junk (m2 c arg0 harg0 arg1 harg1 arg2 harg2 x0)) (ix3 b i j)) 2 32 rfl l w ?_
    hm b i j
  intro b i j
  unfold m3
  rw [View.writes_append]
  exact update_2 c arg0 harg0 arg1 harg1 arg2 harg2 _ _ _ _ _ _ v6_apply v7_apply _ _ l w h hX
    (fun b i j hi => by rw [hm, stage_ge hi]) b i j

/-- The result's buffer after panel 3. -/
theorem m4_read (h : ∀ b, Inverse 144 (l b) (w b)) (hpos : ∀ b j, j < 144 → 0 < l b j j)
    (hx : ∀ (b : Fin 16) (i j : Fin 144), x0 (ix3 b i j) = ((elim 144 (l b) (w b) 0 i.val j.val : ℝ) : EReal))
    (b : Fin 16) (i j : Fin 144) :
    arg1.view.read (Elt Ideal) (arg1.view.writes (Elt Ideal) arg1.view.junk (m4 c arg0 harg0 arg1 harg1 arg2 harg2 x0)) (ix3 b i j)
      = ((elim 144 (l b) (w b) (stage 64 i.val) i.val j.val : ℝ) : EReal) := by
  have hm := m3_read c arg0 harg0 arg1 harg1 arg2 harg2 x0 l w h hpos hx
  have hL : ∀ b i a : Fin 16, arg2.view.read (Elt Ideal) (arg2.view.writes (Elt Ideal) arg2.view.junk (d3 c arg0 harg0 arg1 harg1 arg2 harg2 x0))
        (ix2 ⟨16 * b.val + i.val, by omega⟩ ⟨a.val, by omega⟩)
      = ((elim 144 (l b) (w b) 48 (48 + i.val) (48 + a.val) : ℝ) : EReal) := by
    intro b i a
    unfold d3
    rw [View.writes_append]
    refine (load_3 c arg0 harg0 arg1 harg1 arg2 harg2 _ _ _ _ _ _ _ _ b i a).trans ?_
    rw [hm, stage_ge (by show 48 ≤ 48 + i.val; omega)]
  have hX := diag_panel arg2 (d3 c arg0 harg0 arg1 harg1 arg2 harg2 x0) 48 (by norm_num) l w h hpos hL
  refine panel_step (fun b i j => arg1.view.read (Elt Ideal) (arg1.view.writes (Elt Ideal) arg1.view.junk (m4 c arg0 harg0 arg1 harg1 arg2 harg2 x0)) (ix3 b i j))
    (fun b i j => arg1.view.read (Elt Ideal) (arg1.view.writes (Elt Ideal) arg1.view.junk (m3 c arg0 harg0 arg1 harg1 arg2 harg2 x0)) (ix3 b i j)) 3 48 rfl l w ?_
    hm b i j
  intro b i j
  unfold m4
  rw [View.writes_append]
  exact update_3 c arg0 harg0 arg1 harg1 arg2 harg2 _ _ _ v6_apply v7_apply _ _ l w h hX
    (fun b i j hi => by rw [hm, stage_ge hi]) b i j

/-- The result's buffer after panel 4. -/
theorem m5_read (h : ∀ b, Inverse 144 (l b) (w b)) (hpos : ∀ b j, j < 144 → 0 < l b j j)
    (hx : ∀ (b : Fin 16) (i j : Fin 144), x0 (ix3 b i j) = ((elim 144 (l b) (w b) 0 i.val j.val : ℝ) : EReal))
    (b : Fin 16) (i j : Fin 144) :
    arg1.view.read (Elt Ideal) (arg1.view.writes (Elt Ideal) arg1.view.junk (m5 c arg0 harg0 arg1 harg1 arg2 harg2 x0)) (ix3 b i j)
      = ((elim 144 (l b) (w b) (stage 80 i.val) i.val j.val : ℝ) : EReal) := by
  have hm := m4_read c arg0 harg0 arg1 harg1 arg2 harg2 x0 l w h hpos hx
  have hL : ∀ b i a : Fin 16, arg2.view.read (Elt Ideal) (arg2.view.writes (Elt Ideal) arg2.view.junk (d4 c arg0 harg0 arg1 harg1 arg2 harg2 x0))
        (ix2 ⟨16 * b.val + i.val, by omega⟩ ⟨a.val, by omega⟩)
      = ((elim 144 (l b) (w b) 64 (64 + i.val) (64 + a.val) : ℝ) : EReal) := by
    intro b i a
    unfold d4
    rw [View.writes_append]
    refine (load_4 c arg0 harg0 arg1 harg1 arg2 harg2 _ _ _ _ _ b i a).trans ?_
    rw [hm, stage_ge (by show 64 ≤ 64 + i.val; omega)]
  have hX := diag_panel arg2 (d4 c arg0 harg0 arg1 harg1 arg2 harg2 x0) 64 (by norm_num) l w h hpos hL
  refine panel_step (fun b i j => arg1.view.read (Elt Ideal) (arg1.view.writes (Elt Ideal) arg1.view.junk (m5 c arg0 harg0 arg1 harg1 arg2 harg2 x0)) (ix3 b i j))
    (fun b i j => arg1.view.read (Elt Ideal) (arg1.view.writes (Elt Ideal) arg1.view.junk (m4 c arg0 harg0 arg1 harg1 arg2 harg2 x0)) (ix3 b i j)) 4 64 rfl l w ?_
    hm b i j
  intro b i j
  unfold m5
  rw [View.writes_append]
  exact update_4 c arg0 harg0 arg1 harg1 arg2 harg2 _ _ _ _ _ _ _ v6_apply v7_apply _ _ l w h hX
    (fun b i j hi => by rw [hm, stage_ge hi]) b i j

/-- The result's buffer after panel 5. -/
theorem m6_read (h : ∀ b, Inverse 144 (l b) (w b)) (hpos : ∀ b j, j < 144 → 0 < l b j j)
    (hx : ∀ (b : Fin 16) (i j : Fin 144), x0 (ix3 b i j) = ((elim 144 (l b) (w b) 0 i.val j.val : ℝ) : EReal))
    (b : Fin 16) (i j : Fin 144) :
    arg1.view.read (Elt Ideal) (arg1.view.writes (Elt Ideal) arg1.view.junk (m6 c arg0 harg0 arg1 harg1 arg2 harg2 x0)) (ix3 b i j)
      = ((elim 144 (l b) (w b) (stage 96 i.val) i.val j.val : ℝ) : EReal) := by
  have hm := m5_read c arg0 harg0 arg1 harg1 arg2 harg2 x0 l w h hpos hx
  have hL : ∀ b i a : Fin 16, arg2.view.read (Elt Ideal) (arg2.view.writes (Elt Ideal) arg2.view.junk (d5 c arg0 harg0 arg1 harg1 arg2 harg2 x0))
        (ix2 ⟨16 * b.val + i.val, by omega⟩ ⟨a.val, by omega⟩)
      = ((elim 144 (l b) (w b) 80 (80 + i.val) (80 + a.val) : ℝ) : EReal) := by
    intro b i a
    unfold d5
    rw [View.writes_append]
    refine (load_5 c arg0 harg0 arg1 harg1 arg2 harg2 _ _ _ _ _ _ _ _ _ b i a).trans ?_
    rw [hm, stage_ge (by show 80 ≤ 80 + i.val; omega)]
  have hX := diag_panel arg2 (d5 c arg0 harg0 arg1 harg1 arg2 harg2 x0) 80 (by norm_num) l w h hpos hL
  refine panel_step (fun b i j => arg1.view.read (Elt Ideal) (arg1.view.writes (Elt Ideal) arg1.view.junk (m6 c arg0 harg0 arg1 harg1 arg2 harg2 x0)) (ix3 b i j))
    (fun b i j => arg1.view.read (Elt Ideal) (arg1.view.writes (Elt Ideal) arg1.view.junk (m5 c arg0 harg0 arg1 harg1 arg2 harg2 x0)) (ix3 b i j)) 5 80 rfl l w ?_
    hm b i j
  intro b i j
  unfold m6
  rw [View.writes_append]
  exact update_5 c arg0 harg0 arg1 harg1 arg2 harg2 _ _ _ _ v6_apply v7_apply _ _ l w h hX
    (fun b i j hi => by rw [hm, stage_ge hi]) b i j

/-- The result's buffer after panel 6. -/
theorem m7_read (h : ∀ b, Inverse 144 (l b) (w b)) (hpos : ∀ b j, j < 144 → 0 < l b j j)
    (hx : ∀ (b : Fin 16) (i j : Fin 144), x0 (ix3 b i j) = ((elim 144 (l b) (w b) 0 i.val j.val : ℝ) : EReal))
    (b : Fin 16) (i j : Fin 144) :
    arg1.view.read (Elt Ideal) (arg1.view.writes (Elt Ideal) arg1.view.junk (m7 c arg0 harg0 arg1 harg1 arg2 harg2 x0)) (ix3 b i j)
      = ((elim 144 (l b) (w b) (stage 112 i.val) i.val j.val : ℝ) : EReal) := by
  have hm := m6_read c arg0 harg0 arg1 harg1 arg2 harg2 x0 l w h hpos hx
  have hL : ∀ b i a : Fin 16, arg2.view.read (Elt Ideal) (arg2.view.writes (Elt Ideal) arg2.view.junk (d6 c arg0 harg0 arg1 harg1 arg2 harg2 x0))
        (ix2 ⟨16 * b.val + i.val, by omega⟩ ⟨a.val, by omega⟩)
      = ((elim 144 (l b) (w b) 96 (96 + i.val) (96 + a.val) : ℝ) : EReal) := by
    intro b i a
    unfold d6
    rw [View.writes_append]
    refine (load_6 c arg0 harg0 arg1 harg1 arg2 harg2 _ _ _ _ _ _ b i a).trans ?_
    rw [hm, stage_ge (by show 96 ≤ 96 + i.val; omega)]
  have hX := diag_panel arg2 (d6 c arg0 harg0 arg1 harg1 arg2 harg2 x0) 96 (by norm_num) l w h hpos hL
  refine panel_step (fun b i j => arg1.view.read (Elt Ideal) (arg1.view.writes (Elt Ideal) arg1.view.junk (m7 c arg0 harg0 arg1 harg1 arg2 harg2 x0)) (ix3 b i j))
    (fun b i j => arg1.view.read (Elt Ideal) (arg1.view.writes (Elt Ideal) arg1.view.junk (m6 c arg0 harg0 arg1 harg1 arg2 harg2 x0)) (ix3 b i j)) 6 96 rfl l w ?_
    hm b i j
  intro b i j
  unfold m7
  rw [View.writes_append]
  exact update_6 c arg0 harg0 arg1 harg1 arg2 harg2 _ _ _ _ _ _ v6_apply v7_apply _ _ l w h hX
    (fun b i j hi => by rw [hm, stage_ge hi]) b i j

/-- The result's buffer after panel 7. -/
theorem m8_read (h : ∀ b, Inverse 144 (l b) (w b)) (hpos : ∀ b j, j < 144 → 0 < l b j j)
    (hx : ∀ (b : Fin 16) (i j : Fin 144), x0 (ix3 b i j) = ((elim 144 (l b) (w b) 0 i.val j.val : ℝ) : EReal))
    (b : Fin 16) (i j : Fin 144) :
    arg1.view.read (Elt Ideal) (arg1.view.writes (Elt Ideal) arg1.view.junk (m8 c arg0 harg0 arg1 harg1 arg2 harg2 x0)) (ix3 b i j)
      = ((elim 144 (l b) (w b) (stage 128 i.val) i.val j.val : ℝ) : EReal) := by
  have hm := m7_read c arg0 harg0 arg1 harg1 arg2 harg2 x0 l w h hpos hx
  have hL : ∀ b i a : Fin 16, arg2.view.read (Elt Ideal) (arg2.view.writes (Elt Ideal) arg2.view.junk (d7 c arg0 harg0 arg1 harg1 arg2 harg2 x0))
        (ix2 ⟨16 * b.val + i.val, by omega⟩ ⟨a.val, by omega⟩)
      = ((elim 144 (l b) (w b) 112 (112 + i.val) (112 + a.val) : ℝ) : EReal) := by
    intro b i a
    unfold d7
    rw [View.writes_append]
    refine (load_7 c arg0 harg0 arg1 harg1 arg2 harg2 _ _ _ _ _ _ _ _ b i a).trans ?_
    rw [hm, stage_ge (by show 112 ≤ 112 + i.val; omega)]
  have hX := diag_panel arg2 (d7 c arg0 harg0 arg1 harg1 arg2 harg2 x0) 112 (by norm_num) l w h hpos hL
  refine panel_step (fun b i j => arg1.view.read (Elt Ideal) (arg1.view.writes (Elt Ideal) arg1.view.junk (m8 c arg0 harg0 arg1 harg1 arg2 harg2 x0)) (ix3 b i j))
    (fun b i j => arg1.view.read (Elt Ideal) (arg1.view.writes (Elt Ideal) arg1.view.junk (m7 c arg0 harg0 arg1 harg1 arg2 harg2 x0)) (ix3 b i j)) 7 112 rfl l w ?_
    hm b i j
  intro b i j
  unfold m8
  rw [View.writes_append]
  exact update_7 c arg0 harg0 arg1 harg1 arg2 harg2 _ _ _ v6_apply v7_apply _ _ l w h hX
    (fun b i j hi => by rw [hm, stage_ge hi]) b i j

/-- The result's buffer after panel 8. -/
theorem m9_read (h : ∀ b, Inverse 144 (l b) (w b)) (hpos : ∀ b j, j < 144 → 0 < l b j j)
    (hx : ∀ (b : Fin 16) (i j : Fin 144), x0 (ix3 b i j) = ((elim 144 (l b) (w b) 0 i.val j.val : ℝ) : EReal))
    (b : Fin 16) (i j : Fin 144) :
    arg1.view.read (Elt Ideal) (arg1.view.writes (Elt Ideal) arg1.view.junk (m9 c arg0 harg0 arg1 harg1 arg2 harg2 x0)) (ix3 b i j)
      = ((elim 144 (l b) (w b) (stage 144 i.val) i.val j.val : ℝ) : EReal) := by
  have hm := m8_read c arg0 harg0 arg1 harg1 arg2 harg2 x0 l w h hpos hx
  have hL : ∀ b i a : Fin 16, arg2.view.read (Elt Ideal) (arg2.view.writes (Elt Ideal) arg2.view.junk (d8 c arg0 harg0 arg1 harg1 arg2 harg2 x0))
        (ix2 ⟨16 * b.val + i.val, by omega⟩ ⟨a.val, by omega⟩)
      = ((elim 144 (l b) (w b) 128 (128 + i.val) (128 + a.val) : ℝ) : EReal) := by
    intro b i a
    unfold d8
    rw [View.writes_append]
    refine (load_8 c arg0 harg0 arg1 harg1 arg2 harg2 _ _ _ _ _ b i a).trans ?_
    rw [hm, stage_ge (by show 128 ≤ 128 + i.val; omega)]
  have hX := diag_panel arg2 (d8 c arg0 harg0 arg1 harg1 arg2 harg2 x0) 128 (by norm_num) l w h hpos hL
  refine panel_step (fun b i j => arg1.view.read (Elt Ideal) (arg1.view.writes (Elt Ideal) arg1.view.junk (m9 c arg0 harg0 arg1 harg1 arg2 harg2 x0)) (ix3 b i j))
    (fun b i j => arg1.view.read (Elt Ideal) (arg1.view.writes (Elt Ideal) arg1.view.junk (m8 c arg0 harg0 arg1 harg1 arg2 harg2 x0)) (ix3 b i j)) 8 128 rfl l w ?_
    hm b i j
  intro b i j
  unfold m9
  rw [View.writes_append]
  exact update_8 c arg0 harg0 arg1 harg1 arg2 harg2 _ _  v6_apply v7_apply _ _ l w h hX
    (fun b i j hi => by rw [hm, stage_ge hi]) b i j

/-- The run leaves the inverse's lower triangle. -/
theorem run_read (h : ∀ b, Inverse 144 (l b) (w b)) (hpos : ∀ b j, j < 144 → 0 < l b j j)
    (hx : ∀ (b : Fin 16) (i j : Fin 144), x0 (ix3 b i j) = ((elim 144 (l b) (w b) 0 i.val j.val : ℝ) : EReal))
    (b : Fin 16) (i j : Fin 144) (hij : j ≤ i) :
    arg1.view.read (Elt Ideal) (arg1.view.writes (Elt Ideal) arg1.view.junk (kernelRun0_A c arg0 harg0 arg1 harg1 arg2 harg2 x0).1) (ix3 b i j)
      = ((w b i.val j.val : ℝ) : EReal) := by
  rw [run_eq, m9_read c arg0 harg0 arg1 harg1 arg2 harg2 x0 l w h hpos hx]
  have h1 : j.val ≤ i.val := hij
  unfold elim stage
  rw [if_pos i.isLt, if_pos (by omega), if_pos (by omega)]

end Chain

end Cert.RangeFinder.Factor

end
-- ==== Proof.FactorCond.lean ====
/- The factor call's precondition and postcondition, read: what the first says of the arguments, and what makes the second
   true. -/
module

public import proofs.«01_k».proof.Proof.Gen.Pre_factor_pre
public import proofs.«01_k».proof.Proof.Gen.Post_factor_post
public import proofs.«01_k».proof.Proof.FactorMath
public import Idealize.ShloMosaic.Lib.ReduceAll
public import Idealize.ShloMosaic.Lib.WordCmp
public import Mathlib.LinearAlgebra.Matrix.Block

@[expose] public section

set_option maxRecDepth 16384

noncomputable section

namespace Cert.RangeFinder.Factor

open Idealize.ShloMosaic Finset

/-- A lower triangular array with no zero on the diagonal has an inverse, lower triangular too. -/
theorem exists_inverse (N : ℕ) (l : ℕ → ℕ → ℝ) (lz : ∀ i j, i < j → l i j = 0) (hpos : ∀ j, j < N → 0 < l j j) :
    ∃ w, Inverse N l w := by
  let M : Matrix (Fin N) (Fin N) ℝ := Matrix.of fun i j => l i.val j.val
  have hM : M.BlockTriangular OrderDual.toDual := fun i j hij => lz _ _ hij
  have hdet : IsUnit M.det := by
    rw [Matrix.det_of_lowerTriangular M hM, isUnit_iff_ne_zero]
    exact Finset.prod_ne_zero_iff.mpr fun i _ => (hpos i.val i.isLt).ne'
  haveI : Invertible M := Matrix.invertibleOfIsUnitDet M hdet
  have hW : M⁻¹.BlockTriangular OrderDual.toDual := Matrix.blockTriangular_inv_of_blockTriangular hM
  have h1 : M * M⁻¹ = 1 := Matrix.mul_nonsing_inv M hdet
  have h2 : M⁻¹ * M = 1 := Matrix.nonsing_inv_mul M hdet
  let w : ℕ → ℕ → ℝ := fun i j => if h : i < N ∧ j < N then M⁻¹ ⟨i, h.1⟩ ⟨j, h.2⟩ else 0
  have hw : ∀ i j : Fin N, w i.val j.val = M⁻¹ i j := fun i j => dif_pos ⟨i.isLt, j.isLt⟩
  refine ⟨w, lz, ?_, ?_, ?_⟩
  · intro i j hij
    by_cases h : i < N ∧ j < N
    · rw [show w i j = _ from dif_pos h]
      exact hW (show (⟨i, h.1⟩ : Fin N) < ⟨j, h.2⟩ from hij)
    · exact dif_neg h
  · intro i j hi hj
    have := congrFun (congrFun h1 ⟨i, hi⟩) ⟨j, hj⟩
    rw [Matrix.mul_apply, Matrix.one_apply] at this
    rw [Finset.sum_range fun t => l i t * w t j]
    refine Eq.trans (Finset.sum_congr rfl fun t _ => ?_) (this.trans ?_)
    · rw [hw t ⟨j, hj⟩]; rfl
    · simp only [Fin.mk.injEq]
  · intro i j hi hj
    have := congrFun (congrFun h2 ⟨i, hi⟩) ⟨j, hj⟩
    rw [Matrix.mul_apply, Matrix.one_apply] at this
    rw [Finset.sum_range fun t => w i t * l t j]
    refine Eq.trans (Finset.sum_congr rfl fun t _ => ?_) (this.trans ?_)
    · rw [hw ⟨i, hi⟩ t]; rfl
    · simp only [Fin.mk.injEq]

/-- A finite sum of reals in the extended reals. -/
theorem coe_sum' {ι : Type} (s : Finset ι) (f : ι → ℝ) : ∑ i ∈ s, ((f i : ℝ) : EReal) = ((∑ i ∈ s, f i : ℝ) : EReal) := by
  classical
  induction s using Finset.induction_on with
  | empty => rfl
  | insert a s ha ih => rw [Finset.sum_insert ha, Finset.sum_insert ha, ih, EReal.coe_add]

/-- A truth value's word is one when it is true. -/
theorem ofBool_eq_one' {b : Bool} : BitVec.ofBool b = 1#1 ↔ b = true := by cases b <;> decide

/-- An array with no axes has one index. -/
instance : Subsingleton (Cert.Pre_factor_pre.S_).Idx := ⟨fun a b => funext fun d => d.elim0⟩

/-- What the precondition says at an index. -/
theorem pre_read (G L : FVec Ideal Cert.Pre_factor_pre.S16x144x144 .f32)
    (h : Cert.Pre_factor_pre.fn (F := Ideal) G L = fun _ => 1#1) (b : Fin 16) (i j : Fin 144) :
    max (L (ix3 b i j)) (-L (ix3 b i j)) < ⊤ ∧ (i < j → L (ix3 b i j) = 0) ∧ (i = j → 0 < L (ix3 b i j))
      ∧ ∑ t : Fin 144, L (ix3 b i t) * L (ix3 b j t) = G (ix3 b i j) := by
  have h0 := congrFun h (fun d => d.elim0)
  unfold Cert.Pre_factor_pre.fn Cert.Pre_factor_pre.fn_part1 at h0
  dsimp only at h0
  obtain ⟨h1, hg⟩ := IntOp.andi_eq_one.mp h0
  obtain ⟨h2, hp⟩ := IntOp.andi_eq_one.mp h1
  obtain ⟨hf, ht⟩ := IntOp.andi_eq_one.mp h2
  have hf := Host.reduce_andi_all _ _ _ _ _ hf (ix3 b i j)
  have ht := Host.reduce_andi_all _ _ _ _ _ ht (ix3 b i j)
  have hp := Host.reduce_andi_all _ _ _ _ _ hp (ix3 b i j)
  have hg := Host.reduce_andi_all _ _ _ _ _ hg (ix3 b i j)
  clear h h0 h1 h2
  unfold Cert.Pre_factor_pre.fn_tril at ht
  unfold Cert.Pre_factor_pre.fn_where at hp
  pointwise at hf
  pointwise at ht
  pointwise at hp
  pointwise at hg
  simp only [ofBool_eq_one', decide_eq_true_eq, IntOp.addi, BitVec.add_zero] at hf ht hp hg
  refine ⟨lt_of_lt_of_le hf le_top, fun hij => ?_, fun hij => ?_, hg⟩
  · rw [WordCmp.cmpi_sge_ofNat (by omega) (by omega), decide_eq_false (by have : i.val < j.val := hij; omega)] at ht
    exact ht.symm
  · rw [WordCmp.cmpi_eq_ofNat (by omega) (by omega), decide_eq_true (by rw [hij])] at hp
    exact hp

/-- The arguments the precondition admits, over the reals: the factor, its inverse, and the Gram matrix. -/
theorem pre_real (G L : FVec Ideal Cert.Pre_factor_pre.S16x144x144 .f32)
    (h : Cert.Pre_factor_pre.fn (F := Ideal) G L = fun _ => 1#1) :
    ∃ l w : Fin 16 → ℕ → ℕ → ℝ, (∀ b, Inverse 144 (l b) (w b)) ∧ (∀ b j, j < 144 → 0 < l b j j)
      ∧ (∀ (b : Fin 16) (i j : Fin 144), L (ix3 b i j) = ((l b i.val j.val : ℝ) : EReal))
      ∧ ∀ (b : Fin 16) (i j : Fin 144), G (ix3 b i j) = ((elim 144 (l b) (w b) 0 i.val j.val : ℝ) : EReal) := by
  let l : Fin 16 → ℕ → ℕ → ℝ := fun b i j => if h : i < 144 ∧ j < 144 then (L (ix3 b ⟨i, h.1⟩ ⟨j, h.2⟩)).toReal else 0
  have hl : ∀ (b : Fin 16) (i j : Fin 144), L (ix3 b i j) = ((l b i.val j.val : ℝ) : EReal) := by
    intro b i j
    have hf := (pre_read G L h b i j).1
    rw [show l b i.val j.val = _ from dif_pos ⟨i.isLt, j.isLt⟩]
    refine (EReal.coe_toReal ?_ ?_).symm
    · intro e
      rw [e] at hf
      exact absurd (lt_of_le_of_lt (le_max_left _ _) hf) (lt_irrefl _)
    · intro e
      rw [e] at hf
      exact absurd (lt_of_le_of_lt (le_max_right _ _) hf) (by rw [EReal.neg_bot]; exact lt_irrefl _)
  have lz : ∀ b i j, i < j → l b i j = 0 := by
    intro b i j hij
    by_cases hN : i < 144 ∧ j < 144
    · have := (pre_read G L h b ⟨i, hN.1⟩ ⟨j, hN.2⟩).2.1 hij
      rw [show l b i j = _ from dif_pos hN, this, EReal.toReal_zero]
    · exact dif_neg hN
  have hpos : ∀ b j, j < 144 → 0 < l b j j := by
    intro b j hj
    have := (pre_read G L h b ⟨j, hj⟩ ⟨j, hj⟩).2.2.1 rfl
    rw [hl] at this
    exact EReal.coe_pos.mp this
  choose w hw using fun b => exists_inverse 144 (l b) (lz b) (hpos b)
  refine ⟨l, w, hw, hpos, hl, fun b i j => ?_⟩
  rw [← (pre_read G L h b i j).2.2.2]
  unfold elim
  rw [if_neg (Nat.not_lt_zero _), if_neg (Nat.not_lt_zero _), ← Finset.range_eq_Ico,
    Finset.sum_range fun t => l b i.val t * l b j.val t, ← coe_sum']
  exact Finset.sum_congr rfl fun t _ => by rw [hl, hl, EReal.coe_mul]

/-- The postcondition holds of a result whose lower triangle is the inverse's. -/
theorem post_of (G L R : FVec Ideal Cert.Post_factor_post.S16x144x144 .f32) (l w : Fin 16 → ℕ → ℕ → ℝ)
    (hw : ∀ b, Inverse 144 (l b) (w b))
    (hl : ∀ (b : Fin 16) (i j : Fin 144), L (ix3 b i j) = ((l b i.val j.val : ℝ) : EReal))
    (hr : ∀ (b : Fin 16) (i j : Fin 144), j ≤ i → R (ix3 b i j) = ((w b i.val j.val : ℝ) : EReal)) :
    Cert.Post_factor_post.fn (F := Ideal) G L R = fun _ => 1#1 := by
  funext d
  unfold Cert.Post_factor_post.fn
  dsimp only
  refine Host.reduce_andi_one _ _ _ _ _ rfl fun i => ?_
  obtain ⟨b, i, j, rfl⟩ : ∃ (x : Fin 16) (y : Fin 144) (z : Fin 144), i = ix3 x y z :=
    ⟨i 0, i 1, i 2, funext fun d => by fin_cases d <;> rfl⟩
  unfold Cert.Post_factor_post.fn_tril
  pointwise
  rw [ofBool_eq_one', decide_eq_true_eq]
  have hx : ∀ x : Fin 144,
      Scalar.select (IntOp.cmpi CmpIPredicate.sge (IntOp.addi (BitVec.ofNat 32 i.val) 0#32) (BitVec.ofNat 32 x.val))
        (R (ix3 b i x) * L (ix3 b x j)) 0 = ((w b i.val x.val * l b x.val j.val : ℝ) : EReal) := by
    intro x
    simp only [IntOp.addi, BitVec.add_zero]
    rw [WordCmp.cmpi_sge_ofNat (by omega) (by omega)]
    by_cases hxi : x.val ≤ i.val
    · rw [decide_eq_true hxi, hr b i x hxi, hl, EReal.coe_mul]
      rfl
    · rw [decide_eq_false hxi, (hw b).wz _ _ (by omega), zero_mul, EReal.coe_zero]
      rfl
  rw [Finset.sum_congr rfl fun x _ => hx x, coe_sum', ← Finset.sum_range fun t => w b i.val t * l b t j.val,
    (hw b).wl _ _ i.isLt j.isLt]
  simp only [IntOp.addi, BitVec.add_zero]
  rw [WordCmp.cmpi_eq_ofNat (by omega) (by omega)]
  by_cases hij : i.val = j.val
  · rw [if_pos hij, decide_eq_true hij]
    show ((1 : ℝ) : EReal) = (((BitVec.ofBool true).toNat : ℝ) : EReal)
    rw [show (BitVec.ofBool true).toNat = 1 from rfl, Nat.cast_one]
  · rw [if_neg hij, decide_eq_false hij]
    show ((0 : ℝ) : EReal) = (((BitVec.ofBool false).toNat : ℝ) : EReal)
    rw [show (BitVec.ofBool false).toNat = 0 from rfl, Nat.cast_zero]

end Cert.RangeFinder.Factor

end
-- ==== Proof.FactorValue.lean ====
/- The factor call's result array, and its run. -/
module

public import proofs.«01_k».proof.Proof.Gen.FactorIdeal.Frame
public import proofs.«01_k».proof.Proof.FactorChain
public import proofs.«01_k».proof.Proof.FactorCond
public import Idealize.ShloMosaic.Lib.Pipeline.Value

@[expose] public section

noncomputable section

namespace Cert.FactorIdeal.Block

open Cert.FactorIdeal Cert.FactorIdeal.Gen Idealize.ShloMosaic Idealize.ShloMosaic.TcCoe Idealize.SL.Sem
open Cert.RangeFinder.Factor
open Idealize.ShloMosaic.Pipeline (Dat)

variable (m : (ℓ : Loc nD τ sig) → Buf (Elt Ideal) ℓ) (ρ : Dev nD → PrngReg)

/-- The grid has one point. -/
theorem only (t : Fin cfg0.N) : t = t0_0 := by
  have h : cfg0.N = 1 := N_0
  exact Fin.ext (by have := t.isLt; show t.val = 0; omega)

/-- What the one point leaves in the result's buffer, as the result array. -/
def result (c : Dev nD) : Buf (Elt Ideal) ((c : Thread nD τ).loc main_v0) := outsAt0 m c t0_0

/-- Which block of its array window 0 is at, at a grid point. -/
theorem index0 : win0_0.index t0_0 0 = 0 ∧ win0_0.index t0_0 1 = 0 ∧ win0_0.index t0_0 2 = 0 := by decide +kernel

/-- The block the one point reads is the Gram matrix. -/
theorem iblk0 (c : Dev nD) (b : Fin 16) (i j : Fin 144) :
    iblk m c 0 t0_0 (ix3 b i j) = m ((c : Thread nD τ).loc main_arg0) (ix3 b i j) := by
  show V m c main_arg0 _ = _
  rw [V_main_arg0]
  refine congrArg _ (funext fun a => Fin.ext ?_)
  have h := index0
  match a with
  | ⟨0, _⟩ => show win0_0.index t0_0 0 * 16 + 1 * b.val = b.val; omega
  | ⟨1, _⟩ => show win0_0.index t0_0 1 * 144 + 1 * i.val = i.val; omega
  | ⟨2, _⟩ => show win0_0.index t0_0 2 * 144 + 1 * j.val = j.val; omega

/-- What the write-back sends is the result's block. -/
theorem flushed_eq (c : Dev nD) (t : Fin cfg0.N) (hf : (cfg0.win 1).flush t = true) :
    (dats m 0 c).flushed 1 t = ((cfg0.win 1).blk t).view.read (Elt Ideal) (result m c) := by
  obtain rfl := only t
  show (cfg0.win 1).cut (grid0.coords t0_0) ((dats m 0 c).after 1 t0_0) = _
  rw [after0_1]
  have hz' : (fun a => win0_1.index t0_0 a * main_v0.ty.shape.size a) = fun _ => 0 :=
    funext fun a => by fin_cases a <;> decide +kernel
  exact (Memref.read_access_unit_zero (Elt Ideal) main_v0 hz' (fun a => by rw [congrFun hz' a]; simp) (result m c)).symm

/-- Which block of its array window 1 is at, at a grid point. -/
theorem index1 : win0_1.index t0_0 0 = 0 ∧ win0_1.index t0_0 1 = 0 ∧ win0_1.index t0_0 2 = 0 := by decide +kernel

/-- The result array when the pipeline has ended. -/
theorem final_o (c : Dev nD) : (dats m 0 c).arrAt 1 cfg0.N = result m c :=
  (dats m 0 c).arrAt_eq_of_cover 1 (result m c) (flushed_eq m c) fun i =>
    ⟨t0_0, flush0_1 t0_0, by
      show i ∈ ((View.whole main_v0).slice (win0_1.rect t0_0)).set
      rw [View.set_slice_whole, Rect.mem_set_unit]
      intro a
      have h := index1
      have h0 : (i 0 : Nat) < 16 := (i 0).isLt
      have h1 : (i 1 : Nat) < 144 := (i 1).isLt
      have h2 : (i 2 : Nat) < 144 := (i 2).isLt
      match a with
      | ⟨0, _⟩ =>
        show win0_1.index t0_0 0 * 16 ≤ (i 0 : Nat) ∧ (i 0 : Nat) < win0_1.index t0_0 0 * 16 + 16
        omega
      | ⟨1, _⟩ =>
        show win0_1.index t0_0 1 * 144 ≤ (i 1 : Nat) ∧ (i 1 : Nat) < win0_1.index t0_0 1 * 144 + 144
        omega
      | ⟨2, _⟩ =>
        show win0_1.index t0_0 2 * 144 ≤ (i 2 : Nat) ∧ (i 2 : Nat) < win0_1.index t0_0 2 * 144 + 144
        omega⟩

/-- The result array's lower triangle is the inverse of the Gram matrix's factor. -/
theorem result_read (c : Dev nD) (l w : Fin 16 → ℕ → ℕ → ℝ) (h : ∀ b, Inverse 144 (l b) (w b)) (hpos : ∀ b j, j < 144 → 0 < l b j j)
    (hx : ∀ (b : Fin 16) (i j : Fin 144), m ((c : Thread nD τ).loc main_arg0) (ix3 b i j) = ((elim 144 (l b) (w b) 0 i.val j.val : ℝ) : EReal))
    (b : Fin 16) (i j : Fin 144) (hij : j ≤ i) : result m c (ix3 b i j) = ((w b i.val j.val : ℝ) : EReal) := by
  unfold result outsAt0 out0_A_1
  rw [View.read_writes_eq_canon _ _ _ (cover0_A_1 c _ _ _ _ _ _ _),
    ← View.read_writes_eq_canon (ms0_1 t0_0).view (ms0_1 t0_0).view.junk _ (cover0_A_1 c _ _ _ _ _ _ _)]
  exact run_read c _ _ _ _ _ _ _ l w h hpos (fun b i j => (iblk0 m c b i j).trans (hx b i j)) b i j hij

/-- Every run ends with the result array at what the one point leaves, and the arguments unchanged. -/
theorem run : θ_run defs (onTc (τ := τ) (main (F := Ideal))) ⟨m, fun _ => 0, ρ⟩ fun r => ∀ c : Dev nD,
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_v0) = result m c :=
  (θ_run defs _ _).mono (fun _ h c => ⟨(h.1 c).1, (h.1 c).2, ((h.2 c).1 1).trans (final_o m c)⟩)
    (θ_run_and (unchanged m ρ) (run_main m ρ))

end Cert.FactorIdeal.Block

end
-- ==== Proof.FactorClaims.lean ====
/- The claims about the factor call. -/
module

public import proofs.«01_k».proof.Defs
public import proofs.«01_k».proof.Proof.Gen.Factor.Frame
public import proofs.«01_k».proof.Proof.FactorValue

@[expose] public section

noncomputable section

namespace Cert.Proof.Calls

open Idealize.ShloMosaic Idealize.ShloMosaic.TcCoe Idealize.SL.Sem Cert.RangeFinder

/-- The factor call at the machine's words runs and leaves its arguments unchanged. -/
theorem frame_Factor : Cert.quiescent_Factor := fun m ρ _ => Cert.Factor.Gen.frame m ρ

/-- The factor call over the extended reals runs and leaves its arguments unchanged. -/
theorem frame_FactorIdeal : Cert.quiescent_FactorIdeal := fun m ρ _ => Cert.FactorIdeal.Gen.frame m ρ

/-- The same from arguments that meet the precondition. -/
theorem frame_FactorIdeal_pre : Cert.quiescent_FactorIdeal_pre_factor_pre := fun m ρ _ => Cert.FactorIdeal.Gen.frame m ρ

/-- Over the extended reals, when the second argument is the Cholesky factor of the first, the lower triangle of the factor
    call's result multiplied by that factor is the identity: the result is the inverse of the Cholesky factor. -/
theorem holds_Factor : Cert.holds_FactorIdeal_factor_post_pre_factor_pre := fun m ρ hpre =>
  (θ_run Cert.FactorIdeal.defs _ _).mono (fun r h c => ⟨(h c).1, (h c).2.1, by
      obtain ⟨l, w, hw, hpos, hl, hg⟩ := Factor.pre_real _ _ (hpre c)
      refine Factor.post_of _ _ _ l w hw hl fun b i j hij => ?_
      rw [(h c).2.2]
      exact Cert.FactorIdeal.Block.result_read m c l w hw hpos hg b i j hij⟩)
    (Cert.FactorIdeal.Block.run m ρ)

end Cert.Proof.Calls

end
-- ==== Proof.lean ====
module

public import proofs.«01_k».proof.Defs
public import proofs.«01_k».proof.Proof.Gen.Sketch
public import proofs.«01_k».proof.Proof.Gen.Sketch.Skeleton
public import proofs.«01_k».proof.Proof.Gen.Sketch.Launch
public import proofs.«01_k».proof.Proof.Gen.Sketch.Points
public import proofs.«01_k».proof.Proof.Gen.Sketch.Frame
public import proofs.«01_k».proof.Proof.Gen.SketchIdeal
public import proofs.«01_k».proof.Proof.Gen.SketchIdeal.Skeleton
public import proofs.«01_k».proof.Proof.Gen.SketchIdeal.Launch
public import proofs.«01_k».proof.Proof.Gen.SketchIdeal.Points
public import proofs.«01_k».proof.Proof.Gen.SketchIdeal.Frame
public import proofs.«01_k».proof.Proof.Gen.SketchRefIdeal
public import proofs.«01_k».proof.Proof.Gen.Power
public import proofs.«01_k».proof.Proof.Gen.Power.Skeleton
public import proofs.«01_k».proof.Proof.Gen.Power.Launch
public import proofs.«01_k».proof.Proof.Gen.Power.Points
public import proofs.«01_k».proof.Proof.Gen.Power.Frame
public import proofs.«01_k».proof.Proof.Gen.PowerIdeal
public import proofs.«01_k».proof.Proof.Gen.PowerIdeal.Skeleton
public import proofs.«01_k».proof.Proof.Gen.PowerIdeal.Launch
public import proofs.«01_k».proof.Proof.Gen.PowerIdeal.Points
public import proofs.«01_k».proof.Proof.Gen.PowerIdeal.Frame
public import proofs.«01_k».proof.Proof.Gen.PowerRefIdeal
public import proofs.«01_k».proof.Proof.Gen.Project
public import proofs.«01_k».proof.Proof.Gen.Project.Skeleton
public import proofs.«01_k».proof.Proof.Gen.Project.Launch
public import proofs.«01_k».proof.Proof.Gen.Project.Points
public import proofs.«01_k».proof.Proof.Gen.Project.Frame
public import proofs.«01_k».proof.Proof.Gen.ProjectIdeal
public import proofs.«01_k».proof.Proof.Gen.ProjectIdeal.Skeleton
public import proofs.«01_k».proof.Proof.Gen.ProjectIdeal.Launch
public import proofs.«01_k».proof.Proof.Gen.ProjectIdeal.Points
public import proofs.«01_k».proof.Proof.Gen.ProjectIdeal.Frame
public import proofs.«01_k».proof.Proof.Gen.ProjectRefIdeal
public import proofs.«01_k».proof.Proof.Gen.Factor
public import proofs.«01_k».proof.Proof.Gen.Factor.Skeleton
public import proofs.«01_k».proof.Proof.Gen.Factor.Launch
public import proofs.«01_k».proof.Proof.Gen.Factor.Points
public import proofs.«01_k».proof.Proof.Gen.Factor.Frame
public import proofs.«01_k».proof.Proof.Gen.FactorIdeal
public import proofs.«01_k».proof.Proof.Gen.FactorIdeal.Skeleton
public import proofs.«01_k».proof.Proof.Gen.FactorIdeal.Launch
public import proofs.«01_k».proof.Proof.Gen.FactorIdeal.Points
public import proofs.«01_k».proof.Proof.Gen.FactorIdeal.Frame
public import proofs.«01_k».proof.Proof.Gen.Pre_factor_pre
public import proofs.«01_k».proof.Proof.Gen.Post_factor_post
public import proofs.«01_k».proof.Proof.Gen.SketchIdeal.Value
public import proofs.«01_k».proof.Proof.Gen.PowerIdeal.Value
public import proofs.«01_k».proof.Proof.Gen.ProjectIdeal.Value
public import proofs.«01_k».proof.Proof.Gen.SketchRefIdeal.Run
public import proofs.«01_k».proof.Proof.Gen.PowerRefIdeal.Run
public import proofs.«01_k».proof.Proof.Gen.ProjectRefIdeal.Run
public import proofs.«01_k».proof.Proof.Claims
public import proofs.«01_k».proof.Proof.FactorClaims
public import Idealize.ShloMosaic.Adequacy
public import Idealize.ShloMosaic.Init

@[expose] public section

noncomputable section

namespace Cert.Proof

open Idealize.ShloMosaic Idealize.SL.Sem Cert.Sketch

theorem claim : Cert.Claim := ⟨Cert.Sketch.Gen.facts, Cert.SketchIdeal.Gen.facts, Cert.SketchRefIdeal.Gen.facts,
  Cert.Power.Gen.facts, Cert.PowerIdeal.Gen.facts, Cert.PowerRefIdeal.Gen.facts,
  Cert.Project.Gen.facts, Cert.ProjectIdeal.Gen.facts, Cert.ProjectRefIdeal.Gen.facts,
  Cert.Factor.Gen.facts, Cert.FactorIdeal.Gen.facts, Cert.Pre_factor_pre.Gen.facts, Cert.Post_factor_post.Gen.facts,
  Calls.frame_Sketch, Calls.frame_SketchIdeal, Calls.frame_SketchRefIdeal, Calls.frame_Power, Calls.frame_PowerIdeal,
  Calls.frame_PowerRefIdeal, Calls.frame_Project, Calls.frame_ProjectIdeal, Calls.frame_ProjectRefIdeal,
  Calls.frame_Factor, Calls.frame_FactorIdeal, Calls.frame_FactorIdeal_pre,
  trivial, Calls.algebraic_Sketch, trivial, Calls.algebraic_Power, trivial, Calls.algebraic_Project,
  trivial, Calls.holds_Factor⟩

end Cert.Proof

end
